-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_reals [hPre_reals : Cert.Pre_reals.Facts] (m : (ℓ : Loc Cert.MixerIdeal.nD Cert.MixerIdeal.τ Cert.MixerIdeal.sig) → Buf (Elt Ideal) ℓ) : Prop :=
  ∀ c : Dev Cert.MixerIdeal.nD,
    (Cert.Pre_reals.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5))) = (fun _ => 1#1)

def Pre_MixerReferenceIdeal (m : (ℓ : Loc Cert.MixerReferenceIdeal.nD Cert.MixerReferenceIdeal.τ Cert.MixerReferenceIdeal.sig) → Buf (Elt Ideal) ℓ) : Prop :=
  True

def Pre_MixerReferenceIdeal_reals [hPre_reals : Cert.Pre_reals.Facts] (m : (ℓ : Loc Cert.MixerReferenceIdeal.nD Cert.MixerReferenceIdeal.τ Cert.MixerReferenceIdeal.sig) → Buf (Elt Ideal) ℓ) : Prop :=
  ∀ c : Dev Cert.MixerReferenceIdeal.nD,
    (Cert.Pre_reals.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ r.2.sem = fun _ => 0)

def quiescent_MixerIdeal_pre_reals [hMixerIdeal : Cert.MixerIdeal.Facts] [hPre_reals : Cert.Pre_reals.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_reals m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5))
      ∧ r.2.sem = fun _ => 0)

def quiescent_MixerReferenceIdeal_pre_reals [hMixerReferenceIdeal : Cert.MixerReferenceIdeal.Facts] [hPre_reals : Cert.Pre_reals.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal_reals m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Mixer_MixerIdeal : Prop :=
  True

def algebraic_MixerIdeal_MixerReferenceIdeal_pre_reals [hMixerIdeal : Cert.MixerIdeal.Facts] [hMixerReferenceIdeal : Cert.MixerReferenceIdeal.Facts] [hPre_reals : Cert.Pre_reals.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal_reals m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)) →
    ∃ (v0 : (c : Dev Cert.MixerIdeal.nD) → Buf (Elt Ideal) ((c.tc : Thread Cert.MixerIdeal.nD Cert.MixerIdeal.τ).loc Cert.MixerIdeal.main_v20_0)) (v1 : (c : Dev Cert.MixerIdeal.nD) → Buf (Elt Ideal) ((c.tc : Thread Cert.MixerIdeal.nD Cert.MixerIdeal.τ).loc Cert.MixerIdeal.main_v20_1)) (v2 : (c : Dev Cert.MixerIdeal.nD) → Buf (Elt Ideal) ((c.tc : Thread Cert.MixerIdeal.nD Cert.MixerIdeal.τ).loc Cert.MixerIdeal.main_v20_2)) (v3 : (c : Dev Cert.MixerIdeal.nD) → Buf (Elt Ideal) ((c.tc : Thread Cert.MixerIdeal.nD Cert.MixerIdeal.τ).loc Cert.MixerIdeal.main_v20_3)) (v4 : (c : Dev Cert.MixerIdeal.nD) → Buf (Elt Ideal) ((c.tc : Thread Cert.MixerIdeal.nD Cert.MixerIdeal.τ).loc Cert.MixerIdeal.main_v20_4)) (v5 : (c : Dev Cert.MixerIdeal.nD) → Buf (Elt Ideal) ((c.tc : Thread Cert.MixerIdeal.nD Cert.MixerIdeal.τ).loc Cert.MixerIdeal.main_v20_5)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v20_0) = v0 c
          ∧ r.2.mem ((c.tc : Thread Cert.MixerIdeal.nD Cert.MixerIdeal.τ).loc Cert.MixerIdeal.main_v20_1) = v1 c
          ∧ r.2.mem ((c.tc : Thread Cert.MixerIdeal.nD Cert.MixerIdeal.τ).loc Cert.MixerIdeal.main_v20_2) = v2 c
          ∧ r.2.mem ((c.tc : Thread Cert.MixerIdeal.nD Cert.MixerIdeal.τ).loc Cert.MixerIdeal.main_v20_3) = v3 c
          ∧ r.2.mem ((c.tc : Thread Cert.MixerIdeal.nD Cert.MixerIdeal.τ).loc Cert.MixerIdeal.main_v20_4) = v4 c
          ∧ r.2.mem ((c.tc : Thread Cert.MixerIdeal.nD Cert.MixerIdeal.τ).loc Cert.MixerIdeal.main_v20_5) = v5 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v56) = v0 c
          ∧ r.2.mem ((c.tc : Thread Cert.MixerReferenceIdeal.nD Cert.MixerReferenceIdeal.τ).loc Cert.MixerReferenceIdeal.main_v39) = v1 c
          ∧ r.2.mem ((c.tc : Thread Cert.MixerReferenceIdeal.nD Cert.MixerReferenceIdeal.τ).loc Cert.MixerReferenceIdeal.main_v57) = v2 c
          ∧ r.2.mem ((c.tc : Thread Cert.MixerReferenceIdeal.nD Cert.MixerReferenceIdeal.τ).loc Cert.MixerReferenceIdeal.main_v58) = v3 c
          ∧ r.2.mem ((c.tc : Thread Cert.MixerReferenceIdeal.nD Cert.MixerReferenceIdeal.τ).loc Cert.MixerReferenceIdeal.main_v59) = v4 c
          ∧ r.2.mem ((c.tc : Thread Cert.MixerReferenceIdeal.nD Cert.MixerReferenceIdeal.τ).loc Cert.MixerReferenceIdeal.main_v60) = v5 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v0_0)) (v1 : (c : Dev Cert.GatesIdeal.nD) → Buf (Elt Ideal) ((c.tc : Thread Cert.GatesIdeal.nD Cert.GatesIdeal.τ).loc Cert.GatesIdeal.main_v0_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_0) = v0 c
          ∧ r.2.mem ((c.tc : Thread Cert.GatesIdeal.nD Cert.GatesIdeal.τ).loc Cert.GatesIdeal.main_v0_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v17) = v0 c
          ∧ r.2.mem ((c.tc : Thread Cert.GatesReferenceIdeal.nD Cert.GatesReferenceIdeal.τ).loc Cert.GatesReferenceIdeal.main_v13) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Forward_ForwardIdeal : Prop :=
  True

def algebraic_ForwardIdeal_ForwardReferenceIdeal [hForwardIdeal : Cert.ForwardIdeal.Facts] [hForwardReferenceIdeal : Cert.ForwardReferenceIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)
      ∧ m' ((c.tc : Thread Cert.ForwardReferenceIdeal.nD Cert.ForwardReferenceIdeal.τ).loc Cert.ForwardReferenceIdeal.main_arg4) = m ((c.tc : Thread Cert.ForwardIdeal.nD Cert.ForwardIdeal.τ).loc Cert.ForwardIdeal.main_arg4)) →
    ∃ (v0 : (c : Dev Cert.ForwardIdeal.nD) → Buf (Elt Ideal) ((c.tc : Thread Cert.ForwardIdeal.nD Cert.ForwardIdeal.τ).loc Cert.ForwardIdeal.main_v0_0)) (v1 : (c : Dev Cert.ForwardIdeal.nD) → Buf (Elt Ideal) ((c.tc : Thread Cert.ForwardIdeal.nD Cert.ForwardIdeal.τ).loc Cert.ForwardIdeal.main_v0_1)) (v2 : (c : Dev Cert.ForwardIdeal.nD) → Buf (Elt Ideal) ((c.tc : Thread Cert.ForwardIdeal.nD Cert.ForwardIdeal.τ).loc Cert.ForwardIdeal.main_v0_2)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v0_0) = v0 c
          ∧ r.2.mem ((c.tc : Thread Cert.ForwardIdeal.nD Cert.ForwardIdeal.τ).loc Cert.ForwardIdeal.main_v0_1) = v1 c
          ∧ r.2.mem ((c.tc : Thread Cert.ForwardIdeal.nD Cert.ForwardIdeal.τ).loc Cert.ForwardIdeal.main_v0_2) = v2 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v22) = v0 c
          ∧ r.2.mem ((c.tc : Thread Cert.ForwardReferenceIdeal.nD Cert.ForwardReferenceIdeal.τ).loc Cert.ForwardReferenceIdeal.main_v23) = v1 c
          ∧ r.2.mem ((c.tc : Thread Cert.ForwardReferenceIdeal.nD Cert.ForwardReferenceIdeal.τ).loc Cert.ForwardReferenceIdeal.main_v24) = v2 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3)
          ∧ r.2.mem ((c.tc : Thread Cert.ForwardReferenceIdeal.nD Cert.ForwardReferenceIdeal.τ).loc Cert.ForwardReferenceIdeal.main_arg4) = m' ((c.tc : Thread Cert.ForwardReferenceIdeal.nD Cert.ForwardReferenceIdeal.τ).loc Cert.ForwardReferenceIdeal.main_arg4))

def Claim : Prop :=
  ∃ (hKernel : Cert.Kernel.Facts) (hKernelIdeal : Cert.KernelIdeal.Facts) (hReferenceIdeal : Cert.ReferenceIdeal.Facts) (hMixer : Cert.Mixer.Facts) (hMixerIdeal : Cert.MixerIdeal.Facts) (hMixerReferenceIdeal : Cert.MixerReferenceIdeal.Facts) (hGates : Cert.Gates.Facts) (hGatesIdeal : Cert.GatesIdeal.Facts) (hGatesReferenceIdeal : Cert.GatesReferenceIdeal.Facts) (hDown : Cert.Down.Facts) (hDownIdeal : Cert.DownIdeal.Facts) (hDownReferenceIdeal : Cert.DownReferenceIdeal.Facts) (hForward : Cert.Forward.Facts) (hForwardIdeal : Cert.ForwardIdeal.Facts) (hForwardReferenceIdeal : Cert.ForwardReferenceIdeal.Facts) (hPre_finite : Cert.Pre_finite.Facts) (hPre_reals : Cert.Pre_reals.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mixer (hMixer := hMixer)
    ∧ quiescent_MixerIdeal (hMixerIdeal := hMixerIdeal)
    ∧ quiescent_MixerIdeal_pre_reals (hMixerIdeal := hMixerIdeal) (hPre_reals := hPre_reals)
    ∧ quiescent_MixerReferenceIdeal (hMixerReferenceIdeal := hMixerReferenceIdeal)
    ∧ quiescent_MixerReferenceIdeal_pre_reals (hMixerReferenceIdeal := hMixerReferenceIdeal) (hPre_reals := hPre_reals)
    ∧ quiescent_Gates (hGates := hGates)
    ∧ quiescent_GatesIdeal (hGatesIdeal := hGatesIdeal)
    ∧ quiescent_GatesReferenceIdeal (hGatesReferenceIdeal := hGatesReferenceIdeal)
    ∧ quiescent_Down (hDown := hDown)
    ∧ quiescent_DownIdeal (hDownIdeal := hDownIdeal)
    ∧ quiescent_DownReferenceIdeal (hDownReferenceIdeal := hDownReferenceIdeal)
    ∧ quiescent_Forward (hForward := hForward)
    ∧ quiescent_ForwardIdeal (hForwardIdeal := hForwardIdeal)
    ∧ quiescent_ForwardReferenceIdeal (hForwardReferenceIdeal := hForwardReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mixer_MixerIdeal
    ∧ algebraic_MixerIdeal_MixerReferenceIdeal_pre_reals (hMixerIdeal := hMixerIdeal) (hMixerReferenceIdeal := hMixerReferenceIdeal) (hPre_reals := hPre_reals)
    ∧ preserves_Gates_GatesIdeal
    ∧ algebraic_GatesIdeal_GatesReferenceIdeal (hGatesIdeal := hGatesIdeal) (hGatesReferenceIdeal := hGatesReferenceIdeal)
    ∧ preserves_Down_DownIdeal
    ∧ algebraic_DownIdeal_DownReferenceIdeal (hDownIdeal := hDownIdeal) (hDownReferenceIdeal := hDownReferenceIdeal)
    ∧ preserves_Forward_ForwardIdeal
    ∧ algebraic_ForwardIdeal_ForwardReferenceIdeal (hForwardIdeal := hForwardIdeal) (hForwardReferenceIdeal := hForwardReferenceIdeal)
-- ==== Pre_finite.lean ====
abbrev S2048x768 : Shape := ⟨2, ![2048, 768]⟩
abbrev S2048x256 : Shape := ⟨2, ![2048, 256]⟩
abbrev S_ : Shape := ⟨0, ![]⟩

class Facts : Prop where
  bitsLt_bf16_f32 : FTy.bits .bf16 < FTy.bits .f32
  bcast_S_S2048x768 : S_.BroadcastsInDim S2048x768 (![] : Fin 0 → Fin S2048x768.rank)
  reducesTo_S2048x768_S_d0_1 : S2048x768.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S2048x768 .bf16) (main_arg1 : FVec F S2048x256 .f32) : IVec S_ 1 :=
  let main_v0 : FVec F S2048x768 .f32 := (extf .f32 · bitsLt_bf16_f32) main_arg0
  let main_v1 : FVec F S2048x768 .f32 := Host.absf main_v0
  let main_cst : FVec F S_ .f32 := constant S_ .f32 0x7F800000#32
  let main_v2 : FVec F S2048x768 .f32 := broadcastInDim S2048x768 ![] bcast_S_S2048x768 main_cst
  let main_v3 : IVec S2048x768 1 := cmpf .olt main_v1 main_v2
  let main_c : IVec S_ 1 := constantI S_ 1 1#1
  let main_v4 : IVec S_ 1 := (fun x v => Host.reduce IntOp.andi x v reducesTo_S2048x768_S_d0_1 h_S_) main_v3 main_c
  let main_v5 : FVec F S2048x256 .f32 := Host.absf main_arg1
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  let main_c_1 : IVec S_ 1 := constantI S_ 1 1#1
  let main_v8 : IVec S_ 1 := (fun x v => Host.reduce IntOp.andi x v reducesTo_S2048x256_S_d0_1 h_S_) main_v7 main_c_1
  let main_v9 : IVec S_ 1 := andi main_v4 main_v8
  main_v9
-- ==== Pre_reals.lean ====
abbrev S2048x1024 : Shape := ⟨2, ![2048, 1024]⟩
abbrev S1x1024 : Shape := ⟨2, ![1, 1024]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg3 : FVec F S2816x1024 .bf16) (main_arg4 : FVec F S2816x1024 .bf16) (main_v13 : IVec S_ 1) (main_v15 : FVec F S2816x1024 .f32) (main_v16 : FVec F S2816x1024 .f32) : IVec S_ 1 :=
  let main_v17 : IVec S2816x1024 1 := cmpf .olt main_v15 main_v16
  let main_c_5 : IVec S_ 1 := constantI S_ 1 1#1
  let main_v18 : IVec S_ 1 := (fun x v => Host.reduce IntOp.andi x v reducesTo_S2816x1024_S_d0_1 h_S_) main_v17 main_c_5
  let main_v19 : IVec S_ 1 := andi main_v13 main_v18
  let main_v20 : FVec F S2816x1024 .f32 := (extf .f32 · bitsLt_bf16_f32) main_arg3
  let main_v21 : FVec F S2816x1024 .f32 := Host.absf main_v20
  let main_cst_6 : FVec F S_ .f32 := constant S_ .f32 0x7F800000#32
  let main_v22 : FVec F S2816x1024 .f32 := broadcastInDim S2816x1024 ![] bcast_S_S2816x1024 main_cst_6
  let main_v23 : IVec S2816x1024 1 := cmpf .olt main_v21 main_v22
  let main_c_7 : IVec S_ 1 := constantI S_ 1 1#1
  let main_v24 : IVec S_ 1 := (fun x v => Host.reduce IntOp.andi x v reducesTo_S2816x1024_S_d0_1 h_S_) main_v23 main_c_7
  let main_v25 : IVec S_ 1 := andi main_v19 main_v24
  let main_v26 : FVec F S2816x1024 .f32 := (extf .f32 · bitsLt_bf16_f32) main_arg4
  let main_v27 : FVec F S2816x1024 .f32 := Host.absf main_v26
  let main_cst_8 : FVec F S_ .f32 := constant S_ .f32 0x7F800000#32
  let main_v28 : FVec F S2816x1024 .f32 := broadcastInDim S2816x1024 ![] bcast_S_S2816x1024 main_cst_8
  let main_v29 : IVec S2816x1024 1 := cmpf .olt main_v27 main_v28
  let main_c_9 : IVec S_ 1 := constantI S_ 1 1#1
  let main_v30 : IVec S_ 1 := (fun x v => Host.reduce IntOp.andi x v reducesTo_S2816x1024_S_d0_1 h_S_) main_v29 main_c_9
  let main_v31 : IVec S_ 1 := andi main_v25 main_v30
  main_v31

def fn {F : FTy → Type} [FloatOps F] (main_arg0 : FVec F S2048x1024 .f32) (main_arg1 : FVec F S1x1024 .f32) (main_arg2 : FVec F S2816x1024 .bf16) (main_arg3 : FVec F S2816x1024 .bf16) (main_arg4 : FVec F S2816x1024 .bf16) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2048x1024 .f32 := Host.absf main_arg5
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2816x1024 .f32 := (extf .f32 · bitsLt_bf16_f32) main_arg2
  let main_v15 : FVec F S2816x1024 .f32 := Host.absf main_v14
  let main_cst_4 : FVec F S_ .f32 := constant S_ .f32 0x7F800000#32
  let main_v16 : FVec F S2816x1024 .f32 := broadcastInDim S2816x1024 ![] bcast_S_S2816x1024 main_cst_4
  fn_part1 (F := F) main_arg3 main_arg4 main_v13 main_v15 main_v16
-- ==== Kernel.lean ====
abbrev S2048x768 : Shape := ⟨2, ![2048, 768]⟩
abbrev S2048x256 : Shape := ⟨2, ![2048, 256]⟩
abbrev S2048x4x64 : Shape := ⟨3, ![2048, 4, 64]⟩
abbrev S_ : Shape := ⟨0, ![]⟩
abbrev S4x2048x2048 : Shape := ⟨3, ![4, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x2048 : Shape := ⟨2, ![4, 2048]⟩
abbrev S2048x4 : Shape := ⟨2, ![2048, 4]⟩
abbrev S2048x4x1 : Shape := ⟨3, ![2048, 4, 1]⟩
abbrev S2048x4x128 : Shape := ⟨3, ![2048, 4, 128]⟩
abbrev S2048x512 : Shape := ⟨2, ![2048, 512]⟩
abbrev S2x8x8x128 : Shape := ⟨4, ![2, 8, 8, 128]⟩
abbrev S256x128 : Shape := ⟨2, ![256, 128]⟩
abbrev S2048x128 : Shape := ⟨2, ![2048, 128]⟩
abbrev S256x256 : Shape := ⟨2, ![256, 256]⟩
abbrev S1x1x8x128 : Shape := ⟨4, ![1, 1, 8, 128]⟩
abbrev S512x128 : Shape := ⟨2, ![512, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S128x128 : Shape := ⟨2, ![128, 128]⟩
abbrev S128x256 : Shape := ⟨2, ![128, 256]⟩
abbrev S512x256 : Shape := ⟨2, ![512, 256]⟩

abbrev nBuf : Space → Nat
  | .hbm => 53
  | .vmem => 19
  | .smem => 0
  | _ => 0

abbrev bufTy : (tb : Table) → Fin (tcTables nBuf tb) → BufTy
  | .hbm, ⟨0, _⟩ => ⟨S2048x768, .bf16⟩
  | .hbm, ⟨1, _⟩ => ⟨S2048x256, .f32⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S2048x256, .f32⟩
  | .hbm, ⟨6, _⟩ => ⟨S2048x4x64, .f32⟩
  | .hbm, ⟨7, _⟩ => ⟨S_, .f32⟩
  | .hbm, ⟨8, _⟩ => ⟨S2048x4x64, .f32⟩
  | .hbm, ⟨9, _⟩ => ⟨S2048x4x64, .f32⟩
  | .hbm, ⟨10, _⟩ => ⟨S2048x256, .f32⟩
  | .hbm, ⟨11, _⟩ => ⟨S2048x4x64, .f32⟩
  | .hbm, ⟨12, _⟩ => ⟨S4x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .i1⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S_, .f32⟩
  | .hbm, ⟨39, _⟩ => ⟨S4x2048x2048, .i1⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S4x2048, .f32⟩
  | .hbm, ⟨44, _⟩ => ⟨S2048x4, .f32⟩
  | .hbm, ⟨45, _⟩ => ⟨S2048x4x1, .f32⟩
  | .hbm, ⟨46, _⟩ => ⟨S2048x4x128, .f32⟩
  | .hbm, ⟨47, _⟩ => ⟨S2048x512, .f32⟩
  | .hbm, ⟨48, _⟩ => ⟨S2x8x8x128, .i32⟩
  | .hbm, ⟨49, _⟩ => ⟨S2x8x8x128, .f32⟩
  | .hbm, ⟨50, _⟩ => ⟨S2048x256, .bf16⟩
  | .hbm, ⟨51, _⟩ => ⟨S2048x256, .f32⟩
  | .hbm, ⟨52, _⟩ => ⟨S2048x256, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x256, .f32⟩
  | .local _ .vmem, ⟨7, _⟩ => ⟨S256x256, .f32⟩
  | .local _ .vmem, ⟨8, _⟩ => ⟨S1x1x8x128, .f32⟩
  | .local _ .vmem, ⟨9, _⟩ => ⟨S1x1x8x128, .f32⟩
  | .local _ .vmem, ⟨10, _⟩ => ⟨S256x128, .f32⟩
  | .local _ .vmem, ⟨11, _⟩ => ⟨S256x128, .f32⟩
  | .local _ .vmem, ⟨12, _⟩ => ⟨S256x128, .bf16⟩
  | .local _ .vmem, ⟨13, _⟩ => ⟨S256x128, .bf16⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S512x128, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v27_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

@[reducible] def k0_t1_loop (i : grid0.Coords) (v6 : BitVec 32) : Scf.Loop 32 :=
  let arg1 : BitVec 32 := BitVec.ofNat 32 (i 1).val
  let c0_i32 : BitVec 32 := 0#32
  let v7 : BitVec 32 := Scalar.maxsi c0_i32 v6
  let v8 : BitVec 32 := Scalar.minsi arg1 v7
  let v60 : BitVec 32 := Scalar.subi arg1 v8
  let v62 : BitVec 32 := Scalar.subi arg1 v60
  let c1_i32 : BitVec 32 := 1#32
  let v64 : BitVec 32 := Scalar.divsi v62 c1_i32
  let v65 : BitVec 32 := Scalar.muli v64 c1_i32
  let v66 : BitVec 32 := Scalar.addi v60 v65
  let c1_i32_24 : BitVec 32 := 1#32
  ⟨v60, v66, c1_i32_24⟩

def k0_mult1 (i : grid0.Coords) (v6 : BitVec 32) (k0_t1 : Fin (k0_t1_loop i v6).trips) : BitVec 32 :=
  let c2_i32_104 : BitVec 32 := 2#32
  let arg1 : BitVec 32 := BitVec.ofNat 32 (i 1).val
  let c0_i32 : BitVec 32 := 0#32
  let v7 : BitVec 32 := Scalar.maxsi c0_i32 v6
  let v8 : BitVec 32 := Scalar.minsi arg1 v7
  let v60 : BitVec 32 := Scalar.subi arg1 v8
  let c1_i32_24 : BitVec 32 := 1#32
  let arg12 : BitVec 32 := Scf.iv v60 c1_i32_24 k0_t1
  let v297 : BitVec 32 := Scalar.muli c2_i32_104 arg12
  let c0_i32_105 : BitVec 32 := 0#32
  let v298 : BitVec 32 := Scalar.addi v297 c0_i32_105
  let c128_i32_106 : BitVec 32 := 128#32
  let v299 : BitVec 32 := Scalar.muli v298 c128_i32_106
  v299
def k0_off1 (i : grid0.Coords) (v6 : BitVec 32) (k0_t1 : Fin (k0_t1_loop i v6).trips) (c0_i32_105 : BitVec 32) : Fin 2 → Nat :=
  let c2_i32_104 : BitVec 32 := 2#32
  let arg1 : BitVec 32 := BitVec.ofNat 32 (i 1).val
  let c0_i32 : BitVec 32 := 0#32
  let v7 : BitVec 32 := Scalar.maxsi c0_i32 v6
  let v8 : BitVec 32 := Scalar.minsi arg1 v7
  let v60 : BitVec 32 := Scalar.subi arg1 v8
  let c1_i32_24 : BitVec 32 := 1#32
  let arg12 : BitVec 32 := Scf.iv v60 c1_i32_24 k0_t1
  let v297 : BitVec 32 := Scalar.muli c2_i32_104 arg12
  let v298 : BitVec 32 := Scalar.addi v297 c0_i32_105
  let c128_i32_106 : BitVec 32 := 128#32
  let v299 : BitVec 32 := Scalar.muli v298 c128_i32_106
  let v300 : BitVec 32 := v299
  let v301 : Index := Scalar.indexCast v300
  let c0_107 : Index := 0#32
  ![v301.toNat, 0]
def k0_mult2 (i : grid0.Coords) (v6 : BitVec 32) (k0_t1 : Fin (k0_t1_loop i v6).trips) : BitVec 32 :=
  let c2_i32_135 : BitVec 32 := 2#32
  let arg1 : BitVec 32 := BitVec.ofNat 32 (i 1).val
  let c0_i32 : BitVec 32 := 0#32
  let v7 : BitVec 32 := Scalar.maxsi c0_i32 v6
  let v8 : BitVec 32 := Scalar.minsi arg1 v7
  let v60 : BitVec 32 := Scalar.subi arg1 v8
  let c1_i32_24 : BitVec 32 := 1#32
  let arg12 : BitVec 32 := Scf.iv v60 c1_i32_24 k0_t1
  let v383 : BitVec 32 := Scalar.muli c2_i32_135 arg12
  let c1_i32_136 : BitVec 32 := 1#32
  let v384 : BitVec 32 := Scalar.addi v383 c1_i32_136
  let c128_i32_137 : BitVec 32 := 128#32
  let v385 : BitVec 32 := Scalar.muli v384 c128_i32_137
  v385
@[reducible] def k0_t2_loop (i : grid0.Coords) (v6 : BitVec 32) : Scf.Loop 32 :=
  let arg1 : BitVec 32 := BitVec.ofNat 32 (i 1).val
  let c0_i32 : BitVec 32 := 0#32
  let v7 : BitVec 32 := Scalar.maxsi c0_i32 v6
  let v8 : BitVec 32 := Scalar.minsi arg1 v7
  let v60 : BitVec 32 := Scalar.subi arg1 v8
  let v62 : BitVec 32 := Scalar.subi arg1 v60
  let c1_i32 : BitVec 32 := 1#32
  let v64 : BitVec 32 := Scalar.divsi v62 c1_i32
  let v65 : BitVec 32 := Scalar.muli v64 c1_i32
  let v66 : BitVec 32 := Scalar.addi v60 v65
  let v63 : BitVec 32 := Scalar.addi v60 v62
  let c1_i32_25 : BitVec 32 := 1#32
  ⟨v66, v63, c1_i32_25⟩
def k0_mult3 (i : grid0.Coords) (v6 : BitVec 32) (k0_t2 : Fin (k0_t2_loop i v6).trips) : BitVec 32 :=
  let c2_i32_104 : BitVec 32 := 2#32
  let arg1 : BitVec 32 := BitVec.ofNat 32 (i 1).val
  let c0_i32 : BitVec 32 := 0#32
  let v7 : BitVec 32 := Scalar.maxsi c0_i32 v6
  let v8 : BitVec 32 := Scalar.minsi arg1 v7
  let v60 : BitVec 32 := Scalar.subi arg1 v8
  let v62 : BitVec 32 := Scalar.subi arg1 v60
  let c1_i32 : BitVec 32 := 1#32
  let v64 : BitVec 32 := Scalar.divsi v62 c1_i32
  let v65 : BitVec 32 := Scalar.muli v64 c1_i32
  let v66 : BitVec 32 := Scalar.addi v60 v65
  let c1_i32_25 : BitVec 32 := 1#32
  let arg12 : BitVec 32 := Scf.iv v66 c1_i32_25 k0_t2
  let v297 : BitVec 32 := Scalar.muli c2_i32_104 arg12
  let c0_i32_105 : BitVec 32 := 0#32
  let v298 : BitVec 32 := Scalar.addi v297 c0_i32_105
  let c128_i32_106 : BitVec 32 := 128#32
  let v299 : BitVec 32 := Scalar.muli v298 c128_i32_106
  v299
def k0_off2 (i : grid0.Coords) (v6 : BitVec 32) (k0_t2 : Fin (k0_t2_loop i v6).trips) (c0_i32_105 : BitVec 32) : Fin 2 → Nat :=
  let c2_i32_104 : BitVec 32 := 2#32
  let arg1 : BitVec 32 := BitVec.ofNat 32 (i 1).val
  let c0_i32 : BitVec 32 := 0#32
  let v7 : BitVec 32 := Scalar.maxsi c0_i32 v6
  let v8 : BitVec 32 := Scalar.minsi arg1 v7
  let v60 : BitVec 32 := Scalar.subi arg1 v8
  let v62 : BitVec 32 := Scalar.subi arg1 v60
  let c1_i32 : BitVec 32 := 1#32
  let v64 : BitVec 32 := Scalar.divsi v62 c1_i32
  let v65 : BitVec 32 := Scalar.muli v64 c1_i32
  let v66 : BitVec 32 := Scalar.addi v60 v65
  let c1_i32_25 : BitVec 32 := 1#32
  let arg12 : BitVec 32 := Scf.iv v66 c1_i32_25 k0_t2
  let v297 : BitVec 32 := Scalar.muli c2_i32_104 arg12
  let v298 : BitVec 32 := Scalar.addi v297 c0_i32_105
  let c128_i32_106 : BitVec 32 := 128#32
  let v299 : BitVec 32 := Scalar.muli v298 c128_i32_106
  let v300 : BitVec 32 := v299
  let v301 : Index := Scalar.indexCast v300
  let c0_107 : Index := 0#32
  ![v301.toNat, 0]
def k0_mult4 (i : grid0.Coords) (v6 : BitVec 32) (k0_t2 : Fin (k0_t2_loop i v6).trips) : BitVec 32 :=
  let c2_i32_135 : BitVec 32 := 2#32
  let arg1 : BitVec 32 := BitVec.ofNat 32 (i 1).val
  let c0_i32 : BitVec 32 := 0#32
  let v7 : BitVec 32 := Scalar.maxsi c0_i32 v6
  let v8 : BitVec 32 := Scalar.minsi arg1 v7
  let v60 : BitVec 32 := Scalar.subi arg1 v8
  let v62 : BitVec 32 := Scalar.subi arg1 v60
  let c1_i32 : BitVec 32 := 1#32
  let v64 : BitVec 32 := Scalar.divsi v62 c1_i32
  let v65 : BitVec 32 := Scalar.muli v64 c1_i32
  let v66 : BitVec 32 := Scalar.addi v60 v65
  let c1_i32_25 : BitVec 32 := 1#32
  let arg12 : BitVec 32 := Scf.iv v66 c1_i32_25 k0_t2
  let v383 : BitVec 32 := Scalar.muli c2_i32_135 arg12
  let c1_i32_136 : BitVec 32 := 1#32
  let v384 : BitVec 32 := Scalar.addi v383 c1_i32_136
  let c128_i32_137 : BitVec 32 := 128#32
  let v385 : BitVec 32 := Scalar.muli v384 c128_i32_137
  v385

def k0_chk1 (i : grid0.Coords) (v6 : BitVec 32) : Prop :=
  ((k0_t1_loop i v6).OK) ∧
  (∀ k0_t1 : Fin (k0_t1_loop i v6).trips, 128 ∣ (k0_mult1 i v6 k0_t1).toNat) ∧
  (∀ k0_t1 : Fin (k0_t1_loop i v6).trips, ∀ (r : Fin 2), ∀ a, (k0_off1 i v6 k0_t1 (BitVec.ofNat 32 r.val)) a + S128x128.size a ≤ S2048x128.size a) ∧
  (∀ k0_t1 : Fin (k0_t1_loop i v6).trips, 128 ∣ (k0_mult2 i v6 k0_t1).toNat) ∧
  ((k0_t2_loop i v6).OK) ∧
  (∀ k0_t2 : Fin (k0_t2_loop i v6).trips, 128 ∣ (k0_mult3 i v6 k0_t2).toNat) ∧
  (∀ k0_t2 : Fin (k0_t2_loop i v6).trips, ∀ (r : Fin 2), ∀ a, (k0_off2 i v6 k0_t2 (BitVec.ofNat 32 r.val)) a + S128x128.size a ≤ S2048x128.size a) ∧
  (∀ k0_t2 : Fin (k0_t2_loop i v6).trips, 128 ∣ (k0_mult4 i v6 k0_t2).toNat)
theorem k0_t1_ok : ∀ (i : grid0.Coords) (v6 : BitVec 32) (k0_hw1 : k0_chk1 i v6), (k0_t1_loop i v6).OK := fun i v6 k0_hw1 => k0_hw1.1
theorem k0_mult1_dvd : ∀ (i : grid0.Coords) (v6 : BitVec 32) (k0_hw1 : k0_chk1 i v6) (k0_t1 : Fin (k0_t1_loop i v6).trips), 128 ∣ (k0_mult1 i v6 k0_t1).toNat := fun i v6 k0_hw1 k0_t1 => k0_hw1.2.1 k0_t1
theorem k0_off1_inb : ∀ (i : grid0.Coords) (v6 : BitVec 32) (k0_hw1 : k0_chk1 i v6) (k0_t1 : Fin (k0_t1_loop i v6).trips), ∀ (r : Fin 2), ∀ a, (k0_off1 i v6 k0_t1 (BitVec.ofNat 32 r.val)) a + S128x128.size a ≤ S2048x128.size a := fun i v6 k0_hw1 k0_t1 r => k0_hw1.2.2.1 k0_t1 r
theorem k0_mult2_dvd : ∀ (i : grid0.Coords) (v6 : BitVec 32) (k0_hw1 : k0_chk1 i v6) (k0_t1 : Fin (k0_t1_loop i v6).trips), 128 ∣ (k0_mult2 i v6 k0_t1).toNat := fun i v6 k0_hw1 k0_t1 => k0_hw1.2.2.2.1 k0_t1
theorem k0_t2_ok : ∀ (i : grid0.Coords) (v6 : BitVec 32) (k0_hw1 : k0_chk1 i v6), (k0_t2_loop i v6).OK := fun i v6 k0_hw1 => k0_hw1.2.2.2.2.1
theorem k0_mult3_dvd : ∀ (i : grid0.Coords) (v6 : BitVec 32) (k0_hw1 : k0_chk1 i v6) (k0_t2 : Fin (k0_t2_loop i v6).trips), 128 ∣ (k0_mult3 i v6 k0_t2).toNat := fun i v6 k0_hw1 k0_t2 => k0_hw1.2.2.2.2.2.1 k0_t2
theorem k0_off2_inb : ∀ (i : grid0.Coords) (v6 : BitVec 32) (k0_hw1 : k0_chk1 i v6) (k0_t2 : Fin (k0_t2_loop i v6).trips), ∀ (r : Fin 2), ∀ a, (k0_off2 i v6 k0_t2 (BitVec.ofNat 32 r.val)) a + S128x128.size a ≤ S2048x128.size a := fun i v6 k0_hw1 k0_t2 r => k0_hw1.2.2.2.2.2.2.1 k0_t2 r
theorem k0_mult4_dvd : ∀ (i : grid0.Coords) (v6 : BitVec 32) (k0_hw1 : k0_chk1 i v6) (k0_t2 : Fin (k0_t2_loop i v6).trips), 128 ∣ (k0_mult4 i v6 k0_t2).toNat := fun i v6 k0_hw1 k0_t2 => k0_hw1.2.2.2.2.2.2.2 k0_t2

def k0_mult5 (i : grid0.Coords) : BitVec 32 :=
  let c2_i32 : BitVec 32 := 2#32
  let arg1 : BitVec 32 := BitVec.ofNat 32 (i 1).val
  let v69 : BitVec 32 := Scalar.muli c2_i32 arg1
  let c0_i32_26 : BitVec 32 := 0#32
  let v70 : BitVec 32 := Scalar.addi v69 c0_i32_26
  let c128_i32 : BitVec 32 := 128#32
  let v71 : BitVec 32 := Scalar.muli v70 c128_i32
  v71
def k0_off3 (i : grid0.Coords) (c0_i32_26 : BitVec 32) : Fin 2 → Nat :=
  let c2_i32 : BitVec 32 := 2#32
  let arg1 : BitVec 32 := BitVec.ofNat 32 (i 1).val
  let v69 : BitVec 32 := Scalar.muli c2_i32 arg1
  let v70 : BitVec 32 := Scalar.addi v69 c0_i32_26
  let c128_i32 : BitVec 32 := 128#32
  let v71 : BitVec 32 := Scalar.muli v70 c128_i32
  let v72 : BitVec 32 := v71
  let v73 : Index := Scalar.indexCast v72
  let c0_27 : Index := 0#32
  ![v73.toNat, 0]
def k0_mult6 (i : grid0.Coords) : BitVec 32 :=
  let c2_i32_59 : BitVec 32 := 2#32
  let arg1 : BitVec 32 := BitVec.ofNat 32 (i 1).val
  let v169 : BitVec 32 := Scalar.muli c2_i32_59 arg1
  let c1_i32_60 : BitVec 32 := 1#32
  let v170 : BitVec 32 := Scalar.addi v169 c1_i32_60
  let c128_i32_61 : BitVec 32 := 128#32
  let v171 : BitVec 32 := Scalar.muli v170 c128_i32_61
  v171
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2048x768 : Shape := ⟨2, ![2048, 768]⟩
abbrev S2048x256 : Shape := ⟨2, ![2048, 256]⟩
abbrev S2048x4x64 : Shape := ⟨3, ![2048, 4, 64]⟩
abbrev S_ : Shape := ⟨0, ![]⟩
abbrev S4x2048x2048 : Shape := ⟨3, ![4, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x64x2048 : Shape := ⟨3, ![4, 64, 2048]⟩
abbrev S4x2048x64 : Shape := ⟨3, ![4, 2048, 64]⟩

abbrev nBuf : Space → Nat
  | .hbm => 181
  | .vmem => 0
  | .smem => 0
  | _ => 0

abbrev hbmTy0_0 (i : Nat) : BufTy := match i % 128 with
  | 0 => ⟨S2048x768, .bf16⟩
  | 1 => ⟨S2048x256, .f32⟩
  | 2 => ⟨S2048x256, .bf16⟩
  | 3 => ⟨S2048x256, .bf16⟩
  | 4 => ⟨S2048x256, .bf16⟩
  | 5 => ⟨S2048x256, .f32⟩
  | 6 => ⟨S2048x256, .f32⟩
  | 7 => ⟨S2048x256, .f32⟩
  | 8 => ⟨S2048x4x64, .f32⟩
  | 9 => ⟨S_, .f32⟩
  | 10 => ⟨S2048x4x64, .f32⟩
  | 11 => ⟨S2048x4x64, .f32⟩
  | 12 => ⟨S2048x4x64, .f32⟩
  | 13 => ⟨S4x2048x2048, .f32⟩
  | 14 => ⟨S2048, .i32⟩
  | 15 => ⟨S1x2048, .i32⟩
  | 16 => ⟨S2048, .i32⟩
  | 17 => ⟨S2048x1, .i32⟩
  | 18 => ⟨S2048x2048, .i32⟩
  | 19 => ⟨S2048x2048, .i32⟩
  | 20 => ⟨S2048x2048, .i1⟩
  | 21 => ⟨S4x2048x2048, .f32⟩
  | 22 => ⟨S4x2048x2048, .f32⟩
  | 23 => ⟨S_, .f32⟩
  | 24 => ⟨S4x2048x2048, .f32⟩
  | 25 => ⟨S4x2048x2048, .f32⟩
  | 26 => ⟨S4x2048x2048, .f32⟩
  | 27 => ⟨S4x2048x2048, .f32⟩
  | 28 => ⟨S4x2048x2048, .i1⟩
  | 29 => ⟨S4x2048x2048, .f32⟩
  | 30 => ⟨S4x2048x2048, .f32⟩
  | 31 => ⟨S4x2048x2048, .f32⟩
  | 32 => ⟨S4x2048x2048, .f32⟩
  | 33 => ⟨S4x2048x2048, .f32⟩
  | 34 => ⟨S4x2048x2048, .f32⟩
  | 35 => ⟨S4x2048x2048, .f32⟩
  | 36 => ⟨S4x2048x2048, .f32⟩
  | 37 => ⟨S_, .f32⟩
  | 38 => ⟨S4x2048x2048, .f32⟩
  | 39 => ⟨S4x2048x2048, .i1⟩
  | 40 => ⟨S_, .f32⟩
  | 41 => ⟨S4x2048x2048, .f32⟩
  | 42 => ⟨S4x2048x2048, .f32⟩
  | 43 => ⟨S_, .f32⟩
  | 44 => ⟨S4x2048x2048, .f32⟩
  | 45 => ⟨S4x2048x2048, .i1⟩
  | 46 => ⟨S_, .f32⟩
  | 47 => ⟨S4x2048x2048, .f32⟩
  | 48 => ⟨S4x2048x2048, .f32⟩
  | 49 => ⟨S4x2048x2048, .f32⟩
  | 50 => ⟨S4x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S4x2048x2048, .f32⟩
  | 59 => ⟨S4x2048x2048, .i1⟩
  | 60 => ⟨S_, .f32⟩
  | 61 => ⟨S4x2048x2048, .f32⟩
  | 62 => ⟨S4x2048x2048, .f32⟩
  | 63 => ⟨S4x2048x2048, .f32⟩
  | 64 => ⟨S4x2048x2048, .f32⟩
  | 65 => ⟨S4x2048x2048, .f32⟩
  | 66 => ⟨S_, .f32⟩
  | 67 => ⟨S4x2048x2048, .f32⟩
  | 68 => ⟨S4x2048x2048, .f32⟩
  | 69 => ⟨S4x2048x2048, .f32⟩
  | 70 => ⟨S_, .f32⟩
  | 71 => ⟨S_, .f32⟩
  | 72 => ⟨S4x2048x2048, .i1⟩
  | 73 => ⟨S4x2048x2048, .f32⟩
  | 74 => ⟨S4x2048x2048, .f32⟩
  | 75 => ⟨S_, .f32⟩
  | 76 => ⟨S4x2048x2048, .f32⟩
  | 77 => ⟨S2048x4x64, .f32⟩
  | 78 => ⟨S_, .f32⟩
  | 79 => ⟨S_, .f32⟩
  | 80 => ⟨S4x2048x2048, .f32⟩
  | 81 => ⟨S4x2048x2048, .f32⟩
  | 82 => ⟨S4x2048x2048, .f32⟩
  | 83 => ⟨S_, .f32⟩
  | 84 => ⟨S4x2048x2048, .f32⟩
  | 85 => ⟨S4x2048x2048, .f32⟩
  | 86 => ⟨S4x2048x2048, .f32⟩
  | 87 => ⟨S4x2048x2048, .f32⟩
  | 88 => ⟨S4x2048x2048, .i1⟩
  | 89 => ⟨S4x2048x2048, .f32⟩
  | 90 => ⟨S4x2048x2048, .f32⟩
  | 91 => ⟨S4x2048x2048, .f32⟩
  | 92 => ⟨S4x2048x2048, .f32⟩
  | 93 => ⟨S4x2048x2048, .f32⟩
  | 94 => ⟨S4x2048x2048, .f32⟩
  | 95 => ⟨S4x2048x2048, .f32⟩
  | 96 => ⟨S4x2048x2048, .f32⟩
  | 97 => ⟨S_, .f32⟩
  | 98 => ⟨S4x2048x2048, .f32⟩
  | 99 => ⟨S4x2048x2048, .i1⟩
  | 100 => ⟨S_, .f32⟩
  | 101 => ⟨S4x2048x2048, .f32⟩
  | 102 => ⟨S4x2048x2048, .f32⟩
  | 103 => ⟨S_, .f32⟩
  | 104 => ⟨S4x2048x2048, .f32⟩
  | 105 => ⟨S4x2048x2048, .i1⟩
  | 106 => ⟨S_, .f32⟩
  | 107 => ⟨S4x2048x2048, .f32⟩
  | 108 => ⟨S4x2048x2048, .f32⟩
  | 109 => ⟨S4x2048x2048, .f32⟩
  | 110 => ⟨S4x2048x2048, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S4x2048x2048, .f32⟩
  | 119 => ⟨S4x2048x2048, .i1⟩
  | 120 => ⟨S_, .f32⟩
  | 121 => ⟨S4x2048x2048, .f32⟩
  | 122 => ⟨S4x2048x2048, .f32⟩
  | 123 => ⟨S4x2048x2048, .f32⟩
  | 124 => ⟨S4x2048x2048, .f32⟩
  | 125 => ⟨S4x2048x2048, .f32⟩
  | 126 => ⟨S_, .f32⟩
  | 127 => ⟨S4x2048x2048, .f32⟩
  | _ => ⟨S2048x768, .bf16⟩

abbrev hbmTy0_1 (i : Nat) : BufTy := match i % 128 with
  | 0 => ⟨S4x2048x2048, .f32⟩
  | 1 => ⟨S4x2048x2048, .f32⟩
  | 2 => ⟨S4x2048x2048, .f32⟩
  | 3 => ⟨S4x2048x2048, .f32⟩
  | 4 => ⟨S_, .f32⟩
  | 5 => ⟨S_, .f32⟩
  | 6 => ⟨S4x2048x2048, .i1⟩
  | 7 => ⟨S4x2048x2048, .f32⟩
  | 8 => ⟨S4x2048x2048, .f32⟩
  | 9 => ⟨S_, .f32⟩
  | 10 => ⟨S4x2048x2048, .f32⟩
  | 11 => ⟨S4x64x2048, .f32⟩
  | 12 => ⟨S2048x4x64, .f32⟩
  | 13 => ⟨S2048x256, .f32⟩
  | 14 => ⟨S2048x256, .bf16⟩
  | 15 => ⟨S2048x256, .bf16⟩
  | 16 => ⟨S2048x256, .f32⟩
  | 17 => ⟨S2048x4x64, .f32⟩
  | 18 => ⟨S4x64x2048, .f32⟩
  | 19 => ⟨S4x2048x2048, .f32⟩
  | 20 => ⟨S4x64x2048, .f32⟩
  | 21 => ⟨S2048x4x64, .f32⟩
  | 22 => ⟨S_, .f32⟩
  | 23 => ⟨S4x2048x2048, .f32⟩
  | 24 => ⟨S4x2048x2048, .f32⟩
  | 25 => ⟨S4x2048x2048, .f32⟩
  | 26 => ⟨S4x2048x2048, .f32⟩
  | 27 => ⟨S4x2048x2048, .f32⟩
  | 28 => ⟨S4x2048x2048, .f32⟩
  | 29 => ⟨S4x2048x2048, .f32⟩
  | 30 => ⟨S_, .f32⟩
  | 31 => ⟨S_, .f32⟩
  | 32 => ⟨S4x2048x2048, .f32⟩
  | 33 => ⟨S4x2048x2048, .f32⟩
  | 34 => ⟨S2048x256, .f32⟩
  | 35 => ⟨S_, .f32⟩
  | 36 => ⟨S4x2048x2048, .f32⟩
  | 37 => ⟨S4x2048x2048, .f32⟩
  | 38 => ⟨S4x2048x2048, .f32⟩
  | 39 => ⟨S4x2048x2048, .f32⟩
  | 40 => ⟨S4x2048x2048, .f32⟩
  | 41 => ⟨S4x2048x2048, .f32⟩
  | 42 => ⟨S4x2048x2048, .f32⟩
  | 43 => ⟨S4x2048x64, .f32⟩
  | 44 => ⟨S2048x4x64, .f32⟩
  | 45 => ⟨S4x2048x64, .f32⟩
  | 46 => ⟨S2048x4x64, .f32⟩
  | 47 => ⟨S2048x256, .f32⟩
  | 48 => ⟨S_, .f32⟩
  | 49 => ⟨S2048x4x64, .f32⟩
  | 50 => ⟨S2048x4x64, .f32⟩
  | 51 => ⟨S2048x256, .f32⟩
  | 52 => ⟨S2048x256, .bf16⟩
  | _ => ⟨S2048x768, .bf16⟩

abbrev hbmTy (i : Nat) : BufTy := match i / 128 with
  | 0 => hbmTy0_0 i
  | 1 => hbmTy0_1 i
  | _ => ⟨S2048x768, .bf16⟩

abbrev bufTy : (tb : Table) → Fin (tcTables nBuf tb) → BufTy
  | .hbm, ⟨i, _⟩ => hbmTy i
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_cst_0 : Ref sig .tc := ⟨.hbm, 70, rfl⟩
abbrev main_call1_v0 : Ref sig .tc := ⟨.hbm, 71, rfl⟩
abbrev main_v20_1 : Ref sig .tc := ⟨.hbm, 72, rfl⟩
abbrev main_call1_v2 : Ref sig .tc := ⟨.hbm, 73, rfl⟩
abbrev main_v20_0 : Ref sig .tc := ⟨.hbm, 74, rfl⟩
abbrev main_call1_cst : Ref sig .tc := ⟨.hbm, 75, rfl⟩
abbrev main_v20_2 : Ref sig .tc := ⟨.hbm, 76, rfl⟩
abbrev main_v21 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_call5_cst : Ref sig .tc := ⟨.hbm, 150, rfl⟩
abbrev main_call5_v0 : Ref sig .tc := ⟨.hbm, 151, rfl⟩
abbrev main_v39 : Ref sig .tc := ⟨.hbm, 152, rfl⟩
abbrev main_v40 : Ref sig .tc := ⟨.hbm, 153, rfl⟩
abbrev main_call6_v0 : Ref sig .tc := ⟨.hbm, 154, rfl⟩
abbrev main_call6_v1 : Ref sig .tc := ⟨.hbm, 155, rfl⟩
abbrev main_v41 : Ref sig .tc := ⟨.hbm, 156, rfl⟩
abbrev main_v42 : Ref sig .tc := ⟨.hbm, 157, rfl⟩
abbrev main_call7_cst : Ref sig .tc := ⟨.hbm, 158, rfl⟩
abbrev main_call7_v0 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_call8_cst : Ref sig .tc := ⟨.hbm, 163, rfl⟩
abbrev main_call8_v0 : Ref sig .tc := ⟨.hbm, 164, rfl⟩
abbrev main_v46 : Ref sig .tc := ⟨.hbm, 165, rfl⟩
abbrev main_call9_v0 : Ref sig .tc := ⟨.hbm, 166, rfl⟩
abbrev main_call9_v1 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_v54 : Ref sig .tc := ⟨.hbm, 175, rfl⟩
abbrev main_cst_2 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩

abbrev nD : Nat := 1
abbrev τ : Topo := Topo.v7x

variable {F : FTy → Type} [FloatOps F]
-- ==== Mixer.lean ====
abbrev S2048x1024 : Shape := ⟨2, ![2048, 1024]⟩
abbrev S1x1024 : Shape := ⟨2, ![1, 1024]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1024x2816 : Shape := ⟨2, ![1024, 2816]⟩
abbrev S2048x2816 : Shape := ⟨2, ![2048, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 35
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2816x1024, .f32⟩
  | .hbm, ⟨22, _⟩ => ⟨S1024x2816, .f32⟩
  | .hbm, ⟨23, _⟩ => ⟨S2048x2816, .f32⟩
  | .hbm, ⟨24, _⟩ => ⟨S2816x1024, .f32⟩
  | .hbm, ⟨25, _⟩ => ⟨S1024x2816, .f32⟩
  | .hbm, ⟨26, _⟩ => ⟨S2048x2816, .f32⟩
  | .hbm, ⟨27, _⟩ => ⟨S2048x2816, .bf16⟩
  | .hbm, ⟨28, _⟩ => ⟨S2048x2816, .bf16⟩
  | .hbm, ⟨29, _⟩ => ⟨S2048x1024, .f32⟩
  | .hbm, ⟨30, _⟩ => ⟨S1x1024, .f32⟩
  | .hbm, ⟨31, _⟩ => ⟨S2048x2816, .bf16⟩
  | .hbm, ⟨32, _⟩ => ⟨S2048x2816, .bf16⟩
  | .hbm, ⟨33, _⟩ => ⟨S2048x2816, .bf16⟩
  | .hbm, ⟨34, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .bf16⟩
  | .local _ .vmem, ⟨22, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v83 : BitVec 1 := Scalar.cmpi .eq arg0 c0_i32
  let v84 : BitVec 32 := Scalar.extui v83
  let c0_i32_43 : BitVec 32 := 0#32
  let v85 : BitVec 1 := Scalar.cmpi .ne v84 c0_i32_43
  v85

def k0_cond2 (i : grid0.Coords) : BitVec 1 :=
  let arg0 : BitVec 32 := BitVec.ofNat 32 (i 0).val
  let c0_i32 : BitVec 32 := 0#32
  let v83 : BitVec 1 := Scalar.cmpi .eq arg0 c0_i32
  let v_true : BitVec 1 := 1#1
  let v86 : BitVec 1 := Scalar.xori v83 v_true
  let v87 : BitVec 32 := Scalar.extui v86
  let c0_i32_44 : BitVec 32 := 0#32
  let v88 : BitVec 1 := Scalar.cmpi .ne v87 c0_i32_44
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixerReferenceIdeal.lean ====
abbrev S2048x1024 : Shape := ⟨2, ![2048, 1024]⟩
abbrev S1x1024 : Shape := ⟨2, ![1, 1024]⟩
abbrev S2816x1024 : Shape := ⟨2, ![2816, 1024]⟩
abbrev S_ : Shape := ⟨0, ![]⟩
abbrev S2048x2816 : Shape := ⟨2, ![2048, 2816]⟩
abbrev S2048 : Shape := ⟨1, ![2048]⟩
abbrev S2048x1 : Shape := ⟨2, ![2048, 1]⟩
abbrev S1024x2816 : Shape := ⟨2, ![1024, 2816]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S2048x1024, .f32⟩
  | .hbm, ⟨6, _⟩ => ⟨S_, .f32⟩
  | .hbm, ⟨7, _⟩ => ⟨S2048x2816, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2816x1024, .f32⟩
  | .hbm, ⟨28, _⟩ => ⟨S1024x2816, .f32⟩
  | .hbm, ⟨29, _⟩ => ⟨S2048x2816, .f32⟩
  | .hbm, ⟨30, _⟩ => ⟨S2816x1024, .f32⟩
  | .hbm, ⟨31, _⟩ => ⟨S1024x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2816x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S2048x2816, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048, .f32⟩
  | .hbm, ⟨72, _⟩ => ⟨S2048x1, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S2048x2816, .bf16⟩
  | .hbm, ⟨88, _⟩ => ⟨S2048x2816, .bf16⟩
  | .hbm, ⟨89, _⟩ => ⟨S2048x2816, .bf16⟩
  | .hbm, ⟨90, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v23_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v23_1 : Ref sig .tc := ⟨.hbm, 45, rfl⟩
abbrev main_v23_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== Gates.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩
abbrev S256x2048 : Shape := ⟨2, ![256, 2048]⟩

abbrev nBuf : Space → Nat
  | .hbm => 5
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S2816x1024, .bf16⟩
  | .hbm, ⟨4, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 22
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S_, .bf16⟩
  | .hbm, ⟨4, _⟩ => ⟨S2816x1024, .bf16⟩
  | .hbm, ⟨5, _⟩ => ⟨S2048x1024, .f32⟩
  | .hbm, ⟨6, _⟩ => ⟨S2816x1024, .f32⟩
  | .hbm, ⟨7, _⟩ => ⟨S1024x2816, .f32⟩
  | .hbm, ⟨8, _⟩ => ⟨S2048x2816, .f32⟩
  | .hbm, ⟨9, _⟩ => ⟨S2816x1024, .f32⟩
  | .hbm, ⟨10, _⟩ => ⟨S1024x2816, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2816x1024, .f32⟩
  | .hbm, ⟨15, _⟩ => ⟨S1024x2816, .f32⟩
  | .hbm, ⟨16, _⟩ => ⟨S2816x1024, .f32⟩
  | .hbm, ⟨17, _⟩ => ⟨S2816x1024, .bf16⟩
  | .hbm, ⟨18, _⟩ => ⟨S2816x1024, .f32⟩
  | .hbm, ⟨19, _⟩ => ⟨S1024x2816, .f32⟩
  | .hbm, ⟨20, _⟩ => ⟨S2816x1024, .f32⟩
  | .hbm, ⟨21, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Down.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S256x1024, .bf16⟩
  | .local _ .vmem, ⟨4, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S_, .bf16⟩
  | .hbm, ⟨3, _⟩ => ⟨S2816x1024, .bf16⟩
  | .hbm, ⟨4, _⟩ => ⟨S2048x2816, .f32⟩
  | .hbm, ⟨5, _⟩ => ⟨S2816x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Forward.lean ====
abbrev S2048x1024 : Shape := ⟨2, ![2048, 1024]⟩
abbrev S1x1024 : Shape := ⟨2, ![1, 1024]⟩
abbrev S2816x1024 : Shape := ⟨2, ![2816, 1024]⟩
abbrev S2048x2816 : Shape := ⟨2, ![2048, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S2048x1024, .f32⟩
  | .hbm, ⟨6, _⟩ => ⟨S2048x2816, .bf16⟩
  | .hbm, ⟨7, _⟩ => ⟨S2048x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ForwardReferenceIdeal.lean ====
abbrev S2048x1024 : Shape := ⟨2, ![2048, 1024]⟩
abbrev S1x1024 : Shape := ⟨2, ![1, 1024]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1024x2816 : Shape := ⟨2, ![1024, 2816]⟩
abbrev S2048x2816 : Shape := ⟨2, ![2048, 2816]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2816x1024, .f32⟩
  | .hbm, ⟨21, _⟩ => ⟨S1024x2816, .f32⟩
  | .hbm, ⟨22, _⟩ => ⟨S2048x2816, .f32⟩
  | .hbm, ⟨23, _⟩ => ⟨S2816x1024, .f32⟩
  | .hbm, ⟨24, _⟩ => ⟨S1024x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2816x1024, .f32⟩
  | .hbm, ⟨37, _⟩ => ⟨S2048x1024, .f32⟩
  | .hbm, ⟨38, _⟩ => ⟨S2048x1024, .f32⟩
  | .hbm, ⟨39, _⟩ => ⟨S2048x2816, .bf16⟩
  | .hbm, ⟨40, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Proof.Words.lean ====
module

public import proofs.«01_k».proof.KernelIdeal

@[expose] public section

/-! The words the body computes from the block it has read: how many blocks it sweeps. -/
set_option maxRecDepth 16384
open Idealize Idealize.ShloMosaic Cert.KernelIdeal
namespace Cert.KernelIdeal.SB

/-- The number of blocks swept, as the kernel clips it: between nothing and the block's own number. -/
def clip (i : grid0.Coords) (v6 : BitVec 32) : BitVec 32 :=
  Scalar.minsi (BitVec.ofNat 32 (i 1).val) (Scalar.maxsi 0#32 v6)

variable {i : grid0.Coords} {v w : BitVec 32}

theorem t1_congr (h : clip i v = clip i w) : k0_t1_loop i v = k0_t1_loop i w := by
  unfold clip at h; unfold k0_t1_loop; dsimp only; rw [h]

theorem t2_congr (h : clip i v = clip i w) : k0_t2_loop i v = k0_t2_loop i w := by
  unfold clip at h; unfold k0_t2_loop; dsimp only; rw [h]

theorem mult1_congr (h : clip i v = clip i w) (k : Fin (k0_t1_loop i v).trips)
    (k' : Fin (k0_t1_loop i w).trips) (hk : k.val = k'.val) : k0_mult1 i v k = k0_mult1 i w k' := by
  unfold clip at h; unfold k0_mult1; dsimp only; rw [h, hk]

theorem mult2_congr (h : clip i v = clip i w) (k : Fin (k0_t1_loop i v).trips)
    (k' : Fin (k0_t1_loop i w).trips) (hk : k.val = k'.val) : k0_mult2 i v k = k0_mult2 i w k' := by
  unfold clip at h; unfold k0_mult2; dsimp only; rw [h, hk]

theorem mult3_congr (h : clip i v = clip i w) (k : Fin (k0_t2_loop i v).trips)
    (k' : Fin (k0_t2_loop i w).trips) (hk : k.val = k'.val) : k0_mult3 i v k = k0_mult3 i w k' := by
  unfold clip at h; unfold k0_mult3; dsimp only; rw [h, hk]

theorem mult4_congr (h : clip i v = clip i w) (k : Fin (k0_t2_loop i v).trips)
    (k' : Fin (k0_t2_loop i w).trips) (hk : k.val = k'.val) : k0_mult4 i v k = k0_mult4 i w k' := by
  unfold clip at h; unfold k0_mult4; dsimp only; rw [h, hk]

theorem off1_congr (h : clip i v = clip i w) (k : Fin (k0_t1_loop i v).trips)
    (k' : Fin (k0_t1_loop i w).trips) (hk : k.val = k'.val) (c : BitVec 32) :
    k0_off1 i v k c = k0_off1 i w k' c := by
  unfold clip at h; unfold k0_off1; dsimp only; rw [h, hk]

theorem off2_congr (h : clip i v = clip i w) (k : Fin (k0_t2_loop i v).trips)
    (k' : Fin (k0_t2_loop i w).trips) (hk : k.val = k'.val) (c : BitVec 32) :
    k0_off2 i v k c = k0_off2 i w k' c := by
  unfold clip at h; unfold k0_off2; dsimp only; rw [h, hk]

theorem cast_val {a b : ℕ} (h : a = b) (k : Fin a) : k.val = (k.cast h).val := rfl

/-- The body's side condition depends on the word read through the clipped number alone. -/
theorem chk_congr (h : clip i v = clip i w) (hw : k0_chk1 i w) : k0_chk1 i v := by
  have e1 := congrArg Scf.Loop.trips (t1_congr h)
  have e2 := congrArg Scf.Loop.trips (t2_congr h)
  obtain ⟨h1, h2, h3, h4, h5, h6, h7, h8⟩ := hw
  unfold k0_chk1
  refine ⟨?_, fun k => ?_, fun k r => ?_, fun k => ?_, ?_, fun k => ?_, fun k r => ?_, fun k => ?_⟩
  · rewrite [t1_congr h]; exact h1
  · rewrite [mult1_congr h k (k.cast e1) (cast_val e1 k)]; exact h2 _
  · intro a
    have e := off1_congr h k (k.cast e1) (cast_val e1 k) (BitVec.ofNat 32 r.val)
    exact le_of_eq_of_le (congrArg (fun x => x + S128x128.size a) (congrFun e a)) (h3 (k.cast e1) r a)
  · rewrite [mult2_congr h k (k.cast e1) (cast_val e1 k)]; exact h4 _
  · rewrite [t2_congr h]; exact h5
  · rewrite [mult3_congr h k (k.cast e2) (cast_val e2 k)]; exact h6 _
  · intro a
    have e := off2_congr h k (k.cast e2) (cast_val e2 k) (BitVec.ofNat 32 r.val)
    exact le_of_eq_of_le (congrArg (fun x => x + S128x128.size a) (congrFun e a)) (h7 (k.cast e2) r a)
  · rewrite [mult4_congr h k (k.cast e2) (cast_val e2 k)]; exact h8 _

/-- The clipped number is one of eight, and clipping it again changes nothing. -/
theorem clip_clip (i : grid0.Coords) (v : BitVec 32) :
    clip i v = clip i (clip i v) ∧ (clip i v).toNat < 8 := by
  have h1 : (i 1).val < 8 := (i 1).isLt
  unfold clip Scalar.minsi Scalar.maxsi IntOp.minsi IntOp.maxsi
  generalize (i 1).val = k at h1
  have hk : (BitVec.ofNat 32 k).toInt = k := by
    rw [BitVec.toInt_ofNat', Int.bmod_eq_of_le] <;> omega
  have hk' : (BitVec.ofNat 32 k).toNat = k := by
    rw [BitVec.toNat_ofNat, Nat.mod_eq_of_lt]; omega
  have hv := BitVec.toInt_eq_toNat_cond v
  simp only [BitVec.slt_eq_decide, hk, BitVec.toInt_zero, decide_eq_true_eq]
  by_cases h0 : v.toInt < 0
  · simp only [h0, if_true, BitVec.toInt_zero]
    have : ¬ ((k : Int) < 0) := by omega
    simp [this]
  · simp only [h0, if_false]
    by_cases h2 : (k : Int) < v.toInt
    · simp only [h2, if_true, hk, hk', lt_irrefl, if_false]
      have : ¬ ((k : Int) < 0) := by omega
      simp [this, h1]
    · simp only [h2, if_false, h0, true_and]
      have := v.isLt
      split at hv <;> omega

theorem clip_of (i : grid0.Coords) (v : BitVec 32) :
    ∃ n : Fin 8, clip i v = clip i (BitVec.ofNat 32 n.val) := by
  refine ⟨⟨(clip i v).toNat, (clip_clip i v).2⟩, ?_⟩
  simp only [BitVec.ofNat_toNat, BitVec.setWidth_eq]
  exact (clip_clip i v).1

theorem chk_small : ∀ (i : grid0.Coords) (n : Fin 8), k0_chk1 i (BitVec.ofNat 32 n.val) := by
  decide +kernel

/-- Whatever the word read, the loops are in range. -/
theorem chk_all (i : grid0.Coords) (v : BitVec 32) : k0_chk1 i v :=
  let ⟨_, h⟩ := clip_of i v
  chk_congr h (chk_small i _)

/-- The number of loop trips: the clipped number. -/
def nTrips (i : grid0.Coords) (v : BitVec 32) : ℕ := (clip i v).toNat

theorem small_closed : ∀ (i : grid0.Coords) (n : Fin 8),
    (clip i (BitVec.ofNat 32 n.val)).toNat ≤ (i 1).val
    ∧ (k0_t1_loop i (BitVec.ofNat 32 n.val)).trips = (clip i (BitVec.ofNat 32 n.val)).toNat
    ∧ (k0_t2_loop i (BitVec.ofNat 32 n.val)).trips = 0
    ∧ ∀ (k : Fin (k0_t1_loop i (BitVec.ofNat 32 n.val)).trips) (r : Fin 2),
      k0_off1 i (BitVec.ofNat 32 n.val) k (BitVec.ofNat 32 r.val) 0
        = (2 * ((i 1).val - (clip i (BitVec.ofNat 32 n.val)).toNat + k.val) + r.val) * 128 := by
  decide +kernel

theorem nTrips_le (i : grid0.Coords) (v : BitVec 32) : nTrips i v ≤ (i 1).val := by
  obtain ⟨n, h⟩ := clip_of i v
  unfold nTrips; rw [h]; exact (small_closed i n).1

theorem t1_trips (i : grid0.Coords) (v : BitVec 32) : (k0_t1_loop i v).trips = nTrips i v := by
  obtain ⟨n, h⟩ := clip_of i v
  unfold nTrips; rw [t1_congr h, h]; exact (small_closed i n).2.1

/-- The remainder loop runs no trip: the main loop's step divides every count. -/
theorem t2_trips (i : grid0.Coords) (v : BitVec 32) : (k0_t2_loop i v).trips = 0 := by
  obtain ⟨n, h⟩ := clip_of i v
  rw [t2_congr h]; exact (small_closed i n).2.2.1

/-- The rows the loop's trip reads: two blocks of 128 from block `i₁ − n + k`. -/
theorem off1_eq (i : grid0.Coords) (v : BitVec 32) (k : Fin (k0_t1_loop i v).trips) (r : Fin 2) :
    k0_off1 i v k (BitVec.ofNat 32 r.val)
      = ![(2 * ((i 1).val - nTrips i v + k.val) + r.val) * 128, 0] := by
  obtain ⟨n, h⟩ := clip_of i v
  have e1 := congrArg Scf.Loop.trips (t1_congr h)
  have e := off1_congr h k (k.cast e1) (cast_val e1 k) (BitVec.ofNat 32 r.val)
  funext a
  fin_cases a
  · refine (congrFun e 0).trans (((small_closed i n).2.2.2 (k.cast e1) r).trans ?_)
    unfold nTrips; rw [h]; rfl
  · rfl

/-- The rows of the two blocks on the diagonal. -/
theorem off3_eq : ∀ (i : grid0.Coords) (r : Fin 2),
    k0_off3 i (BitVec.ofNat 32 r.val) = ![(2 * (i 1).val + r.val) * 128, 0] := by
  decide +kernel

end Cert.KernelIdeal.SB
-- ==== Proof.Step.lean ====
module

public import proofs.«01_k».proof.Proof.Gen.KernelIdeal.Skeleton
public import Idealize.ShloMosaic.Lib.VecWindow
public import proofs.«01_k».proof.Proof.Words

@[expose] public section

/-! What one grid point of the kernel does to the values it carries, as plain functions.

A grid point owns 256 queries of a pair of heads (512 rows: the first head's 256, then the second
head's). It walks the keys in blocks of 128, first to last, two blocks to a trip, then the two
blocks on its diagonal under a mask. -/
set_option maxRecDepth 16384

noncomputable section

namespace Cert.KernelIdeal.SB

open Idealize.ShloMosaic Cert.KernelIdeal Cert.KernelIdeal.Gen

variable {F : FTy → Type} [FloatOps F]

/-- Block `b` of 128 rows lies inside the 2048. -/
theorem blk_inb (b : Fin 16) : ∀ a, (![b.val * 128, 0] : Fin 2 → ℕ) a + S128x128.size a ≤ S2048x128.size a := by
  have := b.isLt
  intro a
  fin_cases a
  · show b.val * 128 + 128 ≤ 2048; omega
  · show 0 + 128 ≤ 128; omega

/-- Block `b` of 128 rows. -/
def blk {e : EltTy} (X : Vec F S2048x128 e) (b : Fin 16) : Vec F S128x128 e :=
  VecWindow.window (s := S2048x128) X ![b.val * 128, 0] S128x128.size (blk_inb b)

/-- The rows with block `b` replaced. -/
def setBlk {e : EltTy} (X : Vec F S2048x128 e) (b : Fin 16) (w : Vec F S128x128 e) : Vec F S2048x128 e :=
  VecWindow.put (s := S2048x128) X ![b.val * 128, 0] S128x128.size w

/-- A block is untouched by the replacing of another. -/
theorem blk_setBlk_ne {e : EltTy} (X : Vec F S2048x128 e) (w : Vec F S128x128 e) (b b' : Fin 16) (h : b ≠ b') :
    blk (setBlk X b w) b' = blk X b' := by
  have h' : b.val ≠ b'.val := fun e => h (Fin.ext e)
  refine VecWindow.window_put_of_disjoint _ _ _ _ _ _ _ (0 : Fin 2) ?_
  show b'.val * 128 + 128 ≤ b.val * 128 ∨ b.val * 128 + 128 ≤ b'.val * 128
  omega

/-- What a grid point carries: the log weight still to come, the running sum of the weights'
    gradients, the queries' gradient so far, and the keys' and values' gradients so far. -/
structure St (F : FTy → Type) where
  rc : FVec F S512x128 .f32
  fc : FVec F S512x128 .f32
  acc : Vec F S512x128 .f32
  dk : Vec F S2048x128 .f32
  dv : Vec F S2048x128 .f32

/-- The kernel's zero block, which its products start from. -/
abbrev z512 : FVec F S512x128 .f32 := constant S512x128 .f32 0x00000000#32
/-- The kernel's zero. -/
abbrev z0 : F .f32 := Scalar.ofBits .f32 0x00000000#32

section Parts
variable (q d : FVec F S512x128 .bf16) (K V : Vec F S2048x128 .bf16)

/-- A block of keys before the diagonal. -/
def stepU (b : Fin 16) (s : St F) : St F :=
  let kj := blk K b
  let vj := blk V b
  let ls := k0_pay3 q kj
  let w := k0_pay10 q k0_pay89 s.rc kj
  { rc := k0_pay9 q k0_pay89 s.rc kj
    fc := k0_pay21 s.fc (k0_pay16 d k0_pay90 vj w z512)
    acc := k0_pay18 d k0_pay90 s.fc kj vj ls w z512 s.acc
    dk := setBlk s.dk b (k0_pay19 q d k0_pay90 s.fc vj ls w z512 (blk s.dk b))
    dv := setBlk s.dv b (k0_pay20 d w (blk s.dv b)) }

/-- The number of a grid point's query block, as a word. -/
abbrev qw (i : grid0.Coords) : BitVec 32 := BitVec.ofNat 32 (i 1).val

/-- Key block `2 i₁ + r`. -/
def dblk (i : grid0.Coords) (r : Fin 2) : Fin 16 :=
  ⟨2 * (i 1).val + r.val, by have : (i 1).val < 8 := (i 1).isLt; have := r.isLt; omega⟩

/-- The first block on the diagonal. -/
def stepD0 (i : grid0.Coords) (s : St F) : St F :=
  let kj := blk K (dblk i 0)
  let vj := blk V (dblk i 0)
  let v70 := Scalar.addi (Scalar.muli 2#32 (qw i)) 0#32
  let ls := k0_pay99 q kj
  let ok := k0_pay100 (qw i) v70 256#32
  let w := k0_pay103 (qw i) q k0_pay89 s.rc v70 kj 256#32
  { rc := k0_pay102 (qw i) q k0_pay89 s.rc v70 kj 256#32
    fc := k0_pay107 d k0_pay90 vj ok w z0
    acc := k0_pay109 d k0_pay90 s.fc kj vj ls ok w z0 s.acc
    dk := setBlk s.dk (dblk i 0) (k0_pay110 q d k0_pay90 s.fc vj ls ok w z0 (blk s.dk (dblk i 0)))
    dv := setBlk s.dv (dblk i 0) (k0_pay111 d ok w z0 (blk s.dv (dblk i 0))) }

theorem row_inb (o : ℕ) (h : o + 128 ≤ 512) : ∀ a, (![o, 0] : Fin 2 → ℕ) a + S128x128.size a ≤ S512x128.size a := by
  intro a
  fin_cases a
  · exact h
  · show 0 + 128 ≤ 128; omega

/-- The 128 rows from row `o` of the 512. -/
def rows (X : Vec F S512x128 .f32) (o : ℕ) (h : o + 128 ≤ 512) : Vec F S128x128 .f32 :=
  VecWindow.window (s := S512x128) X ![o, 0] S128x128.size (row_inb o h)

/-- The rows with the 128 from row `o` replaced. -/
def setRows (X : Vec F S512x128 .f32) (o : ℕ) (w : Vec F S128x128 .f32) : Vec F S512x128 .f32 :=
  VecWindow.put (s := S512x128) X ![o, 0] S128x128.size w

/-- The second block on the diagonal: only the lower halves of the two heads' rows reach it. `fc`
    is the running sum before the first diagonal block, `s.fc` that block's own sum. -/
def stepD1 (i : grid0.Coords) (fc : FVec F S512x128 .f32) (s : St F) : St F :=
  let kj := blk K (dblk i 1)
  let vj := blk V (dblk i 1)
  let v187 := Scalar.addi (Scalar.muli (qw i) 256#32) 128#32
  let ls := k0_pay117 q kj
  let lk := k0_pay118 q kj
  let ro := iota .tc S256x128 32 [0] iota_S256x128_d0_w32
  let co := k0_pay119 (qw i)
  let f := k0_pay114 fc s.fc
  let w := k0_pay121 k0_pay89 s.rc v187 ls lk ro co 128#32
  let dz := k0_pay122 k0_pay89 k0_pay90 s.rc vj (k0_pay113 d) f v187 ls lk ro co 128#32
  let dq := k0_pay123 k0_pay89 k0_pay90 s.rc kj vj (k0_pay113 d) f v187 ls lk ro co 128#32
  let a1 := setRows s.acc 128 (k0_pay124 dq (rows s.acc 128 (by omega)))
  { rc := s.rc
    fc := s.fc
    acc := setRows a1 384 (k0_pay125 dq (rows a1 384 (by omega)))
    dk := setBlk s.dk (dblk i 1) (k0_pay126 (k0_pay112 q) dz (blk s.dk (dblk i 1)))
    dv := setBlk s.dv (dblk i 1) (k0_pay127 (k0_pay113 d) w (blk s.dv (dblk i 1))) }

/-- Key block number `x` counted from the trip's first, kept below 16. -/
def ublk (x : ℕ) : Fin 16 := ⟨x % 16, Nat.mod_lt _ (by omega)⟩

/-- The state after `k` trips from trip `o` on. -/
def run (o : ℕ) (s : St F) : ℕ → St F
  | 0 => s
  | k + 1 => stepU q d K V (ublk (2 * (o + k) + 1)) (stepU q d K V (ublk (2 * (o + k))) (run o s k))

/-- A whole grid point, from the totals `rc` and the gradients so far. -/
def point (i : grid0.Coords) (n : ℕ) (rc : FVec F S512x128 .f32) (dk dv : Vec F S2048x128 .f32) : St F :=
  let s := run q d K V ((i 1).val - n) ⟨rc, k0_pay94, k0_pay91, dk, dv⟩ n
  stepD1 q d K V i s.fc (stepD0 q d K V i s)

end Parts

/-! The two blocks of a trip are printed apart and computed alike. -/
section Twin
variable (q d : FVec F S512x128 .bf16) (m m' : FVec F S128x256 .bf16) (rc fc ls w c : FVec F S512x128 .f32)
  (k v : Vec F S128x128 .bf16) (a : Vec F S512x128 .f32) (o : Vec F S128x128 .f32)
theorem pay24_eq : k0_pay24 q k = k0_pay3 q k := rfl
theorem pay30_eq : k0_pay30 q m rc k = k0_pay9 q m rc k := rfl
theorem pay31_eq : k0_pay31 q m rc k = k0_pay10 q m rc k := rfl
theorem pay37_eq : k0_pay37 d m v w c = k0_pay16 d m v w c := rfl
theorem pay39_eq : k0_pay39 d m fc k v ls w c a = k0_pay18 d m fc k v ls w c a := rfl
theorem pay40_eq : k0_pay40 q d m fc v ls w c o = k0_pay19 q d m fc v ls w c o := rfl
theorem pay41_eq : k0_pay41 d w o = k0_pay20 d w o := rfl
theorem pay95_eq : k0_pay95 fc w = k0_pay21 fc w := rfl
end Twin

end Cert.KernelIdeal.SB
-- ==== Proof.Trip.lean ====
module

public import proofs.«01_k».proof.Proof.Step
public import Idealize.ShloMosaic.Lib.Exec
public import Idealize.ShloMosaic.Lib.Tactic
public import Idealize.ShloMosaic.Lib.Pipeline.Kit
public import Idealize.ShloMosaic.Lib.LoopEntry

@[expose] public section

/-! One trip of the kernel's loop over key blocks, run on the buffers held by value. -/
set_option maxRecDepth 16384
set_option maxHeartbeats 2000000

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

section
variable (𝒱 : Variants) (c : Dev nD) (bd : Option 𝒱.V) (i : grid0.Coords)
  (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x256 .f32) (harg5 : arg5.IsWhole) (arg6 : Memref sig .tc .vmem S1x1x8x128 .f32) (harg6 : arg6.IsWhole) (arg7 : Memref sig .tc .vmem S256x128 .f32) (harg7 : arg7.IsWhole) (arg8 : Memref sig .tc .vmem S256x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole)
  (v6 : BitVec 32) (hw : k0_chk1 i v6) (v8 : BitVec 32) (q d : FVec F S512x128 .bf16)
  (t0 t1 : FVec F S256x128 .f32) (v60 : BitVec 32) (K V : Vec F S2048x128 .bf16)

/-- The buffers a trip touches, held by value. -/
abbrev Held (s : St F) : sProp 𝕄G :=
  iprop((arg3.view.loc (c : Thread nD τ) ↦[arg3.view.set]{fullShare} arg3.view.rep K)
    ∗ (arg4.view.loc (c : Thread nD τ) ↦[arg4.view.set]{fullShare} arg4.view.rep V)
    ∗ (arg9.view.loc (c : Thread nD τ) ↦[arg9.view.set]{fullShare} arg9.view.rep s.dk)
    ∗ (arg10.view.loc (c : Thread nD τ) ↦[arg10.view.set]{fullShare} arg10.view.rep s.dv)
    ∗ (arg11.view.loc (c : Thread nD τ) ↦[arg11.view.set]{fullShare} arg11.view.rep s.acc))

/-- One trip takes the state two blocks on. -/
theorem trip (E : Set ℕ) (k : Fin (k0_t1_loop i v6).trips) (s : St F) (b0 b1 : Fin 16)
    (h0 : k0_off1 i v6 k 0#32 = ![b0.val * 128, 0]) (h1 : k0_off1 i v6 k 1#32 = ![b1.val * 128, 0]) :
    Held (F := F) c arg3 arg4 arg9 arg10 arg11 K V s
      ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 (qw i) v6 hw v8 q d t0 t1 v60 k (s.rc, s.fc))
        (fun y => iprop(⌜y = ((stepU q d K V b1 (stepU q d K V b0 s)).rc, (stepU q d K V b1 (stepU q d K V b0 s)).fc)⌝
          ∗ Held (F := F) c arg3 arg4 arg9 arg10 arg11 K V (stepU q d K V b1 (stepU q d K V b0 s)))) := by
  unfold k0_t1_body
  iintro ⟨H3, H4, H9, H10, H11⟩
  sl_exec
  sl_step
  have eK0 : arg3.view.readAt (Elt F) (Rect.unit (s := S2048x128) (k0_off1 i v6 k 0#32) S128x128.size (k0_off1_inb i v6 hw k 0)).toLoadRect
      (arg3.view.rep K) = blk K b0 := View.readAt_rep_unit arg3.view K _ h0 (blk_inb b0)
  have eV0 : arg4.view.readAt (Elt F) (Rect.unit (s := S2048x128) (k0_off1 i v6 k 0#32) S128x128.size (k0_off1_inb i v6 hw k 0)).toLoadRect
      (arg4.view.rep V) = blk V b0 := View.readAt_rep_unit arg4.view V _ h0 (blk_inb b0)
  have eK1 : arg3.view.readAt (Elt F) (Rect.unit (s := S2048x128) (k0_off1 i v6 k 1#32) S128x128.size (k0_off1_inb i v6 hw k 1)).toLoadRect
      (arg3.view.rep K) = blk K b1 := View.readAt_rep_unit arg3.view K _ h1 (blk_inb b1)
  have eV1 : arg4.view.readAt (Elt F) (Rect.unit (s := S2048x128) (k0_off1 i v6 k 1#32) S128x128.size (k0_off1_inb i v6 hw k 1)).toLoadRect
      (arg4.view.rep V) = blk V b1 := View.readAt_rep_unit arg4.view V _ h1 (blk_inb b1)
  sl_unfold_run_names
  simp only [eK0, eV0, eK1, eV1, pay24_eq, pay30_eq, pay31_eq, pay37_eq, pay39_eq, pay40_eq, pay41_eq, pay95_eq]
  isplitr
  · ipureintro; rfl
  isplitl [H3]; · iexact H3
  isplitl [H4]; · iexact H4
  isplitl [H9]
  · iapply (pointsTo_rep_of_read (c : Thread nD τ) arg9 _ fullShare _ ?_) $$ H9
    rw [View.read_writes_cons_put _ _ _ _ _ h1, View.readAt_unit arg9.view _ _ h1 (blk_inb b1),
      View.read_writes_rep_unit _ _ _ _ h0, View.readAt_rep_unit arg9.view _ _ h0 (blk_inb b0)]
    rfl
  isplitl [H10]
  · iapply (pointsTo_rep_of_read (c : Thread nD τ) arg10 _ fullShare _ ?_) $$ H10
    rw [View.read_writes_cons_put _ _ _ _ _ h1, View.readAt_unit arg10.view _ _ h1 (blk_inb b1),
      View.read_writes_rep_unit _ _ _ _ h0, View.readAt_rep_unit arg10.view _ _ h0 (blk_inb b0)]
    rfl
  iapply (pointsTo_rep_of_read (c : Thread nD τ) arg11 _ fullShare _ ?_) $$ H11
  rw [View.read_writes_full]
  have eA : ∀ w : Vec F S512x128 .f32, arg11.view.readCov (Val := Elt F) [⟨Rect.unit (s := S512x128) ![0, 0] ![512, 128] inb_S512x128_S512x128_0_0, w⟩]
      (Rect.unit (s := S512x128) ![0, 0] ![512, 128] inb_S512x128_S512x128_0_0).toLoadRect = w := fun w => View.readCov_full arg11.view _ _ w []
  have eB : arg11.view.readAt (Elt F) (Rect.unit (s := S512x128) ![0, 0] ![512, 128] inb_S512x128_S512x128_0_0).toLoadRect
      (arg11.view.rep s.acc) = s.acc := View.readAt_rep_full arg11.view s.acc _
  rw [eA, eB]
  rfl
end

end Cert.KernelIdeal.SB
-- ==== Proof.Body.lean ====
module

public import proofs.«01_k».proof.Proof.Trip
public import Idealize.ShloMosaic.Lib.LoopRemainder

@[expose] public section

/-! One grid point of the kernel, run on the buffers held by value. -/
set_option maxRecDepth 16384
set_option maxHeartbeats 2000000

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

section
variable (𝒱 : Variants) (c : Dev nD) (bd : Option 𝒱.V) (i : grid0.Coords)
  (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x256 .f32) (harg5 : arg5.IsWhole) (arg6 : Memref sig .tc .vmem S1x1x8x128 .f32) (harg6 : arg6.IsWhole) (arg7 : Memref sig .tc .vmem S256x128 .f32) (harg7 : arg7.IsWhole) (arg8 : Memref sig .tc .vmem S256x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole)

/-- Before trip `k` the buffers and the carried pair hold the state after `k` trips. -/
def inv (q d : FVec F S512x128 .bf16) (K V : Vec F S2048x128 .bf16) (n : ℕ) (s : St F) (k : ℕ)
    (acc : FVec F S512x128 .f32 × FVec F S512x128 .f32) : sProp 𝕄G :=
  iprop(Held (F := F) c arg3 arg4 arg9 arg10 arg11 K V (run q d K V ((i 1).val - n) s k)
    ∗ ⌜acc = ((run q d K V ((i 1).val - n) s k).rc, (run q d K V ((i 1).val - n) s k).fc)⌝)

theorem inv_step (E : Set ℕ) (v6 : BitVec 32) (hw : k0_chk1 i v6) (v8 : BitVec 32) (q d : FVec F S512x128 .bf16)
    (t0 t1 : FVec F S256x128 .f32) (v60 : BitVec 32) (K V : Vec F S2048x128 .bf16) (s : St F)
    (k : Fin (k0_t1_loop i v6).trips) (acc : FVec F S512x128 .f32 × FVec F S512x128 .f32) :
    inv (F := F) c i arg3 arg4 arg9 arg10 arg11 q d K V (nTrips i v6) s k acc
      ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 (qw i) v6 hw v8 q d t0 t1 v60 k acc)
        (fun y => inv (F := F) c i arg3 arg4 arg9 arg10 arg11 q d K V (nTrips i v6) s (k + 1) y) := by
  have hk : k.val < nTrips i v6 := (t1_trips i v6) ▸ k.isLt
  have hn := nTrips_le i v6
  have h8 : (i 1).val < 8 := (i 1).isLt
  unfold inv
  iintro ⟨H, %h⟩
  subst h
  iapply (wp_wand_r Idealize.ShloMosaic.frame (wpE (defs₀ (F := F)) 𝒱 (c : Thread nD τ) bd) E)
  isplitl [H]
  · iapply (trip (F := F) 𝒱 c bd i arg2 harg2 arg3 harg3 arg4 harg4 arg5 harg5 arg6 harg6 arg7 harg7 arg8 harg8 arg9 harg9 arg10 harg10 arg11 harg11 v6 hw v8 q d t0 t1 v60 K V E k
      (run q d K V ((i 1).val - nTrips i v6) s k)
      (ublk (2 * ((i 1).val - nTrips i v6 + k.val))) (ublk (2 * ((i 1).val - nTrips i v6 + k.val) + 1)) ?_ ?_)
    · refine (off1_eq i v6 k 0).trans ?_
      unfold ublk; dsimp only
      rw [Nat.mod_eq_of_lt (by omega)]; rfl
    · refine (off1_eq i v6 k 1).trans ?_
      unfold ublk; dsimp only
      rw [Nat.mod_eq_of_lt (by omega)]; rfl
    iexact H
  · iintro %y ⟨%hy, H⟩
    isplitl [H]
    · iexact H
    ipureintro; exact hy

theorem cols_inb (o : ℕ) (h : o + 128 ≤ 256) : ∀ a, (![0, o] : Fin 2 → ℕ) a + S256x128.size a ≤ S256x256.size a := by
  intro a
  fin_cases a
  · show 0 + 256 ≤ 256; omega
  · exact h

/-- The 128 columns from column `o` of the 256. -/
def cols (X : Vec F S256x256 .f32) (o : ℕ) (h : o + 128 ≤ 256) : Vec F S256x128 .f32 :=
  VecWindow.window (s := S256x256) X ![0, o] S256x128.size (cols_inb o h)

/-- The two heads' totals, one below the other. -/
def tots (X : Vec F S256x256 .f32) : FVec F S512x128 .f32 :=
  k0_pay88 (k0_pay86 (cols X 0 (by omega))) (k0_pay87 (cols X 128 (by omega)))

/-- The test the kernel makes at the first grid point of a head pair. -/
def isFirst (i : grid0.Coords) : Prop :=
  Scalar.cmpi .ne (Scalar.extui (Scalar.cmpi .eq (qw i) 0#32) : BitVec 32) 0#32 = 1#1

instance : Decidable (isFirst i) := by unfold isFirst; infer_instance

/-- What a grid point leaves, of its six inputs and of the keys' and values' gradients before it. -/
def bodyPoint (x2 : Vec F S256x128 .bf16) (x3 x4 : Vec F S2048x128 .bf16) (x5 : Vec F S256x256 .f32)
    (x6 : Vec F S1x1x8x128 .f32) (x7 : Vec F S256x128 .f32) (x9 x10 : Vec F S2048x128 .f32) : St F :=
  point (k0_pay84 x2) (k0_pay85 x7) x3 x4 i (nTrips i (Scalar.fptosi 32 (k0_pay83 x6))) (tots x5)
    (if isFirst i then k0_pay92 else x9) (if isFirst i then k0_pay93 else x10)

/-- Everything a grid point touches, by value. -/
theorem body (E : Set ℕ) (x2 : Vec F S256x128 .bf16) (x3 x4 : Vec F S2048x128 .bf16) (x5 : Vec F S256x256 .f32)
    (x6 : Vec F S1x1x8x128 .f32) (x7 : Vec F S256x128 .f32) (f8 : arg8.view.ty.Contents (Elt F))
    (x9 x10 : Vec F S2048x128 .f32) (f11 : arg11.view.ty.Contents (Elt F)) :
    iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4)
      ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7)
      ∗ (arg8.view.loc (c : Thread nD τ) ↦[arg8.view.set]{fullShare} f8) ∗ (arg9.view.loc (c : Thread nD τ) ↦[arg9.view.set]{fullShare} arg9.view.rep x9) ∗ (arg10.view.loc (c : Thread nD τ) ↦[arg10.view.set]{fullShare} arg10.view.rep x10) ∗ (arg11.view.loc (c : Thread nD τ) ↦[arg11.view.set]{fullShare} f11))
      ⊢ (wp frame (wpE (defs₀ (F := F)) 𝒱 (c : Thread nD τ) bd) E
        (cc0_sb_bwd (F := F) i arg2 harg2 arg3 harg3 arg4 harg4 arg5 harg5 arg6 harg6 arg7 harg7 arg8 harg8 arg9 harg9 arg10 harg10 arg11 harg11)
        (fun _ => iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4)
          ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7)
          ∗ (arg8.view.loc (c : Thread nD τ) ↦[arg8.view.set]{fullShare} arg8.view.rep (k0_pay128 (bodyPoint i x2 x3 x4 x5 x6 x7 x9 x10).acc))
          ∗ (arg9.view.loc (c : Thread nD τ) ↦[arg9.view.set]{fullShare} arg9.view.rep (bodyPoint i x2 x3 x4 x5 x6 x7 x9 x10).dk)
          ∗ (arg10.view.loc (c : Thread nD τ) ↦[arg10.view.set]{fullShare} arg10.view.rep (bodyPoint i x2 x3 x4 x5 x6 x7 x9 x10).dv)
          ∗ (arg11.view.loc (c : Thread nD τ) ↦[arg11.view.set]{fullShare} arg11.view.rep (bodyPoint i x2 x3 x4 x5 x6 x7 x9 x10).acc))) : sProp 𝕄G) := by
  have hchk := chk_all i
  obtain ⟨Y9, hY9⟩ : ∃ Y, Y = if isFirst i then k0_pay92 (F := F) else x9 := ⟨_, rfl⟩
  obtain ⟨Y10, hY10⟩ : ∃ Y, Y = if isFirst i then k0_pay93 (F := F) else x10 := ⟨_, rfl⟩
  iintro ⟨H2, H3, H4, H5, H6, H7, H8, H9, H10, H11⟩
  have hZ9 := hY9
  have hZ10 := hY10
  by_cases hC : isFirst i
  case' pos =>
    rw [if_pos hC] at hY9 hY10
    unfold isFirst at hC
    sl_exec
    sl_unfold_run_names
    ihave H9 := (pointsTo_rep_of_read (c : Thread nD τ) arg9 _ fullShare Y9
      (by rw [hY9, View.read_writes_full])) $$ H9
    ihave H10 := (pointsTo_rep_of_read (c : Thread nD τ) arg10 _ fullShare Y10
      (by rw [hY10, View.read_writes_full])) $$ H10
    ihave H11 := (pointsTo_rep_of_read (c : Thread nD τ) arg11 _ fullShare k0_pay91
      (by rw [View.read_writes_full])) $$ H11
  case' neg =>
    rw [if_neg hC] at hY9 hY10
    unfold isFirst at hC
    sl_exec
    sl_unfold_run_names
    ihave H9 := (pointsTo_rep_of_read (c : Thread nD τ) arg9 _ fullShare Y9
      (by rw [hY9]; exact View.read_rep arg9.view x9)) $$ H9
    ihave H10 := (pointsTo_rep_of_read (c : Thread nD τ) arg10 _ fullShare Y10
      (by rw [hY10]; exact View.read_rep arg10.view x10)) $$ H10
    ihave H11 := (pointsTo_rep_of_read (c : Thread nD τ) arg11 _ fullShare k0_pay91
      (by rw [View.read_writes_full])) $$ H11
  all_goals
    generalize h2 : arg2.view.readAt (Elt F) (Rect.unit (s := S256x128) ![0, 0] S256x128.size inb_S256x128_S256x128_0_0).toLoadRect (arg2.view.rep x2) = y2
    obtain rfl : x2 = y2 := (View.readAt_rep_full arg2.view x2 _).symm.trans h2
    generalize h7 : arg7.view.readAt (Elt F) (Rect.unit (s := S256x128) ![0, 0] S256x128.size inb_S256x128_S256x128_0_0).toLoadRect (arg7.view.rep x7) = y7
    obtain rfl : x7 = y7 := (View.readAt_rep_full arg7.view x7 _).symm.trans h7
    generalize h6 : arg6.view.readAt (Elt F) (Rect.unit (s := S1x1x8x128) ![0, 0, 0, 0] S1x1x8x128.size inb_S1x1x8x128_S1x1x8x128_0_0_0_0).toLoadRect (arg6.view.rep x6) = y6
    obtain rfl : x6 = y6 := (View.readAt_rep_full arg6.view x6 _).symm.trans h6
    generalize h5 : arg5.view.readAt (Elt F) (Rect.unit (s := S256x256) ![0, 0] S256x128.size inb_S256x256_S256x128_0_0).toLoadRect (arg5.view.rep x5) = y5
    obtain rfl : cols x5 0 (by omega) = y5 := (View.readAt_rep_unit arg5.view x5 _ rfl (cols_inb 0 (by omega))).symm.trans h5
    generalize h5' : arg5.view.readAt (Elt F) (Rect.unit (s := S256x256) ![0, 128] S256x128.size inb_S256x256_S256x128_0_128).toLoadRect (arg5.view.rep x5) = y5'
    obtain rfl : cols x5 128 (by omega) = y5' := (View.readAt_rep_unit arg5.view x5 _ rfl (cols_inb 128 (by omega))).symm.trans h5'
    sl_for (inv (F := F) c i arg3 arg4 arg9 arg10 arg11 (k0_pay84 x2) (k0_pay85 x7) x3 x4
      (nTrips i (Scalar.fptosi 32 (k0_pay83 x6))) ⟨tots x5, k0_pay94, k0_pay91, Y9, Y10⟩) $$ [H3 H4 H9 H10 H11]
    · intro k acc
      exact inv_step (F := F) 𝒱 c bd i arg2 harg2 arg3 harg3 arg4 harg4 arg5 harg5 arg6 harg6 arg7 harg7 arg8 harg8 arg9 harg9 arg10 harg10 arg11 harg11 E _ _ _ _ _ _ _ _ _ _ _ k acc
    · unfold inv Held
      isplitl [H3 H4 H9 H10 H11]
      · isplitl [H3]
        · iexact H3
        isplitl [H4]
        · iexact H4
        isplitl [H9]
        · iexact H9
        isplitl [H10]
        · iexact H10
        iexact H11
      ipureintro; rfl
    iintro %acc HI
    unfold inv Held
    icases HI with ⟨⟨H3, H4, H9, H10, H11⟩, %hacc⟩
    subst hacc
    rw [show Scf.trips (k0_t1_loop i (Scalar.fptosi 32 (k0_pay83 x6))).lb (k0_t1_loop i (Scalar.fptosi 32 (k0_pay83 x6))).ub
      (k0_t1_loop i (Scalar.fptosi 32 (k0_pay83 x6))).st = nTrips i (Scalar.fptosi 32 (k0_pay83 x6)) from t1_trips _ _]
    generalize hs : run (k0_pay84 x2) (k0_pay85 x7) x3 x4 ((i 1).val - nTrips i (Scalar.fptosi 32 (k0_pay83 x6)))
      ⟨tots x5, k0_pay94, k0_pay91, Y9, Y10⟩ (nTrips i (Scalar.fptosi 32 (k0_pay83 x6))) = s'
    sl_exec
    sl_step
    have ek0 : arg3.view.readAt (Elt F) (Rect.unit (s := S2048x128) (k0_off3 i 0#32) S128x128.size (k0_off3_inb i 0)).toLoadRect (arg3.view.rep x3) = blk x3 (dblk i 0) :=
      View.readAt_rep_unit arg3.view x3 _ (off3_eq i 0) (blk_inb (dblk i 0))
    have ek1 : arg3.view.readAt (Elt F) (Rect.unit (s := S2048x128) (k0_off3 i 1#32) S128x128.size (k0_off3_inb i 1)).toLoadRect (arg3.view.rep x3) = blk x3 (dblk i 1) :=
      View.readAt_rep_unit arg3.view x3 _ (off3_eq i 1) (blk_inb (dblk i 1))
    have ev0 : arg4.view.readAt (Elt F) (Rect.unit (s := S2048x128) (k0_off3 i 0#32) S128x128.size (k0_off3_inb i 0)).toLoadRect (arg4.view.rep x4) = blk x4 (dblk i 0) :=
      View.readAt_rep_unit arg4.view x4 _ (off3_eq i 0) (blk_inb (dblk i 0))
    have ev1 : arg4.view.readAt (Elt F) (Rect.unit (s := S2048x128) (k0_off3 i 1#32) S128x128.size (k0_off3_inb i 1)).toLoadRect (arg4.view.rep x4) = blk x4 (dblk i 1) :=
      View.readAt_rep_unit arg4.view x4 _ (off3_eq i 1) (blk_inb (dblk i 1))
    sl_unfold_run_names
    simp only [ek0, ek1, ev0, ev1]
    have eA : ∀ w : Vec F S512x128 .f32, arg11.view.readCov (Val := Elt F) [⟨Rect.unit (s := S512x128) ![0, 0] ![512, 128] inb_S512x128_S512x128_0_0, w⟩]
        (Rect.unit (s := S512x128) ![128, 0] ![128, 128] inb_S512x128_S128x128_128_0).toLoadRect = rows w 128 (by omega) := by
      intro w
      refine (View.readAt_unit arg11.view _ _ rfl (row_inb 128 (by omega))).trans ?_
      rw [View.read_writes_full]; rfl
    have eB : ∀ w : Vec F S512x128 .f32, ∀ u : Vec F S128x128 .f32,
        arg11.view.readCov (Val := Elt F) [⟨Rect.unit (s := S512x128) ![128, 0] ![128, 128] inb_S512x128_S128x128_128_0, u⟩,
          ⟨Rect.unit (s := S512x128) ![0, 0] ![512, 128] inb_S512x128_S512x128_0_0, w⟩]
        (Rect.unit (s := S512x128) ![384, 0] ![128, 128] inb_S512x128_S128x128_384_0).toLoadRect = rows (setRows w 128 u) 384 (by omega) := by
      intro w u
      refine (View.readAt_unit arg11.view _ _ rfl (row_inb 384 (by omega))).trans ?_
      rw [View.read_writes_cons_put _ _ _ _ _ rfl, View.read_writes_full]; rfl
    have eC : ∀ f, ∀ w : Vec F S512x128 .f32, ∀ u u' : Vec F S128x128 .f32,
        arg11.view.read (Elt F) (arg11.view.writes (Elt F) f [⟨Rect.unit (s := S512x128) ![384, 0] ![128, 128] inb_S512x128_S128x128_384_0, u'⟩,
          ⟨Rect.unit (s := S512x128) ![128, 0] ![128, 128] inb_S512x128_S128x128_128_0, u⟩,
          ⟨Rect.unit (s := S512x128) ![0, 0] ![512, 128] inb_S512x128_S512x128_0_0, w⟩]) = setRows (setRows w 128 u) 384 u' := by
      intro f w u u'
      rw [View.read_writes_cons_put _ _ _ _ _ rfl, View.read_writes_cons_put _ _ _ _ _ rfl, View.read_writes_full]; rfl
    have eD : ∀ w : Vec F S512x128 .f32, ∀ u u' : Vec F S128x128 .f32,
        arg11.view.readCov (Val := Elt F) [⟨Rect.unit (s := S512x128) ![384, 0] ![128, 128] inb_S512x128_S128x128_384_0, u'⟩,
          ⟨Rect.unit (s := S512x128) ![128, 0] ![128, 128] inb_S512x128_S128x128_128_0, u⟩,
          ⟨Rect.unit (s := S512x128) ![0, 0] ![512, 128] inb_S512x128_S512x128_0_0, w⟩]
        (Rect.unit (s := S512x128) ![0, 0] ![512, 128] inb_S512x128_S512x128_0_0).toLoadRect = setRows (setRows w 128 u) 384 u' :=
      fun w u u' => (View.readAt_full arg11.view _ _).trans (eC _ w u u')
    have eE : arg11.view.readAt (Elt F) (Rect.unit (s := S512x128) ![0, 0] ![512, 128] inb_S512x128_S512x128_0_0).toLoadRect
        (arg11.view.rep s'.acc) = s'.acc := View.readAt_rep_full arg11.view s'.acc _
    have hP : bodyPoint i x2 x3 x4 x5 x6 x7 x9 x10
        = stepD1 (k0_pay84 x2) (k0_pay85 x7) x3 x4 i s'.fc (stepD0 (k0_pay84 x2) (k0_pay85 x7) x3 x4 i s') := by
      unfold bodyPoint point
      rw [← hZ9, ← hZ10, hs]
    simp only [eA, eB, eD, eE]
    rw [hP]
    isplitl [H2]; · iexact H2
    isplitl [H3]; · iexact H3
    isplitl [H4]; · iexact H4
    isplitl [H5]; · iexact H5
    isplitl [H6]; · iexact H6
    isplitl [H7]; · iexact H7
    isplitl [H8]
    · iapply (pointsTo_rep_of_read (c : Thread nD τ) arg8 _ fullShare _ ?_) $$ H8
      rw [View.read_writes_full]
      rfl
    isplitl [H9]
    · iapply (pointsTo_rep_of_read (c : Thread nD τ) arg9 _ fullShare _ ?_) $$ H9
      have h1 : arg9.view.readAt (Elt F) (Rect.unit (s := S2048x128) (k0_off3 i 1#32) ![128, 128] (k0_off3_inb i 1)).toLoadRect
          (arg9.view.rep s'.dk) = blk s'.dk (dblk i 1) := View.readAt_rep_unit arg9.view s'.dk _ (off3_eq i 1) (blk_inb (dblk i 1))
      have h0 : arg9.view.readAt (Elt F) (Rect.unit (s := S2048x128) (k0_off3 i 0#32) ![128, 128] (k0_off3_inb i 0)).toLoadRect
          (arg9.view.rep s'.dk) = blk s'.dk (dblk i 0) := View.readAt_rep_unit arg9.view s'.dk _ (off3_eq i 0) (blk_inb (dblk i 0))
      rw [h1, h0, View.read_writes_cons_put _ _ _ _ _ (off3_eq i 1), View.read_writes_rep_unit _ _ _ _ (off3_eq i 0)]
      show _ = setBlk (setBlk s'.dk (dblk i 0) _) (dblk i 1) (k0_pay126 _ _ (blk (setBlk s'.dk (dblk i 0) _) (dblk i 1)))
      rw [blk_setBlk_ne _ _ _ _ (fun e => absurd (congrArg Fin.val e) (by show ¬(2 * (i 1).val + 0 = 2 * (i 1).val + 1); omega))]
      rfl
    isplitl [H10]
    · iapply (pointsTo_rep_of_read (c : Thread nD τ) arg10 _ fullShare _ ?_) $$ H10
      have h1 : arg10.view.readAt (Elt F) (Rect.unit (s := S2048x128) (k0_off3 i 1#32) ![128, 128] (k0_off3_inb i 1)).toLoadRect
          (arg10.view.rep s'.dv) = blk s'.dv (dblk i 1) := View.readAt_rep_unit arg10.view s'.dv _ (off3_eq i 1) (blk_inb (dblk i 1))
      have h0 : arg10.view.readAt (Elt F) (Rect.unit (s := S2048x128) (k0_off3 i 0#32) ![128, 128] (k0_off3_inb i 0)).toLoadRect
          (arg10.view.rep s'.dv) = blk s'.dv (dblk i 0) := View.readAt_rep_unit arg10.view s'.dv _ (off3_eq i 0) (blk_inb (dblk i 0))
      rw [h1, h0, View.read_writes_cons_put _ _ _ _ _ (off3_eq i 1), View.read_writes_rep_unit _ _ _ _ (off3_eq i 0)]
      show _ = setBlk (setBlk s'.dv (dblk i 0) _) (dblk i 1) (k0_pay127 _ _ (blk (setBlk s'.dv (dblk i 0) _) (dblk i 1)))
      rw [blk_setBlk_ne _ _ _ _ (fun e => absurd (congrArg Fin.val e) (by show ¬(2 * (i 1).val + 0 = 2 * (i 1).val + 1); omega))]
      rfl
    iapply (pointsTo_rep_of_read (c : Thread nD τ) arg11 _ fullShare _ ?_) $$ H11
    rw [eC]
    rfl
end

end Cert.KernelIdeal.SB
-- ==== Proof.Run.lean ====
module

public import proofs.«01_k».proof.Proof.Body
public import proofs.«01_k».proof.Proof.Gen.KernelIdeal.Frame
public import proofs.«01_k».proof.Proof.Gen.KernelIdeal.Points
public import Idealize.ShloMosaic.Lib.Pipeline.TableIdle
public import Idealize.ShloMosaic.Adequacy
public import Idealize.ShloMosaic.Lib.Claim

@[expose] public section

/-! The whole launch: what each grid point leaves, and what the run ends with. -/
set_option maxRecDepth 16384
set_option maxHeartbeats 400000

noncomputable section

namespace Cert.KernelIdeal.SB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first of the eight query blocks of a head pair resets the keys' and values' gradients. -/
theorem isFirst_iff : ∀ t : Fin cfg0.N, isFirst (grid0.coords t) ↔ t.val % 8 = 0 :=
  (by decide +kernel : ∀ t : Fin grid0.N, isFirst (grid0.coords t) ↔ t.val % 8 = 0)

/-- There the gradients before it do not count. -/
theorem bodyPoint_first (i : grid0.Coords) (h : isFirst i) (x2 : Vec F S256x128 .bf16) (x3 x4 : Vec F S2048x128 .bf16)
    (x5 : Vec F S256x256 .f32) (x6 : Vec F S1x1x8x128 .f32) (x7 : Vec F S256x128 .f32) (x9 x10 y9 y10 : Vec F S2048x128 .f32) :
    bodyPoint i x2 x3 x4 x5 x6 x7 x9 x10 = bodyPoint i x2 x3 x4 x5 x6 x7 y9 y10 := by
  unfold bodyPoint
  rw [if_pos h, if_pos h, if_pos h, if_pos h]

/-- The body's triple, each buffer owned at what it reads. -/
theorem body_owns (c : Dev nD) (i : grid0.Coords) (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x256 .f32) (harg5 : arg5.IsWhole) (arg6 : Memref sig .tc .vmem S1x1x8x128 .f32) (harg6 : arg6.IsWhole) (arg7 : Memref sig .tc .vmem S256x128 .f32) (harg7 : arg7.IsWhole) (arg8 : Memref sig .tc .vmem S256x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x128 .f32) (harg11 : arg11.IsWhole)
    (x2 : Vec F S256x128 .bf16) (x3 x4 : Vec F S2048x128 .bf16) (x5 : Vec F S256x256 .f32)
    (x6 : Vec F S1x1x8x128 .f32) (x7 : Vec F S256x128 .f32) (x8 : Vec F S256x128 .bf16) (x9 x10 : Vec F S2048x128 .f32)
    (f11 : arg11.view.ty.Contents (Elt F)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} f11))
      ⊢ (wp Idealize.ShloMosaic.frame (wpE (defs₀ (F := F)) Variants.none (c : Thread nD τ) none) Set.univ (cc0_sb_bwd (F := F) i arg2 harg2 arg3 harg3 arg4 harg4 arg5 harg5 arg6 harg6 arg7 harg7 arg8 harg8 arg9 harg9 arg10 harg10 arg11 harg11)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay128 (bodyPoint i x2 x3 x4 x5 x6 x7 x9 x10).acc)
          ∗ owns (c : Thread nD τ) arg9 fullShare (bodyPoint i x2 x3 x4 x5 x6 x7 x9 x10).dk ∗ owns (c : Thread nD τ) arg10 fullShare (bodyPoint i x2 x3 x4 x5 x6 x7 x9 x10).dv ∗ (∃ g, arg11.view.loc (c : Thread nD τ) ↦[arg11.view.set]{fullShare} g))) : sProp 𝕄) := by
  simp only [owns_eq_rep]
  generalize hP : bodyPoint i x2 x3 x4 x5 x6 x7 x9 x10 = P
  have hb := body (F := F) Variants.none c none i arg2 harg2 arg3 harg3 arg4 harg4 arg5 harg5 arg6 harg6 arg7 harg7 arg8 harg8 arg9 harg9 arg10 harg10 arg11 harg11 Set.univ x2 x3 x4 x5 x6 x7 (arg8.view.rep x8) x9 x10 f11
  rw [hP] at hb
  iintro H
  iapply (wp_wand_r Idealize.ShloMosaic.frame (wpE (defs₀ (F := F)) Variants.none (c : Thread nD τ) none) Set.univ)
  isplitl [H]
  · iapply hb
    iexact H
  · iintro %y ⟨H2, H3, H4, H5, H6, H7, H8, H9, H10, H11⟩
    (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9); (isplitl [H10]; · iexact H10)
    iexists _; iexact H11

/-- What the body does with its blocks at point `t`. -/
def leave (c : Dev nD) (t : Fin cfg0.N) (x9 x10 : Vec F S2048x128 .f32) : St F :=
  bodyPoint (grid0.coords t) (iblk m c 0 t) (iblk m c 1 t) (iblk m c 2 t) (iblk m c 3 t) (iblk m c 4 t) (iblk m c 5 t) x9 x10

/-- What each grid point leaves, from the first on. -/
def outs (c : Dev nD) : (n : ℕ) → n < cfg0.N → St F
  | 0, h => leave m c ⟨0, h⟩ (k0_pay92 (F := F)) (k0_pay93 (F := F))
  | n + 1, h => leave m c ⟨n + 1, h⟩ (outs c n (Nat.lt_of_succ_lt h)).dk (outs c n (Nat.lt_of_succ_lt h)).dv

theorem outs_first (c : Dev nD) (t : Fin cfg0.N) (h : t.val % 8 = 0) (x9 x10 : Vec F S2048x128 .f32) :
    leave m c t x9 x10 = outs m c t.val t.isLt := by
  obtain ⟨n, hn⟩ := t
  cases n with
  | zero => exact bodyPoint_first _ ((isFirst_iff _).mpr h) _ _ _ _ _ _ _ _ _ _
  | succ n => exact bodyPoint_first _ ((isFirst_iff _).mpr h) _ _ _ _ _ _ _ _ _ _

theorem outs_next (c : Dev nD) (t : Fin cfg0.N) (h : t.val ≠ 0) (hp : t.val - 1 < cfg0.N) :
    leave m c t (outs m c (t.val - 1) hp).dk (outs m c (t.val - 1) hp).dv = outs m c t.val t.isLt := by
  obtain ⟨n, hn⟩ := t
  cases n with
  | zero => exact absurd rfl h
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay128 (outs m c t.val t.isLt).acc
    | ⟨7, _⟩ => (outs m c t.val t.isLt).dk
    | ⟨8, _⟩ => (outs m c t.val t.isLt).dv
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay128 (outs m c t.val t.isLt).acc := by dsimp only [dats]
theorem after0_7 (c : Dev nD) (t : Fin cfg0.N) : (dats m 0 c).after 7 t = (outs m c t.val t.isLt).dk := by dsimp only [dats]
theorem after0_8 (c : Dev nD) (t : Fin cfg0.N) : (dats m 0 c).after 8 t = (outs m c t.val t.isLt).dv := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem before0_7 (c : Dev nD) (t : Fin cfg0.N) (h : t.val % 8 ≠ 0) (hp : t.val - 1 < cfg0.N) (d) :
    (dats m 0 c).before 7 t d = (outs m c (t.val - 1) hp).dk :=
  ((dats m 0 c).before_out_kept 7 rfl t (by omega) (Bool.eq_false_iff.mpr fun e => by have := (flush0_7 _).mp e; dsimp only at this; omega)
    (fun _ => rfl) (fun _ _ => rfl) d).trans (after0_7 m c _)
theorem before0_8 (c : Dev nD) (t : Fin cfg0.N) (h : t.val % 8 ≠ 0) (hp : t.val - 1 < cfg0.N) (d) :
    (dats m 0 c).before 8 t d = (outs m c (t.val - 1) hp).dv :=
  ((dats m 0 c).before_out_kept 8 rfl t (by omega) (Bool.eq_false_iff.mpr fun e => by have := (flush0_8 _).mp e; dsimp only at this; omega)
    (fun _ => rfl) (fun _ _ => rfl) d).trans (after0_8 m c _)

/-- Whatever the two running buffers hold before the body, it leaves what `outs` says. -/
theorem leave_before (c : Dev nD) (t : Fin cfg0.N) (d7 : Vec F S2048x128 .f32) (d8 : Vec F S2048x128 .f32) :
    leave m c t ((dats m 0 c).before 7 t d7) ((dats m 0 c).before 8 t d8) = outs m c t.val t.isLt := by
  by_cases h : t.val % 8 = 0
  · exact outs_first m c t h _ _
  · have hp : t.val - 1 < cfg0.N := by have := t.isLt; omega
    rw [before0_7 m c t h hp, before0_8 m c t h hp]
    exact outs_next m c t (by omega) hp

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8]
  unfold Pipeline.ΦA
  rw [scopedRest0_eq]
  iintro ⟨⟨⟨%f, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← leave_before m c t d7 d8]
  unfold leave
  generalize iblk m c 0 t = y0
  generalize iblk m c 1 t = y1
  generalize iblk m c 2 t = y2
  generalize iblk m c 3 t = y3
  generalize iblk m c 4 t = y4
  generalize iblk m c 5 t = y5
  generalize (dats m 0 c).before 6 t d6 = y6
  generalize (dats m 0 c).before 7 t d7 = y7
  generalize (dats m 0 c).before 8 t d8 = y8
  have hb := body_owns (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (Memref.whole cc0_scratch0) (Memref.isWhole_whole _) y0 y1 y2 y3 y4 y5 y6 y7 y8 f
  rw [show (Memref.whole cc0_scratch0 : Memref sig .tc _ _ _).view.set = Finset.univ from View.set_whole cc0_scratch0] at hb
  generalize bodyPoint (grid0.coords t) y0 y1 y2 y3 y4 y5 y7 y8 = P at hb ⊢
  iapply (wp_wand_r Idealize.ShloMosaic.frame (wpE (defs₀ (F := F)) Variants.none (c : Thread nD τ) none) Set.univ)
  isplitl [H0 H1 H2 H3 H4 H5 H6 H7 H8 Hs]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hs
  · iintro %y ⟨H0, H1, H2, H3, H4, H5, H6, H7, H8, Hs⟩
    isplitl [Hs Hg]
    · isplitl [Hs]
      · iexact Hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch ends with every array as the grid points left it and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end as they began, and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.SB
-- ==== Proof.Frames.lean ====
/- The frames of the claim: the kernel at the machine's words and over the reals, and the reference. -/
module

public import proofs.«01_k».proof.Defs
public import proofs.«01_k».proof.Proof.Run
public import proofs.«01_k».proof.Proof.Gen.Kernel
public import proofs.«01_k».proof.Proof.Gen.ReferenceIdeal.Run

@[expose] public section

set_option maxRecDepth 16384

noncomputable section

namespace Cert.Proof

open Idealize.ShloMosaic Idealize.SL.Sem

/-- The kernel over the reals leaves its arguments alone and every counter at zero. -/
theorem frame_kernelIdeal : Cert.quiescent_KernelIdeal (hKernelIdeal := Cert.KernelIdeal.Gen.facts) :=
  fun m ρ _ => Cert.KernelIdeal.SB.frame_main m ρ

set_option maxHeartbeats 4000000 in
/-- The two prints of the kernel have the same function at a grid point, -/
theorem body_eq : @Cert.KernelIdeal.cc0_sb_bwd Bits _ _ = @Cert.Kernel.cc0_sb_bwd Bits _ _ := rfl

set_option maxHeartbeats 4000000 in
/-- so the same table of functions, -/
theorem defs₀_eq : @Cert.KernelIdeal.defs₀ Bits _ _ = @Cert.Kernel.defs₀ Bits _ _ := by
  unfold Cert.KernelIdeal.defs₀ Cert.Kernel.defs₀
  refine congrArg Defs.onTc (funext fun l => funext fun x => ?_)
  match l, x with
  | 0, (_, _) => rfl

theorem defs_eq : @Cert.KernelIdeal.defs Bits _ _ = @Cert.Kernel.defs Bits _ _ :=
  congrArg (Pipeline.defs (Cert.KernelIdeal.pcfgs (F := Bits))) defs₀_eq

set_option maxHeartbeats 4000000 in
/-- and the same host code. -/
theorem main_eq : @Cert.KernelIdeal.main Bits _ _ = @Cert.Kernel.main Bits _ _ := rfl

/-- The kernel at the machine's words is the same program, so the same run serves it. -/
theorem frame_kernel : Cert.quiescent_Kernel (hKernel := Cert.Kernel.Gen.facts) := fun m ρ _ =>
  (congrArg₂ (fun d p => θ_run d (onTc (τ := Cert.KernelIdeal.τ) p) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) defs_eq main_eq).mp (Cert.KernelIdeal.SB.frame_main (F := Bits) m ρ)

/-- The reference leaves its arguments alone and every counter at zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2, sem_eq_zero_of_no_sems (by decide) r.2⟩) (Cert.ReferenceIdeal.Value.run m ρ)

end Cert.Proof

end
-- ==== Proof.Stick.lean ====
module

public import Mathlib.Analysis.SpecialFunctions.Log.Basic
public import Mathlib.Algebra.BigOperators.Fin
public import Mathlib.Algebra.BigOperators.Intervals

@[expose] public section

/-! Stick-breaking attention of one query over the reals: the weights, and the gradient of the
logits.

`z s` is the logit of key `s`, `g s` the gradient of its weight, and the query sits at position `T`,
so that it sees the keys before `T`. There are 2048 keys. -/

noncomputable section

namespace Stick

/-- `log (1 + exp (-|x|))`. -/
def tail (x : ℝ) : ℝ := Real.log (1 + Real.exp (-|x|))

/-- The logarithm of the sigmoid of `x`. -/
def logSig (x : ℝ) : ℝ := min x 0 - tail x

/-- The logarithm of one minus the sigmoid of `x`. -/
def logKeep (x : ℝ) : ℝ := min (-x) 0 - tail x

theorem one_add_pos (x : ℝ) : 0 < 1 + Real.exp (-|x|) := by positivity

/-- The sigmoid and its complement sum to one. -/
theorem exp_logKeep (x : ℝ) : Real.exp (logKeep x) = 1 - Real.exp (logSig x) := by
  have h := one_add_pos x
  have ht : Real.exp (-tail x) = (1 + Real.exp (-|x|))⁻¹ := by
    rw [tail, Real.exp_neg, Real.exp_log h]
  have h1 : Real.exp (logKeep x) = Real.exp (min (-x) 0) * (1 + Real.exp (-|x|))⁻¹ := by
    rw [logKeep, sub_eq_add_neg, Real.exp_add, ht]
  have h2 : Real.exp (logSig x) = Real.exp (min x 0) * (1 + Real.exp (-|x|))⁻¹ := by
    rw [logSig, sub_eq_add_neg, Real.exp_add, ht]
  rw [h1, h2]
  rcases le_total 0 x with hx | hx
  · rw [min_eq_right hx, min_eq_left (by linarith : -x ≤ 0), abs_of_nonneg hx] at *
    field_simp
    rw [Real.exp_zero]; ring
  · rw [min_eq_left hx, min_eq_right (by linarith : (0:ℝ) ≤ -x), abs_of_nonpos hx, neg_neg] at *
    field_simp
    rw [Real.exp_zero]; ring

section Row
variable (z g : ℕ → ℝ) (T : ℕ)

/-- What key `s` leaves of the stick, as a logarithm. -/
def keep (s : ℕ) : ℝ := if s < T then logKeep (z s) else 0

/-- The logarithm of what all the keys leave. -/
def total : ℝ := ∑ j ∈ Finset.range 2048, keep z T j

/-- The logarithm of what the keys after `s` leave. -/
def later (s : ℕ) : ℝ := total z T - ∑ j ∈ Finset.range (s + 1), keep z T j

/-- The weight of key `s`. -/
def wt (s : ℕ) : ℝ := if s < T then Real.exp (logSig (z s) + later z T s) else 0

/-- The gradient of the weight's logarithm. -/
def ew (s : ℕ) : ℝ := wt z T s * g s

/-- The gradient of the logit of key `s`. -/
def dlog (s : ℕ) : ℝ :=
  if s < T then ew z g T s * (1 - Real.exp (logSig (z s)))
    - (∑ j ∈ Finset.range s, ew z g T j) * Real.exp (logSig (z s)) else 0

end Row

/-- A sum over a block of 128 numbers. -/
theorem sum_block (f : ℕ → ℝ) (b : ℕ) :
    ∑ j ∈ Finset.range (128 * (b + 1)), f j = ∑ j ∈ Finset.range (128 * b), f j + ∑ l : Fin 128, f (128 * b + l.val) := by
  rw [Nat.mul_succ, Finset.sum_range_add, Finset.sum_range (fun i => f (128 * b + i))]

/-- The start of a block, up to and with its number `c`, and the rest of it. -/
theorem sum_after (f : ℕ → ℝ) (b : ℕ) (c : Fin 128) :
    ∑ j ∈ Finset.range (128 * b + c.val + 1), f j + ∑ l : Fin 128, f (128 * b + l.val) * (if c < l then 1 else 0)
      = ∑ j ∈ Finset.range (128 * (b + 1)), f j := by
  rw [sum_block, add_assoc, Finset.sum_range_add, add_assoc]
  congr 1
  rw [Finset.sum_range (fun i => f (128 * b + i))]
  have hc : c.val + 1 ≤ 128 := c.isLt
  have h1 : ∑ i : Fin (c.val + 1), f (128 * b + i.val) = ∑ l : Fin 128, f (128 * b + l.val) * (if l ≤ c then 1 else 0) := by
    rw [← Finset.sum_range (fun i => f (128 * b + i))]
    have : ∀ l : Fin 128, f (128 * b + l.val) * (if l ≤ c then (1:ℝ) else 0) = (fun i : ℕ => if i ≤ c.val then f (128 * b + i) else 0) l.val := by
      intro l
      by_cases h : l ≤ c
      · simp [h, Fin.le_def.mp h]
      · have h' : ¬ l.val ≤ c.val := fun e => h (Fin.le_def.mpr e)
        simp [h, h']
    rw [Finset.sum_congr rfl fun l _ => this l, ← Finset.sum_range (fun i : ℕ => if i ≤ c.val then f (128 * b + i) else 0),
      ← Finset.sum_filter]
    refine Finset.sum_congr ?_ fun _ _ => rfl
    ext i
    simp only [Finset.mem_range, Finset.mem_filter]
    omega
  rw [h1, ← Finset.sum_add_distrib]
  refine Finset.sum_congr rfl fun l _ => ?_
  by_cases h : l ≤ c
  · simp [h, not_lt.mpr h]
  · simp [h, not_le.mp h]

/-- The start of a block before its number `c`. -/
theorem sum_before (f : ℕ → ℝ) (b : ℕ) (c : Fin 128) :
    ∑ j ∈ Finset.range (128 * b), f j + ∑ l : Fin 128, f (128 * b + l.val) * (if l < c then 1 else 0)
      = ∑ j ∈ Finset.range (128 * b + c.val), f j := by
  have h := sum_after f b c
  have h0 : ∑ l : Fin 128, f (128 * b + l.val) = ∑ l : Fin 128, f (128 * b + l.val) * (if l < c then 1 else 0)
      + f (128 * b + c.val) + ∑ l : Fin 128, f (128 * b + l.val) * (if c < l then 1 else 0) := by
    rw [show f (128 * b + c.val) = ∑ l : Fin 128, f (128 * b + l.val) * (if l = c then 1 else 0) by simp,
      ← Finset.sum_add_distrib, ← Finset.sum_add_distrib]
    refine Finset.sum_congr rfl fun l _ => ?_
    rcases lt_trichotomy l c with h | h | h
    · simp [h, h.ne, h.le.not_gt]
    · simp [h]
    · simp [h, h.ne', h.le.not_gt]
  rw [sum_block, Finset.sum_range_succ] at h
  linarith

/-! One block of 128 keys for many queries at once. `q`, `d` are the queries' rows, `k`, `v` the
block's, `ok` says which keys a query sees, `rc` is the logarithm of what is left before the block
and `fc` the running sum of the weights' gradients. -/
section Block
variable {R : Type} [Fintype R] (q d : R → Fin 128 → ℝ) (k v : Fin 128 → Fin 128 → ℝ) (ok : R → Fin 128 → Prop)
  [∀ r c, Decidable (ok r c)] (rc fc : R → Fin 128 → ℝ)

def bz (r : R) (c : Fin 128) : ℝ := ∑ l, q r l * k c l
def bkeep (r : R) (c : Fin 128) : ℝ := if ok r c then logKeep (bz q k r c) else 0
def brc (r : R) (c : Fin 128) : ℝ := rc r c - ∑ l, bkeep q k ok r l
def bwt (r : R) (c : Fin 128) : ℝ :=
  if ok r c then Real.exp (logSig (bz q k r c) + brc q k ok rc r c + ∑ l, bkeep q k ok r l * (if c < l then 1 else 0)) else 0
def bew (r : R) (c : Fin 128) : ℝ := bwt q k ok rc r c * ∑ l, d r l * v c l
def bsum (r : R) (_ : Fin 128) : ℝ := ∑ l, bew q d k v ok rc r l
def bdlog (r : R) (c : Fin 128) : ℝ :=
  if ok r c then bew q d k v ok rc r c * (1 - Real.exp (logSig (bz q k r c)))
    - (fc r c + ∑ l, bew q d k v ok rc r l * (if l < c then 1 else 0)) * Real.exp (logSig (bz q k r c)) else 0

/-- What a block computes is what the definitions say of its keys. -/
theorem block (z g : R → ℕ → ℝ) (T : R → ℕ) (b : ℕ)
    (hz : ∀ r c, ∑ l, q r l * k c l = z r (128 * b + c.val)) (hg : ∀ r c, ∑ l, d r l * v c l = g r (128 * b + c.val))
    (hok : ∀ r c, ok r c ↔ 128 * b + c.val < T r)
    (hrc : ∀ r c, rc r c = total (z r) (T r) - ∑ j ∈ Finset.range (128 * b), keep (z r) (T r) j)
    (hfc : ∀ r c, fc r c = ∑ j ∈ Finset.range (128 * b), ew (z r) (g r) (T r) j) (r : R) (c : Fin 128) :
    brc q k ok rc r c = total (z r) (T r) - ∑ j ∈ Finset.range (128 * (b + 1)), keep (z r) (T r) j
    ∧ bwt q k ok rc r c = wt (z r) (T r) (128 * b + c.val)
    ∧ fc r c + bsum q d k v ok rc r c = ∑ j ∈ Finset.range (128 * (b + 1)), ew (z r) (g r) (T r) j
    ∧ bdlog q d k v ok rc fc r c = dlog (z r) (g r) (T r) (128 * b + c.val) := by
  have hk : ∀ c, bkeep q k ok r c = keep (z r) (T r) (128 * b + c.val) := fun c => by
    simp only [bkeep, keep, bz, hz, hok]
  have hr : ∀ c, brc q k ok rc r c = total (z r) (T r) - ∑ j ∈ Finset.range (128 * (b + 1)), keep (z r) (T r) j := fun c => by
    rw [brc, hrc, sum_block]; simp only [hk]; ring
  have hw : ∀ c, bwt q k ok rc r c = wt (z r) (T r) (128 * b + c.val) := fun c => by
    have := sum_after (keep (z r) (T r)) b c
    have e : brc q k ok rc r c + ∑ l, bkeep q k ok r l * (if c < l then 1 else 0) = later (z r) (T r) (128 * b + c.val) := by
      rw [hr, later]
      simp only [hk]
      linarith
    simp only [bwt, wt, hok, add_assoc, e]
    simp only [bz, hz]
  have he : ∀ c, bew q d k v ok rc r c = ew (z r) (g r) (T r) (128 * b + c.val) := fun c => by
    rw [bew, ew, hw, hg]
  refine ⟨hr c, hw c, ?_, ?_⟩
  · rw [bsum, hfc, sum_block]; simp only [he]
  · have := sum_before (ew (z r) (g r) (T r)) b c
    simp only [bdlog, dlog, hok, hfc, he, this]
    simp only [bz, hz]

end Block

end Stick
-- ==== Proof.Up.lean ====
module

public import proofs.«01_k».proof.Proof.Gen.KernelIdeal.Skeleton
public import Idealize.ShloMosaic.Lib.Pointwise
public import proofs.«01_k».proof.Proof.Stick

@[expose] public section

/-! Arrays of reals, and the kernel's operations on them: each gives again an array of reals. -/
set_option maxRecDepth 16384

noncomputable section

namespace Cert.KernelIdeal.SB

open Idealize.ShloMosaic Cert.KernelIdeal Cert.KernelIdeal.Gen

/-- A matrix of reals as an array of extended reals. -/
def up (φ : FTy) {m n : ℕ} (A : Fin m → Fin n → ℝ) : FVec Ideal ⟨2, ![m, n]⟩ φ :=
  fun j => ((A (j 0) (j 1) : ℝ) : EReal)

theorem up_at {φ : FTy} {m n : ℕ} (A : Fin m → Fin n → ℝ) (r : Fin m) (c : Fin n) : up φ A (ix2 r c) = ((A r c : ℝ) : EReal) := rfl

/-- A finite sum of reals, in the extended reals. -/
theorem coe_sum {ι : Type} (s : Finset ι) (f : ι → ℝ) : ∑ i ∈ s, ((f i : ℝ) : EReal) = ((∑ i ∈ s, f i : ℝ) : EReal) :=
  (map_sum (⟨⟨fun x : ℝ => (x : EReal), rfl⟩, fun _ _ => rfl⟩ : ℝ →+ EReal) f s).symm

theorem coe_sum_mul {ι : Type} (s : Finset ι) (f g : ι → ℝ) :
    ∑ i ∈ s, ((f i : ℝ) : EReal) * ((g i : ℝ) : EReal) = ((∑ i ∈ s, f i * g i : ℝ) : EReal) := by
  rw [← coe_sum]; exact Finset.sum_congr rfl fun i _ => (EReal.coe_mul _ _).symm

section Elementwise
variable {φ ψ : FTy} {m n : ℕ} (A B : Fin m → Fin n → ℝ)

theorem up_congr {A B : Fin m → Fin n → ℝ} (h : ∀ r c, A r c = B r c) : up φ A = up φ B := by
  rw [show A = B from funext fun r => funext fun c => h r c]

theorem up_addf : addf (up φ A) (up φ B) = up φ fun r c => A r c + B r c := rfl
theorem up_subf : subf (up φ A) (up φ B) = up φ fun r c => A r c - B r c := rfl
theorem up_mulf : mulf (up φ A) (up φ B) = up φ fun r c => A r c * B r c := by
  funext j; exact (EReal.coe_mul _ _).symm
theorem up_minf : minimumf (up φ A) (up φ B) = up φ fun r c => min (A r c) (B r c) := by
  funext j; exact (EReal.coe_strictMono.monotone.map_min).symm
theorem up_absf : absf (up φ A) = up φ fun r c => |A r c| := by
  funext j
  show max ((A (j 0) (j 1) : ℝ) : EReal) (-((A (j 0) (j 1) : ℝ) : EReal)) = _
  exact (EReal.coe_strictMono.monotone.map_max (a := A (j 0) (j 1)) (b := -A (j 0) (j 1))).symm
theorem up_exp : exp (up φ A) = up φ fun r c => Real.exp (A r c) := rfl
theorem up_log (h : ∀ r c, 0 < A r c) : log (up φ A) = up φ fun r c => Real.log (A r c) := by
  funext j; exact if_neg (not_le.mpr (h _ _))
theorem up_truncf (h : ψ.bits < φ.bits) : truncf ψ (up φ A) h = up ψ A := rfl
theorem up_extf (h : φ.bits < ψ.bits) : extf ψ (up φ A) h = up ψ A := rfl
theorem up_zero : (constant ⟨2, ![m, n]⟩ .f32 0x00000000#32 : FVec Ideal _ .f32) = up .f32 fun _ _ => 0 := by
  funext j; exact Ideal.ofBits_zero_f32
theorem up_bzero : (broadcast ⟨2, ![m, n]⟩ (Scalar.ofBits .f32 0x00000000#32 : Ideal .f32)) = up .f32 fun _ _ => 0 := by
  funext j; exact Ideal.ofBits_zero_f32
theorem up_bone : (broadcast ⟨2, ![m, n]⟩ (Scalar.ofBits .f32 0x3F800000#32 : Ideal .f32)) = up .f32 fun _ _ => 1 := by
  funext j; exact Ideal.ofBits_one_f32
theorem up_cast (h) : shapeCast ⟨2, ![m, n]⟩ (up φ A) h = up φ A := shapeCast_self _ h
/-- The choice between two arrays by a condition on the indices. -/
theorem up_select (M : IVec ⟨2, ![m, n]⟩ 1) (P : Fin m → Fin n → Prop) [∀ r c, Decidable (P r c)]
    (h : ∀ r c, M (ix2 r c) = BitVec.ofBool (decide (P r c))) :
    select M (up φ A) (up φ B) = up φ fun r c => if P r c then A r c else B r c := by
  funext j
  obtain ⟨r, c, rfl⟩ : ∃ (r : Fin m) (c : Fin n), j = ix2 r c := ⟨j 0, j 1, eq_ix2 j⟩
  show Scalar.select (M (ix2 r c)) _ _ = _
  rw [h, up_at, up_at, up_at]
  by_cases hp : P r c <;> simp [hp, Scalar.select]

end Elementwise

/-! The products. -/
theorem up_nt {φ : FTy} (A : Fin 512 → Fin 128 → ℝ) (B : Fin 128 → Fin 128 → ℝ) :
    matmul dot_S512x128_S128x128_S512x128_1_1_0_0_n_n none (up .bf16 A) (up .bf16 B) (up φ fun _ _ => 0)
      = up φ fun r c => ∑ l, A r l * B c l := by
  funext j; idx_vars j; pointwise; simp only [up_at, coe_sum_mul, EReal.coe_zero, zero_add]

theorem up_nn2 {φ : FTy} (A : Fin 512 → Fin 128 → ℝ) (B : Fin 128 → Fin 256 → ℝ) :
    matmul dot_S512x128_S128x256_S512x256_1_0_0_1_n_n none (up .bf16 A) (up .bf16 B) (up φ fun _ _ => 0)
      = up φ fun r c => ∑ l, A r l * B l c := by
  funext j; idx_vars j; pointwise; simp only [up_at, coe_sum_mul, EReal.coe_zero, zero_add]

theorem up_nn {φ : FTy} (A : Fin 512 → Fin 128 → ℝ) (B : Fin 128 → Fin 128 → ℝ) :
    matmul dot_S512x128_S128x128_S512x128_1_0_0_1_n_n none (up .bf16 A) (up .bf16 B) (up φ fun _ _ => 0)
      = up φ fun r c => ∑ l, A r l * B l c := by
  funext j; idx_vars j; pointwise; simp only [up_at, coe_sum_mul, EReal.coe_zero, zero_add]

theorem up_tn {φ : FTy} (A B : Fin 512 → Fin 128 → ℝ) :
    matmul dot_S512x128_S512x128_S128x128_0_0_1_1_n_n none (up .bf16 A) (up .bf16 B) (up φ fun _ _ => 0)
      = up φ fun r c => ∑ l, A l r * B l c := by
  funext j; idx_vars j; pointwise; simp only [up_at, coe_sum_mul, EReal.coe_zero, zero_add]

theorem up_nt' {φ : FTy} (A : Fin 256 → Fin 128 → ℝ) (B : Fin 128 → Fin 128 → ℝ) :
    matmul dot_S256x128_S128x128_S256x128_1_1_0_0_n_n none (up .bf16 A) (up .bf16 B) (up φ fun _ _ => 0)
      = up φ fun r c => ∑ l, A r l * B c l := by
  funext j; idx_vars j; pointwise; simp only [up_at, coe_sum_mul, EReal.coe_zero, zero_add]

theorem up_nn2' {φ : FTy} (A : Fin 256 → Fin 128 → ℝ) (B : Fin 128 → Fin 256 → ℝ) :
    matmul dot_S256x128_S128x256_S256x256_1_0_0_1_n_n none (up .bf16 A) (up .bf16 B) (up φ fun _ _ => 0)
      = up φ fun r c => ∑ l, A r l * B l c := by
  funext j; idx_vars j; pointwise; simp only [up_at, coe_sum_mul, EReal.coe_zero, zero_add]

theorem up_nn' {φ : FTy} (A : Fin 256 → Fin 128 → ℝ) (B : Fin 128 → Fin 128 → ℝ) :
    matmul dot_S256x128_S128x128_S256x128_1_0_0_1_n_n none (up .bf16 A) (up .bf16 B) (up φ fun _ _ => 0)
      = up φ fun r c => ∑ l, A r l * B l c := by
  funext j; idx_vars j; pointwise; simp only [up_at, coe_sum_mul, EReal.coe_zero, zero_add]

theorem up_tn' {φ : FTy} (A B : Fin 256 → Fin 128 → ℝ) :
    matmul dot_S256x128_S256x128_S128x128_0_0_1_1_n_n none (up .bf16 A) (up .bf16 B) (up φ fun _ _ => 0)
      = up φ fun r c => ∑ l, A l r * B l c := by
  funext j; idx_vars j; pointwise; simp only [up_at, coe_sum_mul, EReal.coe_zero, zero_add]

/-! Slices and joins. -/
theorem up_left (A : Fin 512 → Fin 256 → ℝ) (h) :
    extractStridedSlice S512x128 ![0, 0] (up .f32 A) h = up .f32 fun r (c : Fin 128) => A r ⟨c.val, by omega⟩ := by
  funext j; idx_vars j; pointwise; simp only [up_at, zero_add]

theorem up_right (A : Fin 512 → Fin 256 → ℝ) (h) :
    extractStridedSlice S512x128 ![0, 128] (up .f32 A) h = up .f32 fun r (c : Fin 128) => A r ⟨128 + c.val, by omega⟩ := by
  funext j; idx_vars j; pointwise; simp only [up_at, zero_add]

theorem up_left' (A : Fin 256 → Fin 256 → ℝ) (h) :
    extractStridedSlice S256x128 ![0, 0] (up .f32 A) h = up .f32 fun r (c : Fin 128) => A r ⟨c.val, by omega⟩ := by
  funext j; idx_vars j; pointwise; simp only [up_at, zero_add]

theorem up_right' (A : Fin 256 → Fin 256 → ℝ) (h) :
    extractStridedSlice S256x128 ![0, 128] (up .f32 A) h = up .f32 fun r (c : Fin 128) => A r ⟨128 + c.val, by omega⟩ := by
  funext j; idx_vars j; pointwise; simp only [up_at, zero_add]

theorem up_top (A : Fin 256 → Fin 128 → ℝ) (h) :
    extractStridedSlice S128x128 ![0, 0] (up .f32 A) h = up .f32 fun (r : Fin 128) c => A ⟨r.val, by omega⟩ c := by
  funext j; idx_vars j; pointwise; simp only [up_at, zero_add]

theorem up_bot (A : Fin 256 → Fin 128 → ℝ) (h) :
    extractStridedSlice S128x128 ![128, 0] (up .f32 A) h = up .f32 fun (r : Fin 128) c => A ⟨128 + r.val, by omega⟩ c := by
  funext j; idx_vars j; pointwise; simp only [up_at, zero_add]

/-- The row of the 512 that is row `x` of the two heads' lower halves. -/
def low (x : Fin 256) : Fin 512 := if x.val < 128 then ⟨128 + x.val, by omega⟩ else ⟨256 + x.val, by omega⟩

/-- The lower halves of the two heads' rows. -/
theorem up_low {φ : FTy} (A : Fin 512 → Fin 128 → ℝ) (h₁ h₂ h) :
    concatenate S256x128 0 [⟨S128x128, extractStridedSlice S128x128 ![128, 0] (up φ A) h₁⟩,
      ⟨S128x128, extractStridedSlice S128x128 ![384, 0] (up φ A) h₂⟩] h = up φ fun r c => A (low r) c := by
  funext j; idx_vars j; pointwise
  rw [up_at, low]
  by_cases hr : j0.val < 128
  · rw [if_pos hr]; exact dif_pos hr
  · rw [if_neg hr]; refine (dif_neg hr).trans ?_
    rw [up_at]; congr 3; omega

/-- Two 256-row arrays, one above the other. -/
def stack (A B : Fin 256 → Fin 128 → ℝ) (r : Fin 512) (c : Fin 128) : ℝ :=
  if h : r.val < 256 then A ⟨r.val, h⟩ c else B ⟨r.val - 256, by omega⟩ c

theorem up_stack {φ : FTy} (A B : Fin 256 → Fin 128 → ℝ) (h) :
    concatenate S512x128 0 [⟨S256x128, up φ A⟩, ⟨S256x128, up φ B⟩] h = up φ (stack A B) := by
  funext j; idx_vars j; pointwise
  rw [up_at, stack]
  by_cases hr : j0.val < 256
  · simp only [hr, dif_pos, up_at]
  · simp only [hr, dif_neg, up_at, not_false_eq_true]

/-! The two masks of the block sums: which keys of the block come later (or before), then all. -/
def after (l : Fin 128) (c : Fin 256) : ℝ :=
  if h : c.val < 128 then (if (⟨c.val, h⟩ : Fin 128) < l then 1 else 0) else 1
def before (l : Fin 128) (c : Fin 256) : ℝ :=
  if h : c.val < 128 then (if l < (⟨c.val, h⟩ : Fin 128) then 1 else 0) else 1

theorem after_lo (l c : Fin 128) (h) : after l ⟨c.val, h⟩ = if c < l then 1 else 0 := dif_pos c.isLt
theorem before_lo (l c : Fin 128) (h) : before l ⟨c.val, h⟩ = if l < c then 1 else 0 := dif_pos c.isLt
theorem after_hi (l c : Fin 128) (h) : after l ⟨128 + c.val, h⟩ = 1 := dif_neg (by simp)
theorem before_hi (l c : Fin 128) (h) : before l ⟨128 + c.val, h⟩ = 1 := dif_neg (by simp)

theorem slt128 (a b : Fin 128) : (BitVec.ofNat 32 a.val).slt (BitVec.ofNat 32 b.val) = decide (a < b) := by
  have ha : (BitVec.ofNat 32 a.val).toInt = a.val := by
    rw [BitVec.toInt_eq_toNat_of_lt] <;> simp only [BitVec.toNat_ofNat] <;> omega
  have hb : (BitVec.ofNat 32 b.val).toInt = b.val := by
    rw [BitVec.toInt_eq_toNat_of_lt] <;> simp only [BitVec.toNat_ofNat] <;> omega
  simp only [BitVec.slt, ha, hb, Fin.lt_def, Nat.cast_lt]

theorem mask_after : (k0_pay89 : FVec Ideal S128x256 .bf16) = up .bf16 after := by
  funext j; idx_vars j; pointwise [k0_pay89]
  rw [up_at, after]
  by_cases hc : j1.val < 128
  · simp only [hc, dif_pos]
    have := slt128 ⟨j1.val, hc⟩ j0
    simp only at this
    simp only [IntOp.cmpi, this]
    by_cases h : (⟨j1.val, hc⟩ : Fin 128) < j0 <;> simp [h, FloatOps.sitofp]
  · simp only [hc, dif_neg, not_false_eq_true]; rfl

theorem mask_before : (k0_pay90 : FVec Ideal S128x256 .bf16) = up .bf16 before := by
  funext j; idx_vars j; pointwise [k0_pay90]
  rw [up_at, before]
  by_cases hc : j1.val < 128
  · simp only [hc, dif_pos]
    have := slt128 j0 ⟨j1.val, hc⟩
    simp only at this
    simp only [IntOp.cmpi, this]
    by_cases h : j0 < (⟨j1.val, hc⟩ : Fin 128) <;> simp [h, FloatOps.sitofp]
  · simp only [hc, dif_neg, not_false_eq_true]; rfl

end Cert.KernelIdeal.SB
-- ==== Proof.Blocks.lean ====
module

public import proofs.«01_k».proof.Proof.Up
public import proofs.«01_k».proof.Proof.Step

@[expose] public section

/-! The kernel's blocks over the reals: what one block of keys gives is what `Stick` says of it. -/
set_option maxRecDepth 16384

noncomputable section

namespace Cert.KernelIdeal.SB

open Idealize.ShloMosaic Cert.KernelIdeal Cert.KernelIdeal.Gen Stick

abbrev M512 := Fin 512 → Fin 128 → ℝ
abbrev M256 := Fin 256 → Fin 128 → ℝ
abbrev M128 := Fin 128 → Fin 128 → ℝ

theorem tail_eq {m n : ℕ} (A : Fin m → Fin n → ℝ) :
    log (addf (up .f32 fun _ _ => 1) (exp (subf (up .f32 fun _ _ => 0) (absf (up .f32 A))))) = up .f32 fun r c => tail (A r c) := by
  rw [up_absf, up_subf, up_exp, up_addf, up_log _ fun r c => by positivity]
  exact up_congr fun r c => by rw [tail, zero_sub]

section U
variable (q d : M512) (k v : M128)

theorem v1 : k0_pay1 (up .bf16 q) (up .bf16 k) = up .f32 (bz q k) := by
  unfold k0_pay1; simp only [up_zero]; exact up_nt q k
theorem v2 : k0_pay2 (up .bf16 q) (up .bf16 k) = up .f32 fun r c => tail (bz q k r c) := by
  unfold k0_pay2; simp only [v1, up_bzero, up_bone]; exact tail_eq _
theorem v3 : k0_pay3 (up .bf16 q) (up .bf16 k) = up .f32 fun r c => logSig (bz q k r c) := by
  unfold k0_pay3; simp only [v1, v2, up_bzero, up_minf, up_subf]; rfl
theorem v4 : k0_pay4 (up .bf16 q) (up .bf16 k) = up .f32 fun r c => logKeep (bz q k r c) := by
  unfold k0_pay4; simp only [v1, v2, up_bzero, up_minf, up_subf, zero_sub]; rfl

/-- A product with a matrix of reals and the product of the rounding's remainder: the remainder is 0. -/
theorem split512 (A : M512) (B : Fin 128 → Fin 256 → ℝ) (h h' : FTy.bf16.bits < FTy.f32.bits) :
    addf (matmul dot_S512x128_S128x256_S512x256_1_0_0_1_n_n none (truncf .bf16 (up .f32 A) h) (up .bf16 B) (constant S512x256 .f32 0x00000000#32))
      (matmul dot_S512x128_S128x256_S512x256_1_0_0_1_n_n none
        (truncf .bf16 (subf (up .f32 A) (extf .f32 (truncf .bf16 (up .f32 A) h) h')) h) (up .bf16 B) (constant S512x256 .f32 0x00000000#32))
      = up .f32 fun r c => ∑ l, A r l * B l c := by
  simp only [up_truncf, up_extf, up_subf, up_zero, up_nn2, up_addf, sub_self, zero_mul, Finset.sum_const_zero, add_zero]
theorem split256 (A : M256) (B : Fin 128 → Fin 256 → ℝ) (h h' : FTy.bf16.bits < FTy.f32.bits) :
    addf (matmul dot_S256x128_S128x256_S256x256_1_0_0_1_n_n none (truncf .bf16 (up .f32 A) h) (up .bf16 B) (constant S256x256 .f32 0x00000000#32))
      (matmul dot_S256x128_S128x256_S256x256_1_0_0_1_n_n none
        (truncf .bf16 (subf (up .f32 A) (extf .f32 (truncf .bf16 (up .f32 A) h) h')) h) (up .bf16 B) (constant S256x256 .f32 0x00000000#32))
      = up .f32 fun r c => ∑ l, A r l * B l c := by
  simp only [up_truncf, up_extf, up_subf, up_zero, up_nn2', up_addf, sub_self, zero_mul, Finset.sum_const_zero, add_zero]

theorem v8 (B : Fin 128 → Fin 256 → ℝ) : k0_pay8 (up .bf16 q) (up .bf16 B) (up .bf16 k)
    = up .f32 fun r c => ∑ l, logKeep (bz q k r l) * B l c := by
  unfold k0_pay8 k0_pay7 k0_pay6 k0_pay5; simp only [v4]; exact split512 _ _ _ _

/-- Every key of the block is seen. -/
abbrev all (_ : Fin 512) (_ : Fin 128) : Prop := True

variable (rc fc : M512)

theorem v9 : k0_pay9 (up .bf16 q) k0_pay89 (up .f32 rc) (up .bf16 k) = up .f32 (brc q k all rc) := by
  unfold k0_pay9; simp only [mask_after, v8, up_right, up_subf, after_hi, mul_one]
  exact up_congr fun r c => by simp [brc, bkeep]
theorem v10 : k0_pay10 (up .bf16 q) k0_pay89 (up .f32 rc) (up .bf16 k) = up .f32 (bwt q k all rc) := by
  unfold k0_pay10; simp only [v9]; simp only [v3, mask_after, v8, up_left, up_addf, up_exp, after_lo]
  exact up_congr fun r c => by simp [bwt, bkeep]
theorem v11 (w : M512) : k0_pay11 (up .bf16 d) (up .bf16 v) (up .f32 w) z512 = up .f32 fun r c => w r c * ∑ l, d r l * v c l := by
  unfold k0_pay11; simp only [z512, up_zero, up_nt, up_mulf]
theorem v15 (w : M512) (B : Fin 128 → Fin 256 → ℝ) : k0_pay15 (up .bf16 d) (up .bf16 B) (up .bf16 v) (up .f32 w) z512
    = up .f32 fun r c => ∑ j, (w r j * ∑ l, d r l * v j l) * B j c := by
  unfold k0_pay15 k0_pay14 k0_pay13 k0_pay12; simp only [v11]; exact split512 _ _ _ _
theorem v16 : k0_pay16 (up .bf16 d) k0_pay90 (up .bf16 v) (up .f32 (bwt q k all rc)) z512 = up .f32 (bsum q d k v all rc) := by
  unfold k0_pay16; simp only [mask_before, v15, up_right, before_hi, mul_one]; rfl
theorem v17 : k0_pay17 (up .bf16 d) k0_pay90 (up .f32 fc) (up .bf16 v) (up .f32 fun r c => logSig (bz q k r c)) (up .f32 (bwt q k all rc)) z512
    = up .f32 (bdlog q d k v all rc fc) := by
  unfold k0_pay17
  simp only [mask_before, v15, v11, up_left, up_exp, up_bone, up_subf, up_mulf, up_addf, before_lo]
  exact up_congr fun r c => by simp only [bdlog, bew, if_true]
theorem v18 (acc : M512) : k0_pay18 (up .bf16 d) k0_pay90 (up .f32 fc) (up .bf16 k) (up .bf16 v) (up .f32 fun r c => logSig (bz q k r c))
      (up .f32 (bwt q k all rc)) z512 (up .f32 acc)
    = up .f32 fun r c => acc r c + ∑ l, bdlog q d k v all rc fc r l * k l c := by
  unfold k0_pay18; simp only [v17]; simp only [up_truncf, up_zero, up_nn, up_cast, up_addf]
theorem v19 (o : M128) : k0_pay19 (up .bf16 q) (up .bf16 d) k0_pay90 (up .f32 fc) (up .bf16 v) (up .f32 fun r c => logSig (bz q k r c))
      (up .f32 (bwt q k all rc)) z512 (up .f32 o)
    = up .f32 fun x c => o x c + ∑ r, bdlog q d k v all rc fc r x * q r c := by
  unfold k0_pay19; simp only [v17]; simp only [up_truncf, up_zero, up_tn, up_cast, up_addf]
theorem v20 (w : M512) (o : M128) : k0_pay20 (up .bf16 d) (up .f32 w) (up .f32 o)
    = up .f32 fun x c => o x c + ∑ r, w r x * d r c := by
  unfold k0_pay20; simp only [up_truncf, up_zero, up_tn, up_cast, up_addf]

end U

/-! The first block on the diagonal, under a mask. -/
section D0
variable (q d : M512) (k v : M128) (rc fc : M512) (ok : Fin 512 → Fin 128 → Prop) [∀ r c, Decidable (ok r c)]

theorem v97 : k0_pay97 (up .bf16 q) (up .bf16 k) = up .f32 (bz q k) := v1 q k
theorem v98 : k0_pay98 (up .bf16 q) (up .bf16 k) = up .f32 fun r c => tail (bz q k r c) := v2 q k
theorem v99 : k0_pay99 (up .bf16 q) (up .bf16 k) = up .f32 fun r c => logSig (bz q k r c) := v3 q k

section
variable (a b : BitVec 32) (hM : ∀ r c, k0_pay100 a b 256#32 (ix2 r c) = BitVec.ofBool (decide (ok r c)))
include hM

theorem v101 (B : Fin 128 → Fin 256 → ℝ) : k0_pay101 a (up .bf16 q) (up .bf16 B) b (up .bf16 k) 256#32
    = up .f32 fun r c => ∑ l, bkeep q k ok r l * B l c := by
  unfold k0_pay101
  simp only [v97, v98, up_bzero, up_minf, up_subf, zero_sub, up_select _ _ _ ok hM]
  exact split512 _ _ _ _
theorem v102 : k0_pay102 a (up .bf16 q) k0_pay89 (up .f32 rc) b (up .bf16 k) 256#32 = up .f32 (brc q k ok rc) := by
  unfold k0_pay102; simp only [mask_after, v101 q k ok a b hM, up_right, up_subf, after_hi, mul_one]; rfl
theorem v103 : k0_pay103 a (up .bf16 q) k0_pay89 (up .f32 rc) b (up .bf16 k) 256#32
    = up .f32 fun r c => Real.exp (logSig (bz q k r c) + brc q k ok rc r c + ∑ l, bkeep q k ok r l * (if c < l then 1 else 0)) := by
  unfold k0_pay103; simp only [v102 q k rc ok a b hM]
  simp only [v99, mask_after, v101 q k ok a b hM, up_left, up_addf, up_exp, after_lo]
end

variable (M : IVec S512x128 1) (hM : ∀ r c, M (ix2 r c) = BitVec.ofBool (decide (ok r c)))
include hM

theorem v104 : k0_pay104 M (up .f32 fun r c => Real.exp (logSig (bz q k r c) + brc q k ok rc r c + ∑ l, bkeep q k ok r l * (if c < l then 1 else 0))) z0
    = up .f32 (bwt q k ok rc) := by
  unfold k0_pay104; simp only [z0, up_bzero, up_select _ _ _ ok hM]; rfl

theorem v105 (w : M512) (h : k0_pay104 M (up .f32 w) z0 = up .f32 (bwt q k ok rc)) :
    k0_pay105 (up .bf16 d) (up .bf16 v) M (up .f32 w) z0 = up .f32 (bew q d k v ok rc) := by
  unfold k0_pay105; simp only [h]; simp only [up_zero, up_nt, up_mulf]; rfl
theorem v106 (w : M512) (h : k0_pay104 M (up .f32 w) z0 = up .f32 (bwt q k ok rc)) (B : Fin 128 → Fin 256 → ℝ) :
    k0_pay106 (up .bf16 d) (up .bf16 B) (up .bf16 v) M (up .f32 w) z0 = up .f32 fun r c => ∑ j, bew q d k v ok rc r j * B j c := by
  unfold k0_pay106; simp only [v105 q d k v rc ok M hM w h]; exact split512 _ _ _ _
theorem v107 (w : M512) (h : k0_pay104 M (up .f32 w) z0 = up .f32 (bwt q k ok rc)) :
    k0_pay107 (up .bf16 d) k0_pay90 (up .bf16 v) M (up .f32 w) z0 = up .f32 (bsum q d k v ok rc) := by
  unfold k0_pay107; simp only [mask_before, v106 q d k v rc ok M hM w h, up_right, before_hi, mul_one]; rfl
theorem v108 (w : M512) (h : k0_pay104 M (up .f32 w) z0 = up .f32 (bwt q k ok rc)) :
    k0_pay108 (up .bf16 d) k0_pay90 (up .f32 fc) (up .bf16 v) (up .f32 fun r c => logSig (bz q k r c)) M (up .f32 w) z0
      = up .f32 (bdlog q d k v ok rc fc) := by
  unfold k0_pay108
  simp only [mask_before, v105 q d k v rc ok M hM w h, v106 q d k v rc ok M hM w h]
  simp only [up_left, up_exp, up_bone, up_subf, up_mulf, up_addf, before_lo, up_bzero, up_select _ _ _ ok hM]
  rfl
theorem v109 (w : M512) (h : k0_pay104 M (up .f32 w) z0 = up .f32 (bwt q k ok rc)) (acc : M512) :
    k0_pay109 (up .bf16 d) k0_pay90 (up .f32 fc) (up .bf16 k) (up .bf16 v) (up .f32 fun r c => logSig (bz q k r c)) M (up .f32 w) z0 (up .f32 acc)
    = up .f32 fun r c => acc r c + ∑ l, bdlog q d k v ok rc fc r l * k l c := by
  unfold k0_pay109; simp only [v108 q d k v rc fc ok M hM w h]; simp only [up_truncf, up_zero, up_nn, up_cast, up_addf]
theorem v110 (w : M512) (h : k0_pay104 M (up .f32 w) z0 = up .f32 (bwt q k ok rc)) (o : M128) :
    k0_pay110 (up .bf16 q) (up .bf16 d) k0_pay90 (up .f32 fc) (up .bf16 v) (up .f32 fun r c => logSig (bz q k r c)) M (up .f32 w) z0 (up .f32 o)
    = up .f32 fun x c => o x c + ∑ r, bdlog q d k v ok rc fc r x * q r c := by
  unfold k0_pay110; simp only [v108 q d k v rc fc ok M hM w h]; simp only [up_truncf, up_zero, up_tn, up_cast, up_addf]
omit hM in
theorem v111 (w : M512) (h : k0_pay104 M (up .f32 w) z0 = up .f32 (bwt q k ok rc)) (o : M128) :
    k0_pay111 (up .bf16 d) M (up .f32 w) z0 (up .f32 o) = up .f32 fun x c => o x c + ∑ r, bwt q k ok rc r x * d r c := by
  unfold k0_pay111; simp only [h]; simp only [up_truncf, up_zero, up_tn, up_cast, up_addf]

end D0

/-! The second block on the diagonal, for half of the rows. -/
section D1
variable (q d : M512) (k v : M128) (rc fc fc' : M512) (ok : Fin 256 → Fin 128 → Prop) [∀ r c, Decidable (ok r c)]

theorem v112 : k0_pay112 (up .bf16 q) = up .bf16 fun r c => q (low r) c := by
  unfold k0_pay112; simp only [up_low]
theorem v113 : k0_pay113 (up .bf16 d) = up .bf16 fun r c => d (low r) c := by
  unfold k0_pay113; simp only [up_low]
theorem v114 : k0_pay114 (up .f32 fc) (up .f32 fc') = up .f32 fun r c => fc (low r) c + fc' (low r) c := by
  unfold k0_pay114; simp only [up_addf, up_low]

/-- The lower rows of `q`. -/
abbrev lo (q : M512) : M256 := fun r => q (low r)

theorem v115 : k0_pay115 (up .bf16 q) (up .bf16 k) = up .f32 (bz (lo q) k) := by
  unfold k0_pay115; simp only [v112, up_zero]; exact up_nt' _ k
theorem v116 : k0_pay116 (up .bf16 q) (up .bf16 k) = up .f32 fun r c => tail (bz (lo q) k r c) := by
  unfold k0_pay116; simp only [v115, up_bzero, up_bone]; exact tail_eq _
theorem v117 : k0_pay117 (up .bf16 q) (up .bf16 k) = up .f32 fun r c => logSig (bz (lo q) k r c) := by
  unfold k0_pay117; simp only [v115, v116, up_bzero, up_minf, up_subf]; rfl
theorem v118 : k0_pay118 (up .bf16 q) (up .bf16 k) = up .f32 fun r c => logKeep (bz (lo q) k r c) := by
  unfold k0_pay118; simp only [v115, v116, up_bzero, up_minf, up_subf, zero_sub]; rfl

variable (a : BitVec 32) (ro co : IVec S256x128 32)
  (hM : ∀ r c, k0_pay120 a ro co 128#32 (ix2 r c) = BitVec.ofBool (decide (ok r c)))
include hM

theorem v121 : k0_pay121 k0_pay89 (up .f32 rc) a (up .f32 fun r c => logSig (bz (lo q) k r c))
      (up .f32 fun r c => logKeep (bz (lo q) k r c)) ro co 128#32 = up .f32 (bwt (lo q) k ok (lo rc)) := by
  unfold k0_pay121
  simp only [up_bzero, up_select _ _ _ ok hM, mask_after]
  simp only [split256]
  simp only [up_left', up_right', up_low, up_subf, up_addf, up_exp, up_select _ _ _ ok hM, after_lo, after_hi, mul_one]
  rfl
theorem v122 (f : M256) : k0_pay122 k0_pay89 k0_pay90 (up .f32 rc) (up .bf16 v) (up .bf16 (lo d)) (up .f32 f) a
      (up .f32 fun r c => logSig (bz (lo q) k r c)) (up .f32 fun r c => logKeep (bz (lo q) k r c)) ro co 128#32
    = up .f32 (bdlog (lo q) (lo d) k v ok (lo rc) f) := by
  unfold k0_pay122
  simp only [v121 q k rc ok a ro co hM]
  simp only [up_zero, up_nt', up_mulf, mask_before]
  simp only [← up_zero]
  simp only [split256]
  simp only [up_left', up_exp, up_bone, up_subf, up_mulf, up_addf, before_lo, up_bzero, up_select _ _ _ ok hM]
  rfl
theorem v123 (f : M256) : k0_pay123 k0_pay89 k0_pay90 (up .f32 rc) (up .bf16 k) (up .bf16 v) (up .bf16 (lo d)) (up .f32 f) a
      (up .f32 fun r c => logSig (bz (lo q) k r c)) (up .f32 fun r c => logKeep (bz (lo q) k r c)) ro co 128#32
    = up .f32 fun r c => ∑ l, bdlog (lo q) (lo d) k v ok (lo rc) f r l * k l c := by
  unfold k0_pay123; simp only [v122 q d k v rc ok a ro co hM]; simp only [up_truncf, up_zero, up_nn']
omit hM

theorem v124 (A : M256) (o : M128) : k0_pay124 (up .f32 A) (up .f32 o) = up .f32 fun r c => o r c + A ⟨r.val, by omega⟩ c := by
  unfold k0_pay124; simp only [up_cast, up_top, up_addf]
theorem v125 (A : M256) (o : M128) : k0_pay125 (up .f32 A) (up .f32 o) = up .f32 fun r c => o r c + A ⟨128 + r.val, by omega⟩ c := by
  unfold k0_pay125; simp only [up_cast, up_bot, up_addf]
theorem v126 (q' A : M256) (o : M128) : k0_pay126 (up .bf16 q') (up .f32 A) (up .f32 o) = up .f32 fun x c => o x c + ∑ r, A r x * q' r c := by
  unfold k0_pay126; simp only [up_truncf, up_zero, up_tn', up_cast, up_addf]
theorem v127 (d' A : M256) (o : M128) : k0_pay127 (up .bf16 d') (up .f32 A) (up .f32 o) = up .f32 fun x c => o x c + ∑ r, A r x * d' r c := by
  unfold k0_pay127; simp only [up_truncf, up_zero, up_tn', up_cast, up_addf]

end D1

/-! The masks. -/
theorem slt_small (a b : ℕ) (ha : a < 2 ^ 31) (hb : b < 2 ^ 31) : (BitVec.ofNat 32 a).slt (BitVec.ofNat 32 b) = decide (a < b) := by
  have h1 : (BitVec.ofNat 32 a).toInt = a := by
    rw [BitVec.toInt_eq_toNat_of_lt] <;> simp only [BitVec.toNat_ofNat] <;> omega
  have h2 : (BitVec.ofNat 32 b).toInt = b := by
    rw [BitVec.toInt_eq_toNat_of_lt] <;> simp only [BitVec.toNat_ofNat] <;> omega
  simp only [BitVec.slt, h1, h2, Nat.cast_lt]

/-- Comparing two small words given by their values. -/
theorem cmp_small {x y : BitVec 32} (a b : ℕ) (hx : x = BitVec.ofNat 32 a) (hy : y = BitVec.ofNat 32 b) (ha : a < 2 ^ 31) (hb : b < 2 ^ 31) :
    IntOp.cmpi CmpIPredicate.slt x y = BitVec.ofBool (decide (a < b)) := by
  subst hx hy; simp only [IntOp.cmpi, slt_small a b ha hb]

/-- The row's number within its head, as the kernel computes it. -/
theorem row_word (n m : ℕ) (hn : n < 2 ^ 31) (hm : m < 2 ^ 31) :
    Scalar.select (IntOp.cmpi CmpIPredicate.slt (BitVec.ofNat 32 n) (BitVec.ofNat 32 m)) (BitVec.ofNat 32 n)
      (IntOp.subi (BitVec.ofNat 32 n) (BitVec.ofNat 32 m)) = BitVec.ofNat 32 (if n < m then n else n - m) := by
  rw [cmp_small n m rfl rfl hn hm]
  by_cases h : n < m
  · simp [h, Scalar.select]
  · simp only [h, decide_false, Scalar.select, if_false]
    apply BitVec.eq_of_toNat_eq
    simp only [IntOp.subi, BitVec.toNat_sub, BitVec.toNat_ofNat]
    simp; omega

theorem mask0 (i : grid0.Coords) (r : Fin 512) (c : Fin 128) :
    k0_pay100 (qw i) (Scalar.addi (Scalar.muli 2#32 (qw i)) 0#32) 256#32 (ix2 r c)
      = BitVec.ofBool (decide (128 * (dblk i 0).val + c.val < 256 * (i 1).val + r.val % 256)) := by
  have hi : (i 1).val < 8 := (i 1).isLt
  pointwise [k0_pay100]
  rw [show (256#32 : BitVec 32) = BitVec.ofNat 32 256 from rfl, row_word r.val 256 (by omega) (by omega)]
  rw [show r.val % 256 = if r.val < 256 then r.val else r.val - 256 by split <;> omega]
  refine cmp_small _ _ ?_ ?_ (by simp only [dblk]; omega) (by split <;> omega)
  · apply BitVec.eq_of_toNat_eq
    simp only [IntOp.addi, IntOp.muli, Scalar.addi, Scalar.muli, qw, dblk, BitVec.toNat_add, BitVec.toNat_mul, BitVec.toNat_ofNat]
    simp; omega
  · apply BitVec.eq_of_toNat_eq
    generalize (if r.val < 256 then r.val else r.val - 256) = x
    simp only [IntOp.addi, IntOp.muli, Scalar.addi, Scalar.muli, qw, dblk, BitVec.toNat_add, BitVec.toNat_mul, BitVec.toNat_ofNat]
    simp; omega

theorem mask1 (i : grid0.Coords) (r : Fin 256) (c : Fin 128) :
    k0_pay120 (Scalar.addi (Scalar.muli (qw i) 256#32) 128#32) (iota .tc S256x128 32 [0] iota_S256x128_d0_w32) (k0_pay119 (qw i)) 128#32 (ix2 r c)
      = BitVec.ofBool (decide (128 * (dblk i 1).val + c.val < 256 * (i 1).val + (low r).val % 256)) := by
  have hi : (i 1).val < 8 := (i 1).isLt
  pointwise [k0_pay120, k0_pay119]
  rw [show (128#32 : BitVec 32) = BitVec.ofNat 32 128 from rfl, row_word r.val 128 (by omega) (by omega)]
  rw [show (low r).val % 256 = 128 + if r.val < 128 then r.val else r.val - 128 by unfold low; split <;> simp <;> omega]
  refine cmp_small _ _ ?_ ?_ (by simp only [dblk]; omega) (by split <;> omega)
  · apply BitVec.eq_of_toNat_eq
    simp only [IntOp.addi, IntOp.muli, Scalar.addi, Scalar.muli, qw, dblk, BitVec.toNat_add, BitVec.toNat_mul, BitVec.toNat_ofNat]
    simp; omega
  · apply BitVec.eq_of_toNat_eq
    generalize (if r.val < 128 then r.val else r.val - 128) = x
    simp only [IntOp.addi, IntOp.muli, Scalar.addi, Scalar.muli, qw, dblk, BitVec.toNat_add, BitVec.toNat_mul, BitVec.toNat_ofNat]
    simp; omega

end Cert.KernelIdeal.SB
-- ==== Proof.Walk.lean ====
module

public import proofs.«01_k».proof.Proof.Blocks

@[expose] public section

/-! A grid point over the reals: after its walk over the keys the queries' gradient is whole, and the
keys' and values' gradients have gained what these queries give. -/
set_option maxRecDepth 16384

noncomputable section

namespace Cert.KernelIdeal.SB

open Idealize.ShloMosaic Cert.KernelIdeal Cert.KernelIdeal.Gen Stick

/-- 2048 rows, numbered by naturals. -/
abbrev Rows := ℕ → Fin 128 → ℝ
/-- The rows as an array. -/
abbrev col (X : Rows) : Fin 2048 → Fin 128 → ℝ := fun s c => X s.val c

/-- Block `b` of the rows. -/
abbrev rblk (X : Rows) (b : ℕ) : M128 := fun l c => X (128 * b + l.val) c

theorem blk_bf (X : Rows) (b : Fin 16) : blk (F := Ideal) (e := .bf16) (up .bf16 (col X)) b = up .bf16 (rblk X b.val) := by
  funext j
  show (((X (b.val * 128 + 1 * (j 0).val) ⟨0 + 1 * (j 1).val, _⟩ : ℝ)) : EReal) = ((X (128 * b.val + (j 0).val) (j 1) : ℝ) : EReal)
  refine congrArg₂ (fun a b => ((X a b : ℝ) : EReal)) ?_ (Fin.ext ?_)
  · rw [one_mul, mul_comm]
  · show 0 + 1 * (j 1).val = (j 1).val; rw [zero_add, one_mul]

theorem blk_f (X : Rows) (b : Fin 16) : blk (F := Ideal) (e := .f32) (up .f32 (col X)) b = up .f32 (rblk X b.val) := blk_bf X b

/-- The rows with one block replaced. -/
def setR (X : Rows) (b : ℕ) (w : M128) : Rows := fun x c => if x / 128 = b then w ⟨x % 128, Nat.mod_lt _ (by omega)⟩ c else X x c

theorem setBlk_up (X : Rows) (b : Fin 16) (w : M128) :
    setBlk (F := Ideal) (e := .f32) (up .f32 (col X)) b (up .f32 w) = up .f32 (col (setR X b.val w)) := by
  funext j
  obtain ⟨r, c, rfl⟩ : ∃ (r : Fin 2048) (c : Fin 128), j = ix2 r c := ⟨j 0, j 1, eq_ix2 j⟩
  rw [up_at]
  show (VecWindow.put (s := S2048x128) _ _ _ _ : S2048x128.Idx → EReal) (ix2 r c) = _
  unfold VecWindow.put
  by_cases h : r.val / 128 = b.val
  · rw [dif_pos (by
      intro a; fin_cases a
      · show b.val * 128 ≤ r.val ∧ r.val < b.val * 128 + 128; omega
      · show 0 ≤ c.val ∧ c.val < 0 + 128; omega)]
    simp only [col, setR, if_pos h]
    show ((w ⟨r.val - b.val * 128, _⟩ ⟨c.val - 0, _⟩ : ℝ) : EReal) = _
    refine congrArg₂ (fun a b => ((w a b : ℝ) : EReal)) (Fin.ext ?_) (Fin.ext ?_)
    · show r.val - b.val * 128 = r.val % 128; omega
    · rfl
  · rw [dif_neg (by
      intro H
      have : b.val * 128 ≤ r.val ∧ r.val < b.val * 128 + 128 := H 0
      omega)]
    simp only [col, setR, if_neg h]
    rfl

/-- 128 of the 512 rows. -/
theorem rows_up (A : M512) (o : ℕ) (h : o + 128 ≤ 512) :
    rows (F := Ideal) (up .f32 A) o h = up .f32 fun (r : Fin 128) c => A ⟨o + r.val, by omega⟩ c := by
  funext j
  show ((A ⟨o + 1 * (j 0).val, _⟩ ⟨0 + 1 * (j 1).val, _⟩ : ℝ) : EReal) = ((A ⟨o + (j 0).val, _⟩ (j 1) : ℝ) : EReal)
  refine congrArg₂ (fun a b => ((A a b : ℝ) : EReal)) (Fin.ext ?_) (Fin.ext ?_)
  · show o + 1 * (j 0).val = o + (j 0).val; rw [one_mul]
  · show 0 + 1 * (j 1).val = (j 1).val; rw [zero_add, one_mul]

theorem setRows_up (A : M512) (o : ℕ) (w : M128) :
    setRows (F := Ideal) (up .f32 A) o (up .f32 w)
      = up .f32 fun r c => if h : o ≤ r.val ∧ r.val < o + 128 then w ⟨r.val - o, by omega⟩ c else A r c := by
  funext j
  obtain ⟨r, c, rfl⟩ : ∃ (r : Fin 512) (c : Fin 128), j = ix2 r c := ⟨j 0, j 1, eq_ix2 j⟩
  rw [up_at]
  show (VecWindow.put (s := S512x128) _ _ _ _ : S512x128.Idx → EReal) (ix2 r c) = _
  unfold VecWindow.put
  by_cases h : o ≤ r.val ∧ r.val < o + 128
  · rw [dif_pos (by
      intro a; fin_cases a
      · exact h
      · show 0 ≤ c.val ∧ c.val < 0 + 128; omega), dif_pos h]
    rfl
  · rw [dif_neg (fun H => h (H 0)), dif_neg h]
    rfl

/-- A sum over the lower rows is a sum over all of them, when the others give nothing. -/
theorem sum_low (f : Fin 512 → ℝ) (h : ∀ r : Fin 512, r.val % 256 < 128 → f r = 0) : ∑ r : Fin 256, f (low r) = ∑ r, f r := by
  refine Fintype.sum_of_injective low ?_ _ f ?_ fun _ => rfl
  · intro x y e
    have := congrArg Fin.val e
    unfold low at this
    ext
    split at this <;> split at this <;> simp at this <;> omega
  · intro r hr
    by_contra hne
    have h1 : ¬ r.val % 256 < 128 := fun H => hne (h r H)
    refine hr ⟨⟨if r.val < 256 then r.val - 128 else r.val - 256, by split <;> omega⟩, ?_⟩
    apply Fin.ext
    by_cases h2 : r.val < 256
    · simp only [h2, if_true]
      unfold low
      rw [if_pos (show r.val - 128 < 128 by omega)]
      show 128 + (r.val - 128) = r.val
      omega
    · simp only [h2, if_false]
      unfold low
      rw [if_neg (show ¬ r.val - 256 < 128 by omega)]
      show 256 + (r.val - 256) = r.val
      omega

section Point
variable (q d : M512) (K V : Rows) (n : ℕ)

/-- The logits, the weights' gradients and the positions of the 512 rows. -/
def lz (r : Fin 512) (s : ℕ) : ℝ := ∑ l, q r l * K s l
def lg (r : Fin 512) (s : ℕ) : ℝ := ∑ l, d r l * V s l
def lT (r : Fin 512) : ℕ := 256 * n + r.val % 256

def rW (r : Fin 512) (s : ℕ) : ℝ := wt (lz q K r) (lT n r) s
def rE (r : Fin 512) (s : ℕ) : ℝ := ew (lz q K r) (lg d V r) (lT n r) s
def rD (r : Fin 512) (s : ℕ) : ℝ := dlog (lz q K r) (lg d V r) (lT n r) s
def rP (r : Fin 512) (b : ℕ) : ℝ := total (lz q K r) (lT n r) - ∑ j ∈ Finset.range (128 * b), keep (lz q K r) (lT n r) j
def rF (r : Fin 512) (b : ℕ) : ℝ := ∑ j ∈ Finset.range (128 * b), rE q d K V n r j
def rA (r : Fin 512) (b : ℕ) (c : Fin 128) : ℝ := ∑ j ∈ Finset.range (128 * b), rD q d K V n r j * K j c
def gK (x : ℕ) (c : Fin 128) : ℝ := ∑ r, rD q d K V n r x * q r c
def gV (x : ℕ) (c : Fin 128) : ℝ := ∑ r, rW q K n r x * d r c
def rK (dk : Rows) (b : ℕ) : Rows := fun x c => if x < 128 * b then dk x c + gK q d K V n x c else dk x c
def rV (dv : Rows) (b : ℕ) : Rows := fun x c => if x < 128 * b then dv x c + gV q d K n x c else dv x c

/-- The state before block `b`. -/
def at_ (dk dv : Rows) (b : ℕ) : St Ideal :=
  ⟨up .f32 fun r _ => rP q K n r b, up .f32 fun r _ => rF q d K V n r b, up .f32 fun r c => rA q d K V n r b c,
    up .f32 (col (rK q d K V n dk b)), up .f32 (col (rV q d K n dv b))⟩

variable (dk dv : Rows)

theorem setK (b : ℕ) (w : M128) (h : ∀ l c, w l c = dk (128 * b + l.val) c + gK q d K V n (128 * b + l.val) c) :
    setR (rK q d K V n dk b) b w = rK q d K V n dk (b + 1) := by
  funext x c
  unfold setR rK
  by_cases hx : x / 128 = b
  · rw [if_pos hx, if_pos (by omega), h]
    rw [show 128 * b + x % 128 = x by omega]
  · rw [if_neg hx]
    by_cases h' : x < 128 * b
    · rw [if_pos h', if_pos (by omega)]
    · rw [if_neg h', if_neg (by omega)]
theorem setV (b : ℕ) (w : M128) (h : ∀ l c, w l c = dv (128 * b + l.val) c + gV q d K n (128 * b + l.val) c) :
    setR (rV q d K n dv b) b w = rV q d K n dv (b + 1) := by
  funext x c
  unfold setR rV
  by_cases hx : x / 128 = b
  · rw [if_pos hx, if_pos (by omega), h]
    rw [show 128 * b + x % 128 = x by omega]
  · rw [if_neg hx]
    by_cases h' : x < 128 * b
    · rw [if_pos h', if_pos (by omega)]
    · rw [if_neg h', if_neg (by omega)]

theorem rK_blk (b : ℕ) (l c : Fin 128) : rK q d K V n dk b (128 * b + l.val) c = dk (128 * b + l.val) c := if_neg (by omega)
theorem rV_blk (b : ℕ) (l c : Fin 128) : rV q d K n dv b (128 * b + l.val) c = dv (128 * b + l.val) c := if_neg (by omega)

theorem rA_succ (r : Fin 512) (b : ℕ) (c : Fin 128) :
    rA q d K V n r (b + 1) c = rA q d K V n r b c + ∑ l : Fin 128, rD q d K V n r (128 * b + l.val) * K (128 * b + l.val) c :=
  sum_block (fun j => rD q d K V n r j * K j c) b

/-- What `Stick.block` says of the 512 rows. -/
theorem block512 (ok : Fin 512 → Fin 128 → Prop) [∀ r c, Decidable (ok r c)] (b : ℕ)
    (hok : ∀ r c, ok r c ↔ 128 * b + c.val < lT n r) :
    brc q (rblk K b) ok (fun r _ => rP q K n r b) = (fun r _ => rP q K n r (b + 1))
    ∧ bwt q (rblk K b) ok (fun r _ => rP q K n r b) = (fun r c => rW q K n r (128 * b + c.val))
    ∧ (∀ r c, rF q d K V n r b + bsum q d (rblk K b) (rblk V b) ok (fun r _ => rP q K n r b) r c = rF q d K V n r (b + 1))
    ∧ bdlog q d (rblk K b) (rblk V b) ok (fun r _ => rP q K n r b) (fun r _ => rF q d K V n r b)
        = (fun r c => rD q d K V n r (128 * b + c.val)) := by
  have h := Stick.block q d (rblk K b) (rblk V b) ok (fun r _ => rP q K n r b) (fun r _ => rF q d K V n r b)
    (lz q K) (lg d V) (lT n) b (fun _ _ => rfl) (fun _ _ => rfl) hok (fun _ _ => rfl) (fun _ _ => rfl)
  exact ⟨funext₂ fun r c => (h r c).1, funext₂ fun r c => (h r c).2.1, fun r c => (h r c).2.2.1, funext₂ fun r c => (h r c).2.2.2⟩

/-- A block before the diagonal. -/
theorem stepU_at (b : Fin 16) (hb : b.val + 1 ≤ 2 * n) :
    stepU (up .bf16 q) (up .bf16 d) (up .bf16 (col K)) (up .bf16 (col V)) b (at_ q d K V n dk dv b.val)
      = at_ q d K V n dk dv (b.val + 1) := by
  obtain ⟨h1, h2, h3, h4⟩ := block512 q d K V n all b.val (fun r c => by
    simp only [all, lT, true_iff]; have := c.isLt; omega)
  unfold stepU at_
  simp only [blk_bf, blk_f]
  simp only [v3, v9, v10, v16, v18, v19, v20, setBlk_up]
  simp only [h1, h2, h4]
  congr 1
  · unfold k0_pay21; simp only [up_addf]
    exact up_congr fun r c => h3 r c
  · exact up_congr fun r c => (rA_succ q d K V n r b.val c).symm
  · rw [setK]; intro l c; rw [rblk, rK_blk]; rfl
  · rw [setV]; intro l c; rw [rblk, rV_blk]; rfl

/-- The state after the first block on the diagonal, its running sum kept apart. -/
def mid (b : ℕ) (f : M512) : St Ideal :=
  ⟨up .f32 fun r _ => rP q K n r b, up .f32 f, up .f32 fun r c => rA q d K V n r b c,
    up .f32 (col (rK q d K V n dk b)), up .f32 (col (rV q d K n dv b))⟩

theorem stepD0_at (i : grid0.Coords) (hn : n = (i 1).val) :
    ∃ f : M512, (∀ r c, rF q d K V n r (2 * n) + f r c = rF q d K V n r (2 * n + 1)) ∧
    stepD0 (up .bf16 q) (up .bf16 d) (up .bf16 (col K)) (up .bf16 (col V)) i (at_ q d K V n dk dv (2 * n))
      = mid q d K V n dk dv (2 * n + 1) f := by
  have hb : (dblk i 0).val = 2 * n := by simp [dblk, hn]
  have hM := mask0 i
  simp only [hb, ← hn] at hM
  obtain ⟨h1, h2, h3, h4⟩ := block512 q d K V n (fun r c => 128 * (2 * n) + c.val < 256 * n + r.val % 256) (2 * n) (fun r c => Iff.rfl)
  refine ⟨_, h3, ?_⟩
  unfold stepD0 at_ mid
  simp only [blk_bf, blk_f, hb]
  simp only [v99, v102 _ _ _ _ _ _ hM, v103 _ _ _ _ _ _ hM, v107 _ _ _ _ _ _ _ hM _ (v104 _ _ _ _ _ hM),
    v109 _ _ _ _ _ _ _ _ hM _ (v104 _ _ _ _ _ hM), v110 _ _ _ _ _ _ _ _ hM _ (v104 _ _ _ _ _ hM),
    v111 _ _ _ _ _ _ _ (v104 _ _ _ _ _ hM), setBlk_up, hb]
  simp only [h1, h2, h4]
  congr 1
  · exact up_congr fun r c => (rA_succ q d K V n r (2 * n) c).symm
  · rw [setK]; intro l c; rw [rblk, rK_blk]; rfl
  · rw [setV]; intro l c; rw [rblk, rV_blk]; rfl

/-- Rows that do not reach a key give it nothing. -/
theorem rD_zero (r : Fin 512) (s : ℕ) (h : lT n r ≤ s) : rD q d K V n r s = 0 := if_neg (not_lt.mpr h)
theorem rW_zero (r : Fin 512) (s : ℕ) (h : lT n r ≤ s) : rW q K n r s = 0 := if_neg (not_lt.mpr h)

/-- The state after the walk. -/
theorem stepD1_at (i : grid0.Coords) (hn : n = (i 1).val) (f : M512)
    (hf : ∀ r c, rF q d K V n r (2 * n) + f r c = rF q d K V n r (2 * n + 1)) :
    let s := stepD1 (up .bf16 q) (up .bf16 d) (up .bf16 (col K)) (up .bf16 (col V)) i (up .f32 fun r _ => rF q d K V n r (2 * n))
      (mid q d K V n dk dv (2 * n + 1) f)
    s.acc = up .f32 (fun r c => rA q d K V n r (2 * n + 2) c) ∧ s.dk = up .f32 (col (rK q d K V n dk (2 * n + 2)))
      ∧ s.dv = up .f32 (col (rV q d K n dv (2 * n + 2))) := by
  have hb : (dblk i 1).val = 2 * n + 1 := by simp [dblk, hn]
  have hM := mask1 i
  simp only [hb, ← hn] at hM
  have h := Stick.block (lo q) (lo d) (rblk K (2 * n + 1)) (rblk V (2 * n + 1))
    (fun (r : Fin 256) c => 128 * (2 * n + 1) + c.val < 256 * n + (low r).val % 256)
    (fun r _ => rP q K n (low r) (2 * n + 1)) (fun r c => rF q d K V n (low r) (2 * n) + f (low r) c)
    (fun r => lz q K (low r)) (fun r => lg d V (low r)) (fun r => lT n (low r)) (2 * n + 1)
    (fun _ _ => rfl) (fun _ _ => rfl) (fun _ _ => Iff.rfl) (fun _ _ => rfl) (fun r c => hf (low r) c)
  have h2 : bwt (lo q) (rblk K (2 * n + 1)) (fun (r : Fin 256) c => 128 * (2 * n + 1) + c.val < 256 * n + (low r).val % 256)
      (lo fun r _ => rP q K n r (2 * n + 1)) = fun r c => rW q K n (low r) (128 * (2 * n + 1) + c.val) :=
    funext₂ fun r c => (h r c).2.1
  have h4 : bdlog (lo q) (lo d) (rblk K (2 * n + 1)) (rblk V (2 * n + 1))
      (fun (r : Fin 256) c => 128 * (2 * n + 1) + c.val < 256 * n + (low r).val % 256)
      (lo fun r _ => rP q K n r (2 * n + 1)) (fun r c => rF q d K V n (low r) (2 * n) + f (low r) c)
      = fun r c => rD q d K V n (low r) (128 * (2 * n + 1) + c.val) :=
    funext₂ fun r c => (h r c).2.2.2
  have hT : ∀ r : Fin 512, r.val % 256 < 128 → ∀ l : ℕ, lT n r ≤ 128 * (2 * n + 1) + l := fun r hr l => by
    unfold lT; omega
  refine ⟨?_, ?_, ?_⟩
  · unfold stepD1 mid
    simp only [blk_bf, hb]
    simp only [v112, v113, v114, v117, v118, v123 _ _ _ _ _ _ _ _ _ hM, h4, v124, v125, rows_up, setRows_up]
    refine up_congr fun r c => ?_
    have hs := rA_succ q d K V n r (2 * n + 1) c
    rw [show 2 * n + 1 + 1 = 2 * n + 2 from rfl] at hs
    rw [hs]
    by_cases h1 : 384 ≤ r.val ∧ r.val < 384 + 128
    · rw [dif_pos h1]
      have e : low ⟨128 + (r.val - 384), by omega⟩ = r := by
        apply Fin.ext; unfold low; rw [if_neg (by simp)]; simp; omega
      have e' : (⟨384 + (r.val - 384), by omega⟩ : Fin 512) = r := Fin.ext (by simp; omega)
      simp only [e, e']
      rw [dif_neg (by omega)]
    · rw [dif_neg h1]
      by_cases h3 : 128 ≤ r.val ∧ r.val < 128 + 128
      · rw [dif_pos h3]
        have e : low ⟨r.val - 128, by omega⟩ = r := by
          apply Fin.ext; unfold low; rw [if_pos (by simp; omega)]; simp; omega
        have e' : (⟨128 + (r.val - 128), by omega⟩ : Fin 512) = r := Fin.ext (by simp; omega)
        simp only [e, e']
      · rw [dif_neg h3, Finset.sum_eq_zero fun l _ => by rw [rD_zero q d K V n r _ (hT r (by omega) l.val), zero_mul], add_zero]
  · unfold stepD1 mid
    simp only [blk_bf, blk_f, hb]
    simp only [v112, v113, v114, v117, v118, v122 _ _ _ _ _ _ _ _ _ hM, h4, v126, setBlk_up, hb]
    rw [setK]
    intro l c
    rw [rblk, rK_blk, gK]
    congr 1
    exact sum_low (fun r => rD q d K V n r (128 * (2 * n + 1) + l.val) * q r c)
      fun r hr => by rw [rD_zero q d K V n r _ (hT r hr l.val), zero_mul]
  · unfold stepD1 mid
    simp only [blk_bf, blk_f, hb]
    simp only [v112, v113, v114, v117, v118, v121 _ _ _ _ _ _ _ hM, h2, v127, setBlk_up, hb]
    rw [setV]
    intro l c
    rw [rblk, rV_blk, gV]
    congr 1
    exact sum_low (fun r => rW q K n r (128 * (2 * n + 1) + l.val) * d r c)
      fun r hr => by rw [rW_zero q K n r _ (hT r hr l.val), zero_mul]

/-- The trips before the diagonal. -/
theorem run_at (s : St Ideal) (hs : s = at_ q d K V n dk dv 0) (hn : n < 8) (k : ℕ) (hk : k ≤ n) :
    run (up .bf16 q) (up .bf16 d) (up .bf16 (col K)) (up .bf16 (col V)) 0 s k = at_ q d K V n dk dv (2 * k) := by
  induction k with
  | zero => exact hs
  | succ k ih =>
    have e0 : (ublk (2 * (0 + k))).val = 2 * k := by show (2 * (0 + k)) % 16 = _; omega
    have e1 : (ublk (2 * (0 + k) + 1)).val = 2 * k + 1 := by show (2 * (0 + k) + 1) % 16 = _; omega
    have a := stepU_at q d K V n dk dv (ublk (2 * (0 + k))) (by omega)
    have b := stepU_at q d K V n dk dv (ublk (2 * (0 + k) + 1)) (by omega)
    rw [e0] at a
    rw [e1] at b
    rw [run, ih (by omega), a, b]
    rfl

/-- Sums over all the keys are sums over the keys up to the diagonal's last block. -/
theorem rA_all (r : Fin 512) (c : Fin 128) (hn : n < 8) :
    rA q d K V n r (2 * n + 2) c = ∑ j ∈ Finset.range 2048, rD q d K V n r j * K j c := by
  refine Finset.sum_subset (Finset.range_subset_range.mpr (by omega)) fun j _ hj => ?_
  rw [rD_zero q d K V n r j, zero_mul]
  have := r.isLt
  simp only [Finset.mem_range] at hj
  unfold lT; omega

theorem gK_zero (x : ℕ) (c : Fin 128) (h : 128 * (2 * n + 2) ≤ x) : gK q d K V n x c = 0 :=
  Finset.sum_eq_zero fun r _ => by rw [rD_zero q d K V n r x (by unfold lT; omega), zero_mul]
theorem gV_zero (x : ℕ) (c : Fin 128) (h : 128 * (2 * n + 2) ≤ x) : gV q d K n x c = 0 :=
  Finset.sum_eq_zero fun r _ => by rw [rW_zero q K n r x (by unfold lT; omega), zero_mul]

/-- A whole grid point. -/
theorem point_at (i : grid0.Coords) (hn : n = (i 1).val) :
    let s := point (up .bf16 q) (up .bf16 d) (up .bf16 (col K)) (up .bf16 (col V)) i n
      (up .f32 fun r _ => total (lz q K r) (lT n r)) (up .f32 (col dk)) (up .f32 (col dv))
    s.acc = up .f32 (fun r c => ∑ j ∈ Finset.range 2048, rD q d K V n r j * K j c)
    ∧ s.dk = up .f32 (col fun x c => dk x c + gK q d K V n x c)
    ∧ s.dv = up .f32 (col fun x c => dv x c + gV q d K n x c) := by
  have hi : n < 8 := hn ▸ (i 1).isLt
  have h0 : (⟨up .f32 fun r _ => total (lz q K r) (lT n r), k0_pay94 (F := Ideal), k0_pay91 (F := Ideal), up .f32 (col dk), up .f32 (col dv)⟩ : St Ideal)
      = at_ q d K V n dk dv 0 := by
    unfold at_ k0_pay94 k0_pay91
    simp only [up_bzero, up_cast]
    simp only [rP, rF, rA, Nat.mul_zero, Finset.range_zero, Finset.sum_empty, sub_zero]
    rfl
  obtain ⟨f, hf, h1⟩ := stepD0_at q d K V n dk dv i hn
  have h2 := stepD1_at q d K V n dk dv i hn f hf
  unfold point
  simp only [h0, hn.symm, Nat.sub_self, run_at q d K V n dk dv _ rfl hi n le_rfl]
  rw [h1]
  obtain ⟨a, b, c⟩ := h2
  refine ⟨a.trans (up_congr fun r c => rA_all q d K V n r c hi), b.trans (up_congr fun r c => ?_), c.trans (up_congr fun r c => ?_)⟩
  · show rK q d K V n dk (2 * n + 2) r.val c = _
    unfold rK
    by_cases h : r.val < 128 * (2 * n + 2)
    · rw [if_pos h]
    · rw [if_neg h]; show _ = dk r.val c + gK q d K V n r.val c; rw [gK_zero q d K V n _ _ (not_lt.mp h), add_zero]
  · show rV q d K n dv (2 * n + 2) r.val c = _
    unfold rV
    by_cases h : r.val < 128 * (2 * n + 2)
    · rw [if_pos h]
    · rw [if_neg h]; show _ = dv r.val c + gV q d K n r.val c; rw [gV_zero q d K n _ _ (not_lt.mp h), add_zero]

end Point

end Cert.KernelIdeal.SB
-- ==== Proof.Heads.lean ====
module

public import proofs.«01_k».proof.Proof.Stick

@[expose] public section

/-! The gradients of stick-breaking attention over the reals, head by head. `X` holds the queries'
columns 0–255, the keys' 256–511 and the values' 512–767, `Y` the gradient of the output; head `h`
has columns `64 h` to `64 h + 63` of each. -/

noncomputable section

namespace Stick

variable (X Y : ℕ → ℕ → ℝ)

/-- The logit of key `s` for query `t`. -/
def hz (h t s : ℕ) : ℝ := ∑ l : Fin 64, X t (h * 64 + l.val) * (1 / 8) * X s (256 + (h * 64 + l.val))
/-- The gradient of the weight of key `s` for query `t`. -/
def hg (h t s : ℕ) : ℝ := ∑ l : Fin 64, Y t (h * 64 + l.val) * X s (512 + (h * 64 + l.val))
/-- The weight. -/
def hW (h t s : ℕ) : ℝ := wt (hz X h t) t s
/-- The logit's gradient. -/
def hD (h t s : ℕ) : ℝ := dlog (hz X h t) (hg X Y h t) t s

/-- The gradients of the queries, the keys and the values. -/
def oQ (t k : ℕ) : ℝ := (∑ s : Fin 2048, hD X Y (k / 64) t s.val * X s.val (256 + k)) * (1 / 8)
def oK (s k : ℕ) : ℝ := ∑ t : Fin 2048, hD X Y (k / 64) t.val s * (X t.val k * (1 / 8))
def oV (s k : ℕ) : ℝ := ∑ t : Fin 2048, hW X (k / 64) t.val s * Y t.val k

/-- The softplus. -/
def softplus (x : ℝ) : ℝ := max x 0 + tail x

theorem neg_softplus (x : ℝ) : -softplus x = logKeep x := by
  rw [softplus, logKeep, show min (-x) 0 = -max x 0 by rw [← neg_zero, min_neg_neg, neg_zero]]; ring
theorem tail_neg (x : ℝ) : tail (-x) = tail x := by rw [tail, tail, abs_neg]
theorem neg_softplus_neg (x : ℝ) : -softplus (-x) = logSig x := by
  rw [neg_softplus, logKeep, logSig, neg_neg, tail_neg]
theorem sub_softplus (x : ℝ) : x - softplus x = logSig x := by
  rw [softplus, logSig]
  have : min x 0 + max x 0 = x + 0 := min_add_max x 0
  linarith

/-- What the later keys leave, as a sum over them. -/
theorem later_eq (z : ℕ → ℝ) (T : ℕ) (s : Fin 2048) :
    (∑ j : Fin 2048, if s.val ≤ j.val then keep z T j.val else 0) - keep z T s.val = later z T s.val := by
  have e : ∑ j : Fin 2048, (if s.val ≤ j.val then keep z T j.val else 0)
      = ∑ j ∈ Finset.range 2048, (if s.val ≤ j then keep z T j else 0) :=
    (Finset.sum_range (fun j => if s.val ≤ j then keep z T j else 0)).symm
  have hs := s.isLt
  have e2 : ∑ j ∈ Finset.range 2048, (if s.val ≤ j then keep z T j else 0) + ∑ j ∈ Finset.range s.val, keep z T j = total z T := by
    rw [total, ← Finset.sum_filter, add_comm, ← Finset.sum_range_add_sum_Ico _ hs.le]
    congr 1
    refine Finset.sum_congr ?_ fun _ _ => rfl
    ext j; simp only [Finset.mem_filter, Finset.mem_range, Finset.mem_Ico]; omega
  rw [later, Finset.sum_range_succ, e]
  linarith

/-- The sum of the earlier keys and the key itself. -/
theorem before_eq (f : ℕ → ℝ) (s : Fin 2048) :
    (∑ j : Fin 2048, if j.val ≤ s.val then f j.val else 0) = ∑ j ∈ Finset.range s.val, f j + f s.val := by
  have hs := s.isLt
  rw [← Finset.sum_range_succ, ← Finset.sum_range (fun j => if j ≤ s.val then f j else 0), ← Finset.sum_filter]
  refine Finset.sum_congr ?_ fun _ _ => rfl
  ext j; simp only [Finset.mem_filter, Finset.mem_range]; omega

end Stick
-- ==== Proof.Host.lean ====
module

public import proofs.«01_k».proof.Proof.Run
public import proofs.«01_k».proof.Proof.Walk
public import proofs.«01_k».proof.Proof.Heads
public import Idealize.ShloMosaic.Lib.StableHlo.ReadAt

@[expose] public section

/-! What the host hands the kernel: the totals of every query and the number of blocks to walk. -/
set_option maxRecDepth 16384

noncomputable section

namespace Cert.KernelIdeal.SB

open Idealize.ShloMosaic Cert.KernelIdeal Cert.KernelIdeal.Gen Stick

variable (X Y : ℕ → ℕ → ℝ)

/-- Arguments of reals. -/
def xs : FVec Ideal S2048x768 .bf16 := fun j => ((X (j 0).val (j 1).val : ℝ) : EReal)
def ys : FVec Ideal S2048x256 .f32 := fun j => ((Y (j 0).val (j 1).val : ℝ) : EReal)

theorem ofBits_eighth : Ideal.ofBits .f32 0x3E000000#32 = ((1 / 8 : ℝ) : EReal) := by
  simp [Ideal.ofBits, Ideal.ieee, -EReal.coe_mul]; norm_num

theorem ofBits_eighth' : Ideal.ofBits .bf16 0x3E00#16 = ((1 / 8 : ℝ) : EReal) := by
  simp [Ideal.ofBits, Ideal.ieee, -EReal.coe_mul]; norm_num

theorem slt_word (a b : ℕ) (ha : a < 2048) (hb : b < 2048) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt_eq_decide, BitVec.toInt_eq_toNat_of_lt, BitVec.toInt_eq_toNat_of_lt] <;> simp [Nat.mod_eq_of_lt, *] <;> omega

theorem abs_real (x : ℝ) : FloatOps.absf (F := Ideal) (φ := .f32) (x : EReal) = ((|x| : ℝ) : EReal) := by
  show max (x : EReal) (-(x : EReal)) = _
  exact (EReal.coe_strictMono.monotone.map_max (a := x) (b := -x)).symm

/-- The host's softplus of a real. -/
theorem softplus_at (x : ℝ) : (if (x : EReal) ≠ (x : EReal) then (x : EReal)
    else max (x : EReal) 0 + Ideal.log1p (Ideal.exp (-FloatOps.absf (F := Ideal) (φ := .f32) (x : EReal)))) = ((softplus x : ℝ) : EReal) := by
  rw [if_neg (not_not.mpr rfl), abs_real]
  have : Ideal.log1p (Ideal.exp (-((|x| : ℝ) : EReal))) = ((tail x : ℝ) : EReal) := by
    show Ideal.log ((1 : EReal) + ((Real.exp (-|x|) : ℝ) : EReal)) = _
    rw [show (1 : EReal) + ((Real.exp (-|x|) : ℝ) : EReal) = ((1 + Real.exp (-|x|) : ℝ) : EReal) from rfl]
    exact if_neg (not_le.mpr (one_add_pos x))
  rw [this, show max (x : EReal) 0 = ((max x 0 : ℝ) : EReal) from (EReal.coe_strictMono.monotone.map_max (a := x) (b := 0)).symm]
  rfl

section Values
variable (m : (ℓ : Loc nD τ sig) → Buf (Elt Ideal) ℓ) (c : Dev nD)

theorem swept_at (p : Fin 2) (n : Fin 8) (r : Fin 8) (l : Fin 128) :
    (V m c main_v26 : FVec Ideal S2x8x8x128 .f32) (ix4 p n r l) = ((n.val : ℝ) : EReal) := by
  unfold V
  after_reads_at
  show ((((BitVec.ofNat 32 n.val).toInt : ℝ)) : EReal) = _
  rw [BitVec.toInt_eq_toNat_of_lt (by simp only [BitVec.toNat_ofNat]; omega), BitVec.toNat_ofNat, Nat.mod_eq_of_lt (by omega)]
  rfl

/-- One key's share of the total. -/
theorem keep_at (Z z : EReal) (zr : ℕ → ℝ) (t s : Fin 2048) (hZ : Z = ((zr s.val : ℝ) : EReal)) (hz : z = 0) :
    Scalar.select (IntOp.cmpi .slt (BitVec.ofNat 32 s.val) (BitVec.ofNat 32 t.val))
      (-(if - -Z ≠ - -Z then - -Z else max (- -Z) 0 + Ideal.log1p (Ideal.exp (-FloatOps.absf (F := Ideal) (φ := .f32) (- -Z))))) z
      = ((keep zr t.val s.val : ℝ) : EReal) := by
  subst hZ hz
  rw [neg_neg, softplus_at, slt_word _ _ s.isLt t.isLt, keep, ← neg_softplus]
  by_cases h : s.val < t.val
  · rw [decide_eq_true h, if_pos h]; rfl
  · rw [decide_eq_false h, if_neg h]; rfl

/-- One term of a logit. -/
theorem term_at (a b e : EReal) (x y : ℝ) (ha : a = x) (hb : b = y) (he : e = ((1 / 8 : ℝ) : EReal)) : a * e * b = ((x * (1 / 8) * y : ℝ) : EReal) := by
  rw [ha, hb, he, EReal.coe_mul, EReal.coe_mul]

theorem tot_at (hx : ∀ (r : Fin 2048) (k : Fin 768), (m (c, Proc.tc.devRef main_arg0) : FVec Ideal S2048x768 .bf16) (ix2 r k) = ((X r.val k.val : ℝ) : EReal))
    (r : Fin 2048) (k : Fin 512) :
    (V m c main_v24 : FVec Ideal S2048x512 .f32) (ix2 r k) = ((total (hz X (k.val / 128) r.val) r.val : ℝ) : EReal) := by
  unfold V
  after_reads_at
  refine Eq.trans (Finset.sum_congr rfl fun s _ => keep_at _ _ (hz X (k.val / 128) r.val) r s ?_ Ideal.ofBits_zero_f32) ?_
  · refine Eq.trans (Finset.sum_congr rfl fun l _ => term_at _ _ _ _ _ (hx _ _) (hx _ _) ofBits_eighth) ?_
    exact coe_sum _ _
  · rw [total, Finset.sum_range]
    exact coe_sum _ _

end Values

end Cert.KernelIdeal.SB
-- ==== Proof.Pay.lean ====
module

public import proofs.«01_k».proof.Proof.Host

@[expose] public section

/-! The values a grid point makes of its blocks before and after the walk, over the reals. -/
set_option maxRecDepth 16384

noncomputable section
namespace Cert.KernelIdeal.SB
open Idealize.ShloMosaic Cert.KernelIdeal Cert.KernelIdeal.Gen Stick

theorem pay83 (x : FVec Ideal S1x1x8x128 .f32) (n : ℝ) (h : ∀ r l, x (ix4 0 0 r l) = (n : EReal)) : (k0_pay83 (F := Ideal) x : EReal) = (n : EReal) := by
  pointwise [k0_pay83]
  refine le_antisymm ((Finset.fold_max_le _).mpr ⟨?_, fun i _ => (h i.1 i.2).le⟩) ((Finset.le_fold_max _).mpr (Or.inr ⟨(0, 0), Finset.mem_univ _, (h 0 0).ge⟩))
  rw [show Ideal.ofBits FTy.f32 4286578688#32 = (⊥ : EReal) by simp [Ideal.ofBits, Ideal.ieee]]
  exact bot_le
theorem fpto (n : ℕ) (h : n < 8) : (Scalar.fptosi (F := Ideal) (φ := .f32) 32 ((n : ℝ) : EReal)) = BitVec.ofNat 32 n := by
  have e : Ideal.fptosi 32 ((n : ℝ) : EReal) = BitVec.ofInt 32 (max (-(2 ^ (32 - 1) : Nat)) (min ((2 ^ (32 - 1) : Nat) - 1) (if 0 ≤ (n : ℝ) then ⌊(n : ℝ)⌋ else ⌈(n : ℝ)⌉))) := rfl
  rw [Ideal.scalar_fptosi_def, e, if_pos (Nat.cast_nonneg n), Int.floor_natCast, min_eq_right (by norm_num; omega), max_eq_right (by norm_num)]
  exact BitVec.ofInt_natCast 32 n

theorem lane_word (l : Fin 128) : IntOp.cmpi .slt (BitVec.ofNat 32 l.val) 64#32 = BitVec.ofBool (decide (l.val < 64)) :=
  slt_word l.val 64 (by omega) (by omega)

/-- A lane of the first head or of the second, picked by a real. -/
theorem pick (l : Fin 128) (a b : ℝ) :
    Scalar.select (IntOp.cmpi .slt (BitVec.ofNat 32 l.val) 64#32) (a : EReal) (b : EReal) = ((if l.val < 64 then a else b : ℝ) : EReal) := by
  rw [lane_word]
  by_cases h : l.val < 64
  · rw [decide_eq_true h, if_pos h]; rfl
  · rw [decide_eq_false h, if_neg h]; rfl

/-- The queries: the two heads of a pair one below the other, each with the other head's lanes cleared. -/
theorem p84 (A : Fin 256 → Fin 128 → ℝ) : k0_pay84 (up .bf16 A) = up .bf16 (stack (fun r l => if l.val < 64 then A r l * (1 / 8) else 0) fun r l => if l.val < 64 then 0 else A r l * (1 / 8)) := by
  funext j
  idx_vars j
  pointwise [k0_pay84]
  rw [up_at, stack]
  by_cases h : j0.val < 256
  · rw [dif_pos h, dif_pos h, ofBits_eighth', up_at, ← EReal.coe_mul]; exact pick j1 _ 0
  · rw [dif_neg h, dif_neg h, ofBits_eighth', up_at, ← EReal.coe_mul]; exact pick j1 0 _

theorem p85 (A : Fin 256 → Fin 128 → ℝ) : k0_pay85 (up .f32 A) = up .bf16 (stack (fun r l => if l.val < 64 then A r l else 0) fun r l => if l.val < 64 then 0 else A r l) := by
  funext j
  idx_vars j
  pointwise [k0_pay85]
  rw [up_at, stack]
  by_cases h : j0.val < 256
  · rw [dif_pos h, dif_pos h, up_at]; exact pick j1 _ 0
  · rw [dif_neg h, dif_neg h, up_at]; exact pick j1 0 _

/-- The queries' gradient: each lane from its own head's rows. -/
theorem p128 (A : Fin 512 → Fin 128 → ℝ) : k0_pay128 (up .f32 A) = up .bf16 fun r l => 1 / 8 * (if l.val < 64 then A ⟨r.val, by omega⟩ l else A ⟨256 + r.val, by omega⟩ l) := by
  funext j
  idx_vars j
  pointwise [k0_pay128]
  rw [up_at, up_at, up_at, ofBits_eighth, pick, ← EReal.coe_mul]

theorem tots_at (A : Fin 256 → Fin 256 → ℝ) : tots (F := Ideal) (up .f32 A) = up .f32 (stack (fun r l => A r ⟨l.val, by omega⟩) fun r l => A r ⟨128 + l.val, by omega⟩) := by
  have h : ∀ (o : ℕ) (ho : o + 128 ≤ 256), cols (F := Ideal) (up .f32 A) o ho = up .f32 fun r (l : Fin 128) => A r ⟨o + l.val, by omega⟩ := by
    intro o ho
    funext j
    show ((A ⟨0 + 1 * (j 0).val, _⟩ ⟨o + 1 * (j 1).val, _⟩ : ℝ) : EReal) = ((A (j 0) ⟨o + (j 1).val, _⟩ : ℝ) : EReal)
    refine congrArg₂ (fun a b => ((A a b : ℝ) : EReal)) (Fin.ext ?_) (Fin.ext ?_)
    · show 0 + 1 * (j 0).val = (j 0).val; omega
    · show o + 1 * (j 1).val = o + (j 1).val; omega
  have h86 : ∀ v : Vec Ideal S256x128 .f32, k0_pay86 v = v := fun v => shapeCast_self _ _
  have h87 : ∀ v : Vec Ideal S256x128 .f32, k0_pay87 v = v := fun v => shapeCast_self _ _
  unfold tots
  rw [h, h, h86, h87]
  unfold k0_pay88
  refine (up_stack _ _ _).trans ?_
  simp only [zero_add]

end Cert.KernelIdeal.SB
-- ==== Proof.Pair.lean ====
module

public import proofs.«01_k».proof.Proof.Pay

@[expose] public section

/-! One grid point: a pair of heads and a block of 256 queries. -/
set_option maxRecDepth 16384

noncomputable section
namespace Cert.KernelIdeal.SB
open Idealize.ShloMosaic Cert.KernelIdeal Cert.KernelIdeal.Gen Stick

theorem sum_halves (f : Fin 128 → ℝ) : ∑ l, f l = ∑ l : Fin 64, f ⟨l.val, by omega⟩ + ∑ l : Fin 64, f ⟨64 + l.val, by omega⟩ :=
  Fin.sum_univ_add (a := 64) (b := 64) f

theorem sum_rows (f : Fin 512 → ℝ) : ∑ r, f r = ∑ r : Fin 256, f ⟨r.val, by omega⟩ + ∑ r : Fin 256, f ⟨256 + r.val, by omega⟩ :=
  Fin.sum_univ_add (a := 256) (b := 256) f

section
variable (X Y : ℕ → ℕ → ℝ) (p n : ℕ)

/-- The two heads' queries, output gradients, keys and values. -/
def qA (r : Fin 256) (l : Fin 128) : ℝ := X (256 * n + r.val) (128 * p + l.val)
def qR : M512 := stack (fun r l => if l.val < 64 then qA X p n r l * (1 / 8) else 0) fun r l => if l.val < 64 then 0 else qA X p n r l * (1 / 8)
def dR : M512 := stack (fun r l => if l.val < 64 then qA Y p n r l else 0) fun r l => if l.val < 64 then 0 else qA Y p n r l
def kR : Rows := fun s l => X s (256 + (128 * p + l.val))
def vR : Rows := fun s l => X s (512 + (128 * p + l.val))

/-- A row's position and head. -/
def posOf (r : Fin 512) : ℕ := 256 * n + r.val % 256
def headOf (r : Fin 512) : ℕ := 2 * p + r.val / 256

theorem stack_low (A B : Fin 256 → Fin 128 → ℝ) (r : Fin 256) (c : Fin 128) : stack A B ⟨r.val, by omega⟩ c = A r c := dif_pos r.isLt
theorem stack_high (A B : Fin 256 → Fin 128 → ℝ) (r : Fin 256) (c : Fin 128) : stack A B ⟨256 + r.val, by omega⟩ c = B r c := by
  rw [stack, dif_neg (by show ¬256 + r.val < 256; omega)]
  exact congrArg (fun x => B x c) (Fin.ext (by show 256 + r.val - 256 = r.val; omega))

/-- A row is of the first head or of the second. -/
theorem row_cases {P : Fin 512 → Prop} (h0 : ∀ r : Fin 256, P ⟨r.val, by omega⟩) (h1 : ∀ r : Fin 256, P ⟨256 + r.val, by omega⟩) (r : Fin 512) : P r := by
  by_cases h : r.val < 256
  · exact h0 ⟨r.val, h⟩
  · have := h1 ⟨r.val - 256, by omega⟩
    rwa [show (⟨256 + (r.val - 256), by omega⟩ : Fin 512) = r from Fin.ext (by show 256 + (r.val - 256) = r.val; omega)] at this

theorem pos_low (r : Fin 256) : posOf n ⟨r.val, by omega⟩ = 256 * n + r.val := by unfold posOf; dsimp only; omega
theorem pos_high (r : Fin 256) : posOf n ⟨256 + r.val, by omega⟩ = 256 * n + r.val := by unfold posOf; dsimp only; omega
theorem head_low (r : Fin 256) : headOf p ⟨r.val, by omega⟩ = 2 * p := by unfold headOf; dsimp only; omega
theorem head_high (r : Fin 256) : headOf p ⟨256 + r.val, by omega⟩ = 2 * p + 1 := by unfold headOf; dsimp only; omega

/-- The cleared lanes leave a head's own sum. -/
theorem low_sum (A : Fin 256 → Fin 128 → ℝ) (r : Fin 256) (g : Fin 128 → ℝ) :
    ∑ l : Fin 128, (if l.val < 64 then A r l else 0) * g l = ∑ l : Fin 64, A r ⟨l.val, by omega⟩ * g ⟨l.val, by omega⟩ := by
  rw [sum_halves]
  rw [show ∑ l : Fin 64, (if (⟨64 + l.val, by omega⟩ : Fin 128).val < 64 then A r ⟨64 + l.val, by omega⟩ else 0) * g ⟨64 + l.val, by omega⟩ = 0 from
    Finset.sum_eq_zero fun l _ => by rw [if_neg (by show ¬64 + l.val < 64; omega), zero_mul], add_zero]
  exact Finset.sum_congr rfl fun l _ => by rw [if_pos l.isLt]
theorem high_sum (A : Fin 256 → Fin 128 → ℝ) (r : Fin 256) (g : Fin 128 → ℝ) :
    ∑ l : Fin 128, (if l.val < 64 then 0 else A r l) * g l = ∑ l : Fin 64, A r ⟨64 + l.val, by omega⟩ * g ⟨64 + l.val, by omega⟩ := by
  rw [sum_halves]
  rw [show ∑ l : Fin 64, (if (⟨l.val, by omega⟩ : Fin 128).val < 64 then 0 else A r ⟨l.val, by omega⟩) * g ⟨l.val, by omega⟩ = 0 from
    Finset.sum_eq_zero fun l _ => by rw [if_pos (by exact l.isLt), zero_mul], zero_add]
  exact Finset.sum_congr rfl fun l _ => by rw [if_neg (by show ¬64 + l.val < 64; omega)]

theorem lz_eq (r : Fin 512) : lz (qR X p n) (kR X p) r = hz X (headOf p r) (posOf n r) := by
  funext s
  revert r
  refine row_cases (fun r => ?_) (fun r => ?_)
  · rw [lz, head_low, pos_low, hz]
    simp only [qR, stack_low]
    refine (low_sum (fun r l => qA X p n r l * (1 / 8)) r _).trans (Finset.sum_congr rfl fun l _ => ?_)
    simp only [qA, kR]
    rw [show 128 * p = 2 * p * 64 by omega]
  · rw [lz, head_high, pos_high, hz]
    simp only [qR, stack_high]
    refine (high_sum (fun r l => qA X p n r l * (1 / 8)) r _).trans (Finset.sum_congr rfl fun l _ => ?_)
    simp only [qA, kR]
    rw [show 128 * p + (64 + l.val) = (2 * p + 1) * 64 + l.val by omega]

theorem lg_eq (r : Fin 512) : lg (dR Y p n) (vR X p) r = hg X Y (headOf p r) (posOf n r) := by
  funext s
  revert r
  refine row_cases (fun r => ?_) (fun r => ?_)
  · rw [lg, head_low, pos_low, hg]
    simp only [dR, stack_low]
    refine (low_sum (fun r l => qA Y p n r l) r _).trans (Finset.sum_congr rfl fun l _ => ?_)
    simp only [qA, vR]
    rw [show 128 * p = 2 * p * 64 by omega]
  · rw [lg, head_high, pos_high, hg]
    simp only [dR, stack_high]
    refine (high_sum (fun r l => qA Y p n r l) r _).trans (Finset.sum_congr rfl fun l _ => ?_)
    simp only [qA, vR]
    rw [show 128 * p + (64 + l.val) = (2 * p + 1) * 64 + l.val by omega]

theorem rW_eq (r : Fin 512) (s : ℕ) : rW (qR X p n) (kR X p) n r s = hW X (headOf p r) (posOf n r) s := by
  rw [rW, lz_eq]; rfl
theorem rD_eq (r : Fin 512) (s : ℕ) : rD (qR X p n) (dR Y p n) (kR X p) (vR X p) n r s = hD X Y (headOf p r) (posOf n r) s := by
  rw [rD, lz_eq, lg_eq]; rfl

/-- A sum over the 512 rows against the cleared lanes is a sum over the lane's own head's rows. -/
theorem lane_sum (f : ℕ → ℕ → ℝ) (A : Fin 256 → Fin 128 → ℝ) (c : Fin 128) :
    ∑ r, f (headOf p r) (posOf n r) * stack (fun r l => if l.val < 64 then A r l else 0) (fun r l => if l.val < 64 then 0 else A r l) r c
      = ∑ r : Fin 256, f ((128 * p + c.val) / 64) (256 * n + r.val) * A r c := by
  rw [sum_rows]
  simp only [stack_low, stack_high, head_low, head_high, pos_low, pos_high]
  by_cases h : c.val < 64
  · simp only [if_pos h, mul_zero, Finset.sum_const_zero, add_zero]
    rw [show (128 * p + c.val) / 64 = 2 * p by omega]
  · simp only [if_neg h, mul_zero, Finset.sum_const_zero, zero_add]
    rw [show (128 * p + c.val) / 64 = 2 * p + 1 by omega]

theorem gK_eq (x : ℕ) (c : Fin 128) : gK (qR X p n) (dR Y p n) (kR X p) (vR X p) n x c
    = ∑ r : Fin 256, hD X Y ((128 * p + c.val) / 64) (256 * n + r.val) x * (X (256 * n + r.val) (128 * p + c.val) * (1 / 8)) := by
  rw [gK]
  simp only [rD_eq]
  exact lane_sum p n (fun h t => hD X Y h t x) (fun r l => qA X p n r l * (1 / 8)) c

theorem gV_eq (x : ℕ) (c : Fin 128) : gV (qR X p n) (dR Y p n) (kR X p) n x c
    = ∑ r : Fin 256, hW X ((128 * p + c.val) / 64) (256 * n + r.val) x * Y (256 * n + r.val) (128 * p + c.val) := by
  rw [gV]
  simp only [rW_eq, dR]
  exact lane_sum p n (fun h t => hW X h t x) (fun r l => qA Y p n r l) c

/-- The queries' gradient. -/
theorem acc_eq (r : Fin 256) (c : Fin 128) :
    1 / 8 * (if c.val < 64 then ∑ j ∈ Finset.range 2048, rD (qR X p n) (dR Y p n) (kR X p) (vR X p) n ⟨r.val, by omega⟩ j * kR X p j c
      else ∑ j ∈ Finset.range 2048, rD (qR X p n) (dR Y p n) (kR X p) (vR X p) n ⟨256 + r.val, by omega⟩ j * kR X p j c)
      = oQ X Y (256 * n + r.val) (128 * p + c.val) := by
  simp only [rD_eq, head_low, head_high, pos_low, pos_high]
  rw [oQ, mul_comm, ← Finset.sum_range (fun s => hD X Y ((128 * p + c.val) / 64) (256 * n + r.val) s * X s (256 + (128 * p + c.val)))]
  by_cases h : c.val < 64
  · rw [if_pos h, show (128 * p + c.val) / 64 = 2 * p by omega]; rfl
  · rw [if_neg h, show (128 * p + c.val) / 64 = 2 * p + 1 by omega]; rfl

/-- The keys' and values' gradients from the first `N` queries. -/
def pK (N x k : ℕ) : ℝ := ∑ t ∈ Finset.range N, hD X Y (k / 64) t x * (X t k * (1 / 8))
def pV (N x k : ℕ) : ℝ := ∑ t ∈ Finset.range N, hW X (k / 64) t x * Y t k

theorem pK_next (x : ℕ) (c : Fin 128) : pK X Y (256 * n) x (128 * p + c.val) + gK (qR X p n) (dR Y p n) (kR X p) (vR X p) n x c
    = pK X Y (256 * (n + 1)) x (128 * p + c.val) := by
  rw [pK, pK, gK_eq, show 256 * (n + 1) = 256 * n + 256 by omega, Finset.sum_range_add,
    ← Finset.sum_range (fun r => hD X Y ((128 * p + c.val) / 64) (256 * n + r) x * (X (256 * n + r) (128 * p + c.val) * (1 / 8)))]
theorem pV_next (x : ℕ) (c : Fin 128) : pV X Y (256 * n) x (128 * p + c.val) + gV (qR X p n) (dR Y p n) (kR X p) n x c
    = pV X Y (256 * (n + 1)) x (128 * p + c.val) := by
  rw [pV, pV, gV_eq, show 256 * (n + 1) = 256 * n + 256 by omega, Finset.sum_range_add,
    ← Finset.sum_range (fun r => hW X ((128 * p + c.val) / 64) (256 * n + r) x * Y (256 * n + r) (128 * p + c.val))]
theorem pK_all (x k : ℕ) : pK X Y 2048 x k = oK X Y x k := Finset.sum_range _
theorem pV_all (x k : ℕ) : pV X Y 2048 x k = oV X Y x k := Finset.sum_range _

end

end Cert.KernelIdeal.SB
-- ==== Proof.Grid.lean ====
module

public import proofs.«01_k».proof.Proof.Pair
public import Idealize.ShloMosaic.Lib.Pipeline.ValueKit

@[expose] public section

/-! The whole grid over the reals: what each point reads, and what it leaves. -/
set_option maxRecDepth 16384

noncomputable section
namespace Cert.KernelIdeal.SB
open Idealize.ShloMosaic Cert.KernelIdeal Cert.KernelIdeal.Gen Stick

/-- Where the windows of each grid point lie. -/
theorem places : ∀ t : Fin cfg0.N, (win0_0.index t = ![t.val % 8, t.val / 8]) ∧ win0_1.index t = ![0, 2 + t.val / 8]
    ∧ win0_2.index t = ![0, 4 + t.val / 8] ∧ win0_3.index t = ![t.val % 8, t.val / 8] ∧ win0_4.index t = ![t.val / 8, t.val % 8, 0, 0]
    ∧ win0_5.index t = ![t.val % 8, t.val / 8] := by decide +kernel

theorem coord_one : ∀ t : Fin cfg0.N, ((grid0.coords t) 1).val = t.val % 8 :=
  (by decide +kernel : ∀ t : Fin grid0.N, ((grid0.coords t) 1).val = t.val % 8)

theorem t_lt (t : Fin cfg0.N) : t.val < 16 := t.isLt

section Blocks
variable (m : (ℓ : Loc nD τ sig) → Buf (Elt Ideal) ℓ) (c : Dev nD)

theorem q_blk (t : Fin cfg0.N) (r : Fin 256) (l : Fin 128) :
    (iblk m c 0 t : FVec Ideal S256x128 .bf16) (ix2 r l) = (m (c, Proc.tc.devRef main_arg0) : FVec Ideal S2048x768 .bf16)
      (ix2 ⟨256 * (t.val % 8) + r.val, by omega⟩ ⟨128 * (t.val / 8) + l.val, by have := t_lt t; omega⟩) := by
  blk_point [iblk, V, places t]
theorem k_blk (t : Fin cfg0.N) (r : Fin 2048) (l : Fin 128) :
    (iblk m c 1 t : FVec Ideal S2048x128 .bf16) (ix2 r l) = (m (c, Proc.tc.devRef main_arg0) : FVec Ideal S2048x768 .bf16)
      (ix2 r ⟨256 + (128 * (t.val / 8) + l.val), by have := t_lt t; omega⟩) := by
  blk_point [iblk, V, places t]
theorem v_blk (t : Fin cfg0.N) (r : Fin 2048) (l : Fin 128) :
    (iblk m c 2 t : FVec Ideal S2048x128 .bf16) (ix2 r l) = (m (c, Proc.tc.devRef main_arg0) : FVec Ideal S2048x768 .bf16)
      (ix2 r ⟨512 + (128 * (t.val / 8) + l.val), by have := t_lt t; omega⟩) := by
  blk_point [iblk, V, places t]
theorem t_blk (t : Fin cfg0.N) (r : Fin 256) (l : Fin 256) :
    (iblk m c 3 t : FVec Ideal S256x256 .f32) (ix2 r l) = (V m c main_v24 : FVec Ideal S2048x512 .f32)
      (ix2 ⟨256 * (t.val % 8) + r.val, by omega⟩ ⟨256 * (t.val / 8) + l.val, by have := t_lt t; omega⟩) := by
  blk_point [iblk, places t]
theorem s_blk (t : Fin cfg0.N) (r : Fin 8) (l : Fin 128) :
    (iblk m c 4 t : FVec Ideal S1x1x8x128 .f32) (ix4 0 0 r l) = (V m c main_v26 : FVec Ideal S2x8x8x128 .f32)
      (ix4 ⟨t.val / 8, by have := t_lt t; omega⟩ ⟨t.val % 8, by omega⟩ r l) := by
  blk_point [iblk, places t]
theorem d_blk (t : Fin cfg0.N) (r : Fin 256) (l : Fin 128) :
    (iblk m c 5 t : FVec Ideal S256x128 .f32) (ix2 r l) = (m (c, Proc.tc.devRef main_arg1) : FVec Ideal S2048x256 .f32)
      (ix2 ⟨256 * (t.val % 8) + r.val, by omega⟩ ⟨128 * (t.val / 8) + l.val, by have := t_lt t; omega⟩) := by
  blk_point [iblk, V, places t]

variable (X Y : ℕ → ℕ → ℝ)
  (hx : ∀ (r : Fin 2048) (k : Fin 768), (m (c, Proc.tc.devRef main_arg0) : FVec Ideal S2048x768 .bf16) (ix2 r k) = ((X r.val k.val : ℝ) : EReal))
  (hy : ∀ (r : Fin 2048) (k : Fin 256), (m (c, Proc.tc.devRef main_arg1) : FVec Ideal S2048x256 .f32) (ix2 r k) = ((Y r.val k.val : ℝ) : EReal))

/-- An array that holds reals at every index. -/
theorem up_of {φ : FTy} {a b : ℕ} (v : FVec Ideal ⟨2, ![a, b]⟩ φ) (A : Fin a → Fin b → ℝ) (h : ∀ r l, v (ix2 r l) = ((A r l : ℝ) : EReal)) : v = up φ A := by
  funext j
  obtain ⟨r, l, rfl⟩ : ∃ (r : Fin a) (l : Fin b), j = ix2 r l := ⟨j 0, j 1, eq_ix2 j⟩
  exact h r l

section
include hx
theorem q_up (t : Fin cfg0.N) : (iblk m c 0 t : FVec Ideal S256x128 .bf16) = up .bf16 (qA X (t.val / 8) (t.val % 8)) :=
  up_of _ _ fun r l => (q_blk m c t r l).trans (hx _ _)
theorem k_up (t : Fin cfg0.N) : (iblk m c 1 t : FVec Ideal S2048x128 .bf16) = up .bf16 (col (kR X (t.val / 8))) :=
  up_of _ _ fun r l => (k_blk m c t r l).trans (hx _ _)
theorem v_up (t : Fin cfg0.N) : (iblk m c 2 t : FVec Ideal S2048x128 .bf16) = up .bf16 (col (vR X (t.val / 8))) :=
  up_of _ _ fun r l => (v_blk m c t r l).trans (hx _ _)
theorem t_up (t : Fin cfg0.N) : (iblk m c 3 t : FVec Ideal S256x256 .f32)
    = up .f32 fun r l => total (hz X ((256 * (t.val / 8) + l.val) / 128) (256 * (t.val % 8) + r.val)) (256 * (t.val % 8) + r.val) :=
  up_of _ _ fun r l => (t_blk m c t r l).trans (tot_at X m c hx _ _)
theorem tots_up (t : Fin cfg0.N) : tots (F := Ideal) (iblk m c 3 t)
    = up .f32 fun r _ => total (lz (qR X (t.val / 8) (t.val % 8)) (kR X (t.val / 8)) r) (lT (t.val % 8) r) := by
  rw [t_up m c X hx t, tots_at]
  refine up_congr fun r l => ?_
  rw [lz_eq]
  revert r
  refine row_cases (fun r => ?_) (fun r => ?_)
  · rw [stack_low, head_low, pos_low, show lT (t.val % 8) ⟨r.val, by omega⟩ = posOf (t.val % 8) ⟨r.val, by omega⟩ from rfl, pos_low]
    rw [show (256 * (t.val / 8) + (⟨l.val, by omega⟩ : Fin 256).val) / 128 = 2 * (t.val / 8) by show (256 * (t.val / 8) + l.val) / 128 = _; omega]
  · rw [stack_high, head_high, pos_high, show lT (t.val % 8) ⟨256 + r.val, by omega⟩ = posOf (t.val % 8) ⟨256 + r.val, by omega⟩ from rfl, pos_high]
    rw [show (256 * (t.val / 8) + (⟨128 + l.val, by omega⟩ : Fin 256).val) / 128 = 2 * (t.val / 8) + 1 by show (256 * (t.val / 8) + (128 + l.val)) / 128 = _; omega]
end

include hy in
theorem d_up (t : Fin cfg0.N) : (iblk m c 5 t : FVec Ideal S256x128 .f32) = up .f32 (qA Y (t.val / 8) (t.val % 8)) :=
  up_of _ _ fun r l => (d_blk m c t r l).trans (hy _ _)

theorem word_min : ∀ (a : Fin 8), (Scalar.minsi (BitVec.ofNat 32 a.val) (Scalar.maxsi 0#32 (BitVec.ofNat 32 a.val))).toNat = a.val := by decide +kernel

theorem trips_at (t : Fin cfg0.N) : nTrips (grid0.coords t) (Scalar.fptosi (F := Ideal) (φ := .f32) 32 (k0_pay83 (F := Ideal) (iblk m c 4 t))) = t.val % 8 := by
  have h : (k0_pay83 (F := Ideal) (iblk m c 4 t) : EReal) = (((t.val % 8 : ℕ) : ℝ) : EReal) :=
    pay83 _ _ fun r l => (s_blk m c t r l).trans (swept_at m c _ _ r l)
  have e : Scalar.fptosi (F := Ideal) (φ := .f32) 32 (k0_pay83 (F := Ideal) (iblk m c 4 t)) = BitVec.ofNat 32 (t.val % 8) :=
    (congrArg (Scalar.fptosi (F := Ideal) (φ := .f32) 32) h).trans (fpto _ (Nat.mod_lt _ (by norm_num)))
  rw [e, nTrips, clip, coord_one]
  exact word_min ⟨t.val % 8, Nat.mod_lt _ (by norm_num)⟩

include hx hy in
/-- What a grid point leaves, of the keys' and values' gradients before it. -/
theorem leave_at (t : Fin cfg0.N) (x9 x10 : Vec Ideal S2048x128 .f32) (dk dv : Rows)
    (h9 : (if isFirst (grid0.coords t) then k0_pay92 (F := Ideal) else x9) = up .f32 (col dk))
    (h10 : (if isFirst (grid0.coords t) then k0_pay93 (F := Ideal) else x10) = up .f32 (col dv)) :
    (leave m c t x9 x10).acc = up .f32 (fun r l => ∑ j ∈ Finset.range 2048,
        rD (qR X (t.val / 8) (t.val % 8)) (dR Y (t.val / 8) (t.val % 8)) (kR X (t.val / 8)) (vR X (t.val / 8)) (t.val % 8) r j * kR X (t.val / 8) j l)
    ∧ (leave m c t x9 x10).dk = up .f32 (col fun x l => dk x l + gK (qR X (t.val / 8) (t.val % 8)) (dR Y (t.val / 8) (t.val % 8)) (kR X (t.val / 8)) (vR X (t.val / 8)) (t.val % 8) x l)
    ∧ (leave m c t x9 x10).dv = up .f32 (col fun x l => dv x l + gV (qR X (t.val / 8) (t.val % 8)) (dR Y (t.val / 8) (t.val % 8)) (kR X (t.val / 8)) (t.val % 8) x l) := by
  have hp := point_at (qR X (t.val / 8) (t.val % 8)) (dR Y (t.val / 8) (t.val % 8)) (kR X (t.val / 8)) (vR X (t.val / 8)) (t.val % 8) dk dv
    (grid0.coords t) (coord_one t).symm
  have e : leave m c t x9 x10 = point (up .bf16 (qR X (t.val / 8) (t.val % 8))) (up .bf16 (dR Y (t.val / 8) (t.val % 8))) (up .bf16 (col (kR X (t.val / 8))))
      (up .bf16 (col (vR X (t.val / 8)))) (grid0.coords t) (t.val % 8)
      (up .f32 fun r _ => total (lz (qR X (t.val / 8) (t.val % 8)) (kR X (t.val / 8)) r) (lT (t.val % 8) r)) (up .f32 (col dk)) (up .f32 (col dv)) := by
    unfold leave bodyPoint
    rw [h9, h10, trips_at m c t, tots_up m c X hx t, q_up m c X hx t, k_up m c X hx t, v_up m c X hx t, d_up m c Y hy t, p84, p85]
    rfl
  rw [e]
  exact hp

theorem zero92 : k0_pay92 (F := Ideal) = up .f32 (col fun _ _ => 0) := by
  funext j; exact Ideal.ofBits_zero_f32
theorem zero93 : k0_pay93 (F := Ideal) = up .f32 (col fun _ _ => 0) := zero92

include hx hy in
/-- What every grid point leaves. -/
theorem outs_at (t : ℕ) (ht : t < cfg0.N) :
    (outs m c t ht).acc = up .f32 (fun r l => ∑ j ∈ Finset.range 2048,
        rD (qR X (t / 8) (t % 8)) (dR Y (t / 8) (t % 8)) (kR X (t / 8)) (vR X (t / 8)) (t % 8) r j * kR X (t / 8) j l)
    ∧ (outs m c t ht).dk = up .f32 (col fun x l => pK X Y (256 * (t % 8 + 1)) x (128 * (t / 8) + l.val))
    ∧ (outs m c t ht).dv = up .f32 (col fun x l => pV X Y (256 * (t % 8 + 1)) x (128 * (t / 8) + l.val)) := by
  induction t with
  | zero =>
    have h := leave_at m c X Y hx hy ⟨0, ht⟩ (k0_pay92 (F := Ideal)) (k0_pay93 (F := Ideal))
      (fun x l => pK X Y (256 * (0 % 8)) x (128 * (0 / 8) + l.val)) (fun x l => pV X Y (256 * (0 % 8)) x (128 * (0 / 8) + l.val))
      (by rw [ite_self, zero92]; exact up_congr fun x l => (Finset.sum_range_zero _).symm)
      (by rw [ite_self, zero93]; exact up_congr fun x l => (Finset.sum_range_zero _).symm)
    obtain ⟨a, b, d⟩ := h
    exact ⟨a, b.trans (up_congr fun x l => pK_next X Y _ _ _ _), d.trans (up_congr fun x l => pV_next X Y _ _ _ _)⟩
  | succ t ih =>
    obtain ⟨_, ihb, ihd⟩ := ih (Nat.lt_of_succ_lt ht)
    have hlt : t + 1 < 16 := ht
    have h := leave_at m c X Y hx hy ⟨t + 1, ht⟩ (outs m c t (Nat.lt_of_succ_lt ht)).dk (outs m c t (Nat.lt_of_succ_lt ht)).dv
      (fun x l => pK X Y (256 * ((t + 1) % 8)) x (128 * ((t + 1) / 8) + l.val)) (fun x l => pV X Y (256 * ((t + 1) % 8)) x (128 * ((t + 1) / 8) + l.val))
      (by
        by_cases hf : (t + 1) % 8 = 0
        · rw [if_pos ((isFirst_iff ⟨t + 1, ht⟩).mpr hf), zero92]
          refine up_congr fun x l => ?_
          rw [hf]; exact Finset.sum_range_zero _ |>.symm
        · rw [if_neg fun hh => hf ((isFirst_iff ⟨t + 1, ht⟩).mp hh), ihb]
          refine up_congr fun x l => ?_
          rw [show (t + 1) % 8 = t % 8 + 1 by omega, show (t + 1) / 8 = t / 8 by omega])
      (by
        by_cases hf : (t + 1) % 8 = 0
        · rw [if_pos ((isFirst_iff ⟨t + 1, ht⟩).mpr hf), zero93]
          refine up_congr fun x l => ?_
          rw [hf]; exact Finset.sum_range_zero _ |>.symm
        · rw [if_neg fun hh => hf ((isFirst_iff ⟨t + 1, ht⟩).mp hh), ihd]
          refine up_congr fun x l => ?_
          rw [show (t + 1) % 8 = t % 8 + 1 by omega, show (t + 1) / 8 = t / 8 by omega])
    obtain ⟨a, b, d⟩ := h
    exact ⟨a, b.trans (up_congr fun x l => pK_next X Y _ _ _ _), d.trans (up_congr fun x l => pV_next X Y _ _ _ _)⟩

end Blocks

end Cert.KernelIdeal.SB
-- ==== Proof.Arrays.lean ====
module

public import proofs.«01_k».proof.Proof.Grid
public import Idealize.ShloMosaic.Lib.Pipeline.Value

@[expose] public section

/-! The three arrays the kernel writes, over the reals: each is put together from the blocks its grid points leave. -/
set_option maxRecDepth 16384

noncomputable section
namespace Cert.KernelIdeal.SB
open Idealize.ShloMosaic Cert.KernelIdeal Cert.KernelIdeal.Gen Stick

/-- The gradient of the queries, as an array; then the keys', then the values'. -/
def arrQ (X Y : ℕ → ℕ → ℝ) : FVec Ideal S2048x256 .bf16 := fun i => ((oQ X Y (i 0).val (i 1).val : ℝ) : EReal)
def arrK (X Y : ℕ → ℕ → ℝ) : FVec Ideal S2048x256 .f32 := fun i => ((oK X Y (i 0).val (i 1).val : ℝ) : EReal)
def arrV (X Y : ℕ → ℕ → ℝ) : FVec Ideal S2048x256 .f32 := fun i => ((oV X Y (i 0).val (i 1).val : ℝ) : EReal)

/-- Where the blocks of the results lie. -/
theorem out_places : ∀ t : Fin cfg0.N, (win0_6.index t = ![t.val % 8, t.val / 8]) ∧ win0_7.index t = ![0, t.val / 8]
    ∧ win0_8.index t = ![0, t.val / 8] := by decide +kernel

/-- A block of each result array, of whatever the array holds. -/
theorem q_read (G : FVec Ideal S2048x256 .bf16) (t : Fin cfg0.N) (r : Fin 256) (l : Fin 128) :
    ((win0_6.blk t).view.read (Elt Ideal) G : FVec Ideal S256x128 .bf16) (ix2 r l)
      = G (ix2 ⟨256 * (t.val % 8) + r.val, by omega⟩ ⟨128 * (t.val / 8) + l.val, by have := t_lt t; omega⟩) := by
  blk_point [out_places t]
theorem k_read (G : FVec Ideal S2048x256 .f32) (t : Fin cfg0.N) (r : Fin 2048) (l : Fin 128) :
    ((win0_7.blk t).view.read (Elt Ideal) G : FVec Ideal S2048x128 .f32) (ix2 r l)
      = G (ix2 r ⟨128 * (t.val / 8) + l.val, by have := t_lt t; omega⟩) := by
  blk_point [out_places t]
theorem v_read (G : FVec Ideal S2048x256 .f32) (t : Fin cfg0.N) (r : Fin 2048) (l : Fin 128) :
    ((win0_8.blk t).view.read (Elt Ideal) G : FVec Ideal S2048x128 .f32) (ix2 r l)
      = G (ix2 r ⟨128 * (t.val / 8) + l.val, by have := t_lt t; omega⟩) := by
  blk_point [out_places t]

section
variable (m : (ℓ : Loc nD τ sig) → Buf (Elt Ideal) ℓ) (c : Dev nD) (X Y : ℕ → ℕ → ℝ)
  (hx : ∀ (r : Fin 2048) (k : Fin 768), (m (c, Proc.tc.devRef main_arg0) : FVec Ideal S2048x768 .bf16) (ix2 r k) = ((X r.val k.val : ℝ) : EReal))
  (hy : ∀ (r : Fin 2048) (k : Fin 256), (m (c, Proc.tc.devRef main_arg1) : FVec Ideal S2048x256 .f32) (ix2 r k) = ((Y r.val k.val : ℝ) : EReal))

/-- The block of each result array at a point of the grid. -/
theorem q_out (t : Fin cfg0.N) : (win0_6.blk t).view.read (Elt Ideal) (arrQ X Y)
    = up .bf16 fun (r : Fin 256) (l : Fin 128) => oQ X Y (256 * (t.val % 8) + r.val) (128 * (t.val / 8) + l.val) :=
  up_of _ _ fun r l => q_read (arrQ X Y) t r l
theorem k_out (t : Fin cfg0.N) : (win0_7.blk t).view.read (Elt Ideal) (arrK X Y)
    = up .f32 fun (r : Fin 2048) (l : Fin 128) => oK X Y r.val (128 * (t.val / 8) + l.val) :=
  up_of _ _ fun r l => k_read (arrK X Y) t r l
theorem v_out (t : Fin cfg0.N) : (win0_8.blk t).view.read (Elt Ideal) (arrV X Y)
    = up .f32 fun (r : Fin 2048) (l : Fin 128) => oV X Y r.val (128 * (t.val / 8) + l.val) :=
  up_of _ _ fun r l => v_read (arrV X Y) t r l

include hx hy

/-- What a point writes back of the queries' gradient is its block, -/
theorem flushed_q (t : Fin cfg0.N) : (dats m 0 c).flushed 6 t = (win0_6.blk t).view.read (Elt Ideal) (arrQ X Y) := by
  have h : (dats m 0 c).after 6 t = up .bf16 fun (r : Fin 256) (l : Fin 128) => oQ X Y (256 * (t.val % 8) + r.val) (128 * (t.val / 8) + l.val) := by
    rw [after0_6, (outs_at m c X Y hx hy t.val t.isLt).1, p128]
    exact up_congr fun r l => acc_eq X Y _ _ r l
  exact Eq.trans h (q_out X Y t).symm
/-- and at the last point of a pair of heads the blocks of the other two are whole. -/
theorem flushed_k (t : Fin cfg0.N) (ht : t.val % 8 = 7) : (dats m 0 c).flushed 7 t = (win0_7.blk t).view.read (Elt Ideal) (arrK X Y) := by
  have h : (dats m 0 c).after 7 t = up .f32 fun (r : Fin 2048) (l : Fin 128) => oK X Y r.val (128 * (t.val / 8) + l.val) := by
    rw [after0_7, (outs_at m c X Y hx hy t.val t.isLt).2.1, ht]
    exact up_congr fun r l => pK_all X Y _ _
  exact Eq.trans h (k_out X Y t).symm
theorem flushed_v (t : Fin cfg0.N) (ht : t.val % 8 = 7) : (dats m 0 c).flushed 8 t = (win0_8.blk t).view.read (Elt Ideal) (arrV X Y) := by
  have h : (dats m 0 c).after 8 t = up .f32 fun (r : Fin 2048) (l : Fin 128) => oV X Y r.val (128 * (t.val / 8) + l.val) := by
    rw [after0_8, (outs_at m c X Y hx hy t.val t.isLt).2.2, ht]
    exact up_congr fun r l => pV_all X Y _ _
  exact Eq.trans h (v_out X Y t).symm
end

/-- The rows and columns of each block. -/
theorem rows_q : ∀ t : Fin grid0.N, win0_6.index t 0 * win0_6.size 0 = 256 * (t.val % 8) ∧ win0_6.xsize (grid0.coords t) 0 = 256
    ∧ win0_6.index t 1 * win0_6.size 1 = 128 * (t.val / 8) ∧ win0_6.xsize (grid0.coords t) 1 = 128 := by decide +kernel
theorem rows_k : ∀ t : Fin grid0.N, win0_7.index t 0 * win0_7.size 0 = 0 ∧ win0_7.xsize (grid0.coords t) 0 = 2048
    ∧ win0_7.index t 1 * win0_7.size 1 = 128 * (t.val / 8) ∧ win0_7.xsize (grid0.coords t) 1 = 128 := by decide +kernel
theorem rows_v : ∀ t : Fin grid0.N, win0_8.index t 0 * win0_8.size 0 = 0 ∧ win0_8.xsize (grid0.coords t) 0 = 2048
    ∧ win0_8.index t 1 * win0_8.size 1 = 128 * (t.val / 8) ∧ win0_8.xsize (grid0.coords t) 1 = 128 := by decide +kernel

theorem mem_q (t : Fin cfg0.N) (i : S2048x256.Idx) (h0 : (i 0).val / 256 = t.val % 8) (h1 : (i 1).val / 128 = t.val / 8) :
    i ∈ ((cfg0.win 6).blk t).view.set := by
  show i ∈ ((View.whole main_v27_0).slice (win0_6.rect t)).set
  rw [View.set_slice_whole, Rect.mem_set_unit]
  obtain ⟨a0, b0, a1, b1⟩ := rows_q t
  intro a
  match a with
  | ⟨0, _⟩ =>
    show win0_6.index t 0 * win0_6.size 0 ≤ (i 0 : Nat) ∧ (i 0 : Nat) < win0_6.index t 0 * win0_6.size 0 + win0_6.xsize (grid0.coords t) 0
    rw [a0, b0]; omega
  | ⟨1, _⟩ =>
    show win0_6.index t 1 * win0_6.size 1 ≤ (i 1 : Nat) ∧ (i 1 : Nat) < win0_6.index t 1 * win0_6.size 1 + win0_6.xsize (grid0.coords t) 1
    rw [a1, b1]; omega
theorem mem_k (t : Fin cfg0.N) (i : S2048x256.Idx) (h1 : (i 1).val / 128 = t.val / 8) : i ∈ ((cfg0.win 7).blk t).view.set := by
  show i ∈ ((View.whole main_v27_1).slice (win0_7.rect t)).set
  rw [View.set_slice_whole, Rect.mem_set_unit]
  obtain ⟨a0, b0, a1, b1⟩ := rows_k t
  have h0 : (i 0 : Nat) < 2048 := (i 0).isLt
  intro a
  match a with
  | ⟨0, _⟩ =>
    show win0_7.index t 0 * win0_7.size 0 ≤ (i 0 : Nat) ∧ (i 0 : Nat) < win0_7.index t 0 * win0_7.size 0 + win0_7.xsize (grid0.coords t) 0
    rw [a0, b0]; omega
  | ⟨1, _⟩ =>
    show win0_7.index t 1 * win0_7.size 1 ≤ (i 1 : Nat) ∧ (i 1 : Nat) < win0_7.index t 1 * win0_7.size 1 + win0_7.xsize (grid0.coords t) 1
    rw [a1, b1]; omega
theorem mem_v (t : Fin cfg0.N) (i : S2048x256.Idx) (h1 : (i 1).val / 128 = t.val / 8) : i ∈ ((cfg0.win 8).blk t).view.set := by
  show i ∈ ((View.whole main_v27_2).slice (win0_8.rect t)).set
  rw [View.set_slice_whole, Rect.mem_set_unit]
  obtain ⟨a0, b0, a1, b1⟩ := rows_v t
  have h0 : (i 0 : Nat) < 2048 := (i 0).isLt
  intro a
  match a with
  | ⟨0, _⟩ =>
    show win0_8.index t 0 * win0_8.size 0 ≤ (i 0 : Nat) ∧ (i 0 : Nat) < win0_8.index t 0 * win0_8.size 0 + win0_8.xsize (grid0.coords t) 0
    rw [a0, b0]; omega
  | ⟨1, _⟩ =>
    show win0_8.index t 1 * win0_8.size 1 ≤ (i 1 : Nat) ∧ (i 1 : Nat) < win0_8.index t 1 * win0_8.size 1 + win0_8.xsize (grid0.coords t) 1
    rw [a1, b1]; omega

section
variable (m : (ℓ : Loc nD τ sig) → Buf (Elt Ideal) ℓ) (c : Dev nD) (X Y : ℕ → ℕ → ℝ)
  (hx : ∀ (r : Fin 2048) (k : Fin 768), (m (c, Proc.tc.devRef main_arg0) : FVec Ideal S2048x768 .bf16) (ix2 r k) = ((X r.val k.val : ℝ) : EReal))
  (hy : ∀ (r : Fin 2048) (k : Fin 256), (m (c, Proc.tc.devRef main_arg1) : FVec Ideal S2048x256 .f32) (ix2 r k) = ((Y r.val k.val : ℝ) : EReal))
include hx hy

/-- The blocks tile each array, so the arrays end at the gradients. -/
theorem final_q : (dats m 0 c).arrAt 6 cfg0.N = arrQ X Y :=
  (dats m 0 c).arrAt_eq_of_cover 6 (arrQ X Y) (fun t _ => flushed_q m c X Y hx hy t) fun i => by
    have h0 : (i 0 : Nat) < 2048 := (i 0).isLt
    have h1 : (i 1 : Nat) < 256 := (i 1).isLt
    have ht : 8 * ((i 1).val / 128) + (i 0).val / 256 < cfg0.N := by show _ < 16; omega
    exact ⟨⟨_, ht⟩, flush0_6 _, mem_q _ i (by dsimp only; omega) (by dsimp only; omega)⟩
theorem final_k : (dats m 0 c).arrAt 7 cfg0.N = arrK X Y :=
  (dats m 0 c).arrAt_eq_of_cover 7 (arrK X Y) (fun t ht => flushed_k m c X Y hx hy t ((flush0_7 t).mp ht)) fun i => by
    have h1 : (i 1 : Nat) < 256 := (i 1).isLt
    have ht : 8 * ((i 1).val / 128) + 7 < cfg0.N := by show _ < 16; omega
    exact ⟨⟨_, ht⟩, (flush0_7 _).mpr (by dsimp only; omega), mem_k _ i (by dsimp only; omega)⟩
theorem final_v : (dats m 0 c).arrAt 8 cfg0.N = arrV X Y :=
  (dats m 0 c).arrAt_eq_of_cover 8 (arrV X Y) (fun t ht => flushed_v m c X Y hx hy t ((flush0_8 t).mp ht)) fun i => by
    have h1 : (i 1 : Nat) < 256 := (i 1).isLt
    have ht : 8 * ((i 1).val / 128) + 7 < cfg0.N := by show _ < 16; omega
    exact ⟨⟨_, ht⟩, (flush0_8 _).mpr (by dsimp only; omega), mem_v _ i (by dsimp only; omega)⟩
end

end Cert.KernelIdeal.SB
-- ==== Proof.Terms.lean ====
module

public import proofs.«01_k».proof.Proof.Gen.ReferenceIdeal.Run
public import Idealize.ShloMosaic.Lib.Pointwise
public import proofs.«01_k».proof.Proof.Heads

@[expose] public section

/-! The arrays of the reference, step by step. -/
set_option maxRecDepth 16384

noncomputable section

namespace Cert.ReferenceIdeal.SB

open Idealize.ShloMosaic Cert.ReferenceIdeal Cert.ReferenceIdeal.Gen

/-- An array over heads, queries and keys. -/
abbrev A3 := FVec Ideal S4x2048x2048 .f32
/-- An array of rows split into heads. -/
abbrev H3 := FVec Ideal S2048x4x64 .f32

section Logits
variable (x : A3)

def zeros : A3 := broadcastInDim S4x2048x2048 ![] bcast_S_S4x2048x2048 (constant S_ .f32 0x00000000#32)
def infs : A3 := broadcastInDim S4x2048x2048 ![] bcast_S_S4x2048x2048 (constant S_ .f32 0x7F800000#32)
/-- The softplus, and its derivative. -/
def soft : A3 :=
  select (cmpf .une (subf x zeros) (subf x zeros)) (addf x zeros)
    (addf (maximumf x zeros) (Host.log1p (Host.exp (Host.negf (Host.absf (subf x zeros))))))
def sigm : A3 := Host.exp (subf (select (cmpf .oeq x infs) zeros x) (select (cmpf .oeq (soft x) infs) zeros (soft x)))

end Logits

/-- The zeros put where a key is masked. -/
def masked : A3 := broadcastInDim S4x2048x2048 ![] bcast_S_S4x2048x2048 (id (constant S_ .f32 0x00000000#32))

/-- The keys before the query. -/
def seen : IVec S4x2048x2048 1 :=
  broadcastInDim S4x2048x2048 ![1, 2] bcast_S2048x2048_S4x2048x2048_1_2
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

def zeroS : FVec Ideal S_ .f32 := broadcastInDim S_ ![] bcast_S_S_ (constant S_ .f32 0x00000000#32)
/-- The sums from the key on, and up to the key. -/
def fromKey (x : A3) : A3 :=
  Host.reduceWindowAdd ![1, 1, 2048] ![1, 1, 1] ![0, 0, 0] ![0, 0, 2047] x zeroS reduceWindows_S4x2048x2048_S4x2048x2048_w1s1p0_0_w1s1p0_0_w2048s1p0_2047 h_S_
def toKey (x : A3) : A3 :=
  Host.reduceWindowAdd ![1, 1, 2048] ![1, 1, 1] ![0, 0, 2047] ![0, 0, 0] x zeroS reduceWindows_S4x2048x2048_S4x2048x2048_w1s1p0_0_w1s1p0_0_w2048s1p2047_0 h_S_

section Row
variable (z g : A3)

def keeps : A3 := select seen (Host.negf (soft (Host.negf (Host.negf z)))) masked
def expo : A3 := Host.exp (addf (Host.negf (soft (Host.negf z))) (subf (fromKey (keeps z)) (keeps z)))
def wts : A3 := select seen (expo z) masked
def ews : A3 := mulf (select seen g zeros) (expo z)
def dlogs : A3 :=
  addf (Host.negf (mulf (Host.negf (ews z g)) (sigm (Host.negf z))))
    (Host.negf (Host.negf (mulf (Host.negf (select seen (addf (Host.negf (ews z g)) (toKey (ews z g))) zeros)) (sigm (Host.negf (Host.negf z))))))

end Row

section Arrays
variable (x : FVec Ideal S2048x768 .bf16) (y : FVec Ideal S2048x256 .f32)

def eighth : H3 := broadcastInDim S2048x4x64 ![] bcast_S_S2048x4x64 (constant S_ .f32 0x3E000000#32)
def qs : H3 :=
  mulf (shapeCast _ (extf .f32 (extractStridedSlice S2048x256 ![0, 0] x slices_S2048x768_S2048x256_0_0) bitsLt_bf16_f32) shapeCasts_S2048x256_S2048x4x64) eighth
def ks : H3 := shapeCast _ (extf .f32 (extractStridedSlice S2048x256 ![0, 256] x slices_S2048x768_S2048x256_0_256) bitsLt_bf16_f32) shapeCasts_S2048x256_S2048x4x64
def vs : H3 := shapeCast _ (extf .f32 (extractStridedSlice S2048x256 ![0, 512] x slices_S2048x768_S2048x256_0_512) bitsLt_bf16_f32) shapeCasts_S2048x256_S2048x4x64
def ds : FVec Ideal S4x64x2048 .f32 :=
  transpose S4x64x2048 [1, 2, 0] (shapeCast _ (extf .f32 (truncf .bf16 y bitsLt_bf16_f32) bitsLt_bf16_f32) shapeCasts_S2048x256_S2048x4x64) transposes_S2048x4x64_S4x64x2048_1_2_0

def logits : A3 := Host.dotGeneral dot_S2048x4x64_S2048x4x64_S4x2048x2048_2_2_0_0_1_1 none (qs x) (ks x)
def grads : A3 := Host.dotGeneral dot_S4x64x2048_S2048x4x64_S4x2048x2048_1_2_2_0_0_1 none (ds y) (vs x)

def outV (w : A3) : FVec Ideal S2048x256 .f32 :=
  shapeCast _ (transpose S2048x4x64 [2, 0, 1] (Host.dotGeneral dot_S4x64x2048_S4x2048x2048_S4x64x2048_2_1_1_2_0_0 none (ds y) w) transposes_S4x64x2048_S2048x4x64_2_0_1) shapeCasts_S2048x4x64_S2048x256
def outK (e : A3) : FVec Ideal S2048x256 .f32 :=
  shapeCast _ (transpose S2048x4x64 [1, 0, 2] (Host.dotGeneral dot_S4x2048x2048_S2048x4x64_S4x2048x64_1_0_2_2_0_1 none e (qs x)) transposes_S4x2048x64_S2048x4x64_1_0_2) shapeCasts_S2048x4x64_S2048x256
def outQ (e : A3) : FVec Ideal S2048x256 .bf16 :=
  truncf .bf16 (shapeCast _ (mulf (transpose S2048x4x64 [1, 0, 2] (Host.dotGeneral dot_S4x2048x2048_S2048x4x64_S4x2048x64_2_0_1_2_0_1 none e (ks x)) transposes_S4x2048x64_S2048x4x64_1_0_2) eighth) shapeCasts_S2048x4x64_S2048x256) bitsLt_bf16_f32

end Arrays

section Results
variable (m : (ℓ : Loc nD τ sig) → Buf (Elt Ideal) ℓ) (c : Dev nD)

theorem v45_eq : Value.res_main_v45 (F := Ideal) m c
    = outV (m ((c.tc : Thread nD τ).loc main_arg1)) (wts (logits (m ((c.tc : Thread nD τ).loc main_arg0)))) := by
  unfold Value.res_main_v45 outV wts expo keeps fromKey seen soft zeros masked zeroS logits qs ks ds eighth; rfl
theorem v54_eq : Value.res_main_v54 (F := Ideal) m c
    = outK (m ((c.tc : Thread nD τ).loc main_arg0)) (dlogs (logits (m ((c.tc : Thread nD τ).loc main_arg0)))
        (grads (m ((c.tc : Thread nD τ).loc main_arg0)) (m ((c.tc : Thread nD τ).loc main_arg1)))) := by
  unfold Value.res_main_v54 outK dlogs ews sigm expo keeps fromKey toKey seen soft infs zeros masked zeroS grads logits qs ks ds vs eighth; rfl
theorem v58_eq : Value.res_main_v58 (F := Ideal) m c
    = outQ (m ((c.tc : Thread nD τ).loc main_arg0)) (dlogs (logits (m ((c.tc : Thread nD τ).loc main_arg0)))
        (grads (m ((c.tc : Thread nD τ).loc main_arg0)) (m ((c.tc : Thread nD τ).loc main_arg1)))) := by
  unfold Value.res_main_v58 outQ dlogs ews sigm expo keeps fromKey toKey seen soft infs zeros masked zeroS grads logits qs ks ds vs eighth; rfl

end Results

end Cert.ReferenceIdeal.SB
-- ==== Proof.Ref.lean ====
module

public import proofs.«01_k».proof.Proof.Terms

@[expose] public section

/-! The reference's arrays are the gradients over the reals. -/
set_option maxRecDepth 16384

noncomputable section

namespace Cert.ReferenceIdeal.SB

open Idealize.ShloMosaic Cert.ReferenceIdeal Cert.ReferenceIdeal.Gen Stick

/-- Reals over heads, queries and keys, as an array. -/
def cube (A : Fin 4 → Fin 2048 → Fin 2048 → ℝ) : A3 := fun j => ((A (j 0) (j 1) (j 2) : ℝ) : EReal)

theorem coe_sum {ι : Type} (s : Finset ι) (f : ι → ℝ) : ∑ i ∈ s, ((f i : ℝ) : EReal) = ((∑ i ∈ s, f i : ℝ) : EReal) :=
  (map_sum (⟨⟨fun x : ℝ => (x : EReal), rfl⟩, fun _ _ => rfl⟩ : ℝ →+ EReal) f s).symm

section Cube
variable (A B : Fin 4 → Fin 2048 → Fin 2048 → ℝ)

theorem cube_congr {A B : Fin 4 → Fin 2048 → Fin 2048 → ℝ} (h : ∀ a b c, A a b c = B a b c) : cube A = cube B := by
  rw [show A = B from funext fun a => funext fun b => funext fun c => h a b c]
theorem cube_neg : Host.negf (cube A) = cube fun a b c => -A a b c := rfl
theorem cube_add : addf (cube A) (cube B) = cube fun a b c => A a b c + B a b c := rfl
theorem cube_sub : subf (cube A) (cube B) = cube fun a b c => A a b c - B a b c := rfl
theorem cube_mul : mulf (cube A) (cube B) = cube fun a b c => A a b c * B a b c := by
  funext j; exact (EReal.coe_mul _ _).symm
theorem cube_exp : Host.exp (cube A) = cube fun a b c => Real.exp (A a b c) := rfl
theorem cube_zeros : zeros = cube fun _ _ _ => 0 := by funext j; exact Ideal.ofBits_zero_f32
theorem cube_masked : masked = cube fun _ _ _ => 0 := by funext j; exact Ideal.ofBits_zero_f32

theorem inf_at (j : S4x2048x2048.Idx) : infs j = (⊤ : EReal) := by
  show Ideal.ofBits .f32 0x7F800000#32 = _
  simp [Ideal.ofBits, Ideal.ieee]

theorem soft_cube : soft (cube A) = cube fun a b c => softplus (A a b c) := by
  rw [soft, cube_zeros]
  funext j
  have hlog : ∀ x : ℝ, Ideal.log1p (Ideal.exp (-(max ((x - 0 : ℝ) : EReal) (-((x - 0 : ℝ) : EReal))))) = ((tail x : ℝ) : EReal) := by
    intro x
    rw [sub_zero, show max (x : EReal) (-(x : EReal)) = ((|x| : ℝ) : EReal) from
      (EReal.coe_strictMono.monotone.map_max (a := x) (b := -x)).symm]
    show Ideal.log ((1 : EReal) + ((Real.exp (-|x|) : ℝ) : EReal)) = _
    rw [show (1 : EReal) + ((Real.exp (-|x|) : ℝ) : EReal) = ((1 + Real.exp (-|x|) : ℝ) : EReal) from rfl]
    exact if_neg (not_le.mpr (one_add_pos x))
  have e : ∀ x : ℝ, Scalar.select (Ideal.cmp .une ((x - 0 : ℝ) : EReal) ((x - 0 : ℝ) : EReal)) (((x + 0 : ℝ) : EReal))
      (max (x : EReal) ((0 : ℝ) : EReal) + Ideal.log1p (Ideal.exp (-(max ((x - 0 : ℝ) : EReal) (-((x - 0 : ℝ) : EReal))))))
      = ((softplus x : ℝ) : EReal) := by
    intro x
    rw [hlog, show max (x : EReal) ((0 : ℝ) : EReal) = ((max x 0 : ℝ) : EReal) from (EReal.coe_strictMono.monotone.map_max (a := x) (b := 0)).symm]
    rw [show Ideal.cmp .une ((x - 0 : ℝ) : EReal) ((x - 0 : ℝ) : EReal) = 0#1 by simp [Ideal.cmp]]
    rfl
  exact e _

theorem sigm_cube : sigm (cube A) = cube fun a b c => Real.exp (logSig (A a b c)) := by
  have hsel : ∀ B : Fin 4 → Fin 2048 → Fin 2048 → ℝ, select (cmpf .oeq (cube B) infs) zeros (cube B) = cube B := by
    intro B; funext j
    show Scalar.select (Ideal.cmp .oeq ((B (j 0) (j 1) (j 2) : ℝ) : EReal) (infs j)) _ _ = _
    rw [inf_at, show Ideal.cmp .oeq ((B (j 0) (j 1) (j 2) : ℝ) : EReal) ⊤ = 0#1 by simp [Ideal.cmp]]
    rfl
  rw [sigm, soft_cube, hsel, hsel, cube_sub, cube_exp]
  exact cube_congr fun a b c => by rw [sub_softplus]

theorem slt_small (a b : ℕ) (ha : a < 2048) (hb : b < 2048) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt_eq_decide, BitVec.toInt_eq_toNat_of_lt, BitVec.toInt_eq_toNat_of_lt] <;> simp [Nat.mod_eq_of_lt, *] <;> omega

theorem seen_at (j : S4x2048x2048.Idx) : seen j = BitVec.ofBool (decide ((j 2).val < (j 1).val)) :=
  slt_small _ _ (j 2).isLt (j 1).isLt

theorem select_cube : select seen (cube A) (cube B) = cube fun a t s => if s.val < t.val then A a t s else B a t s := by
  funext j
  show Scalar.select (seen j) _ _ = _
  rw [seen_at]
  by_cases h : (j 2).val < (j 1).val
  · rw [decide_eq_true h]; show _ = ((ite _ _ _ : ℝ) : EReal); rw [if_pos h]; rfl
  · rw [decide_eq_false h]; show _ = ((ite _ _ _ : ℝ) : EReal); rw [if_neg h]; rfl

end Cube

/-! ### The running sums -/

theorem foldl_add {α : Type} (L : List α) (f : α → EReal) (a : EReal) : L.foldl (fun r n => r + f n) a = a + (L.map f).sum := by
  induction L generalizing a with
  | nil => simp
  | cons x l ih => rw [List.foldl_cons, ih, List.map_cons, List.sum_cons, add_assoc]

/-- A windowed sum is the sum over the window's positions. -/
theorem window_fold {s t : Shape} (window strides lo hi : Fin s.rank → ℕ) (h : s.ReduceWindows window strides lo hi t) (x : s.Idx → EReal) (v : EReal)
    (j : t.Idx) : Ideal.hostReduceWindowAdd window strides lo hi h x v j
      = v + ∑ i : (⟨s.rank, window⟩ : Shape).Idx,
        if hin : ∀ a, lo a ≤ (j (a.cast h.1.symm)).val * strides a + (i a).val ∧ (j (a.cast h.1.symm)).val * strides a + (i a).val - lo a < s.size a then
          x (fun a => ⟨(j (a.cast h.1.symm)).val * strides a + (i a).val - lo a, (hin a).2⟩) else v := by
  unfold Ideal.hostReduceWindowAdd Host.reduceWindow
  refine (foldl_add _ _ _).trans ?_
  rw [← Fin.sum_univ_def]
  congr 1
  refine (Finset.sum_congr rfl fun n _ => dite_congr rfl (fun _ => rfl) fun _ => rfl).trans (Equiv.sum_comp (⟨s.rank, window⟩ : Shape).rowMajor.symm (fun i : (⟨s.rank, window⟩ : Shape).Idx =>
        if hin : ∀ a, lo a ≤ (j (a.cast h.1.symm)).val * strides a + (i a).val ∧ (j (a.cast h.1.symm)).val * strides a + (i a).val - lo a < s.size a then
          x (fun a => ⟨(j (a.cast h.1.symm)).val * strides a + (i a).val - lo a, (hin a).2⟩) else v))

/-- A windowed sum along the keys is the sum over the window's positions. -/
theorem window_sum (lo hi : ℕ) (A : Fin 4 → Fin 2048 → Fin 2048 → ℝ)
    (h : S4x2048x2048.ReduceWindows ![1, 1, 2048] ![1, 1, 1] ![0, 0, lo] ![0, 0, hi] S4x2048x2048)
    (j : S4x2048x2048.Idx) :
    (Host.reduceWindowAdd ![1, 1, 2048] ![1, 1, 1] ![0, 0, lo] ![0, 0, hi] (cube A) zeroS h h_S_ : A3) j
      = ∑ l : Fin 2048, (if hin : lo ≤ (j 2).val + l.val ∧ (j 2).val + l.val - lo < 2048 then
        ((A (j 0) (j 1) ⟨(j 2).val + l.val - lo, hin.2⟩ : ℝ) : EReal) else (0 : EReal)) := by
  have hz : zeroS (Shape.Idx.first h_S_) = (0 : EReal) := Ideal.ofBits_zero_f32
  unfold Host.reduceWindowAdd
  rw [hz, Ideal.hostReduceWindowAdd_def, window_fold, zero_add]
  refine (sum_idx3 (n0 := 1) (n1 := 1) (n2 := 2048) _).trans ?_
  rw [Fin.sum_univ_one, Fin.sum_univ_one]
  refine Finset.sum_congr rfl fun l _ => ?_
  have h0 := (j 0).isLt
  have h1 := (j 1).isLt
  by_cases hl : lo ≤ (j 2).val + l.val ∧ (j 2).val + l.val - lo < 2048
  · have hin : ∀ a : Fin 3, (![0, 0, lo] : Fin 3 → ℕ) a ≤ (j (a.cast h.1.symm)).val * (![1, 1, 1] : Fin 3 → ℕ) a + (ix3 (n0 := 1) (n1 := 1) (n2 := 2048) 0 0 l a).val
        ∧ (j (a.cast h.1.symm)).val * (![1, 1, 1] : Fin 3 → ℕ) a + (ix3 (n0 := 1) (n1 := 1) (n2 := 2048) 0 0 l a).val - (![0, 0, lo] : Fin 3 → ℕ) a < S4x2048x2048.size a := by
      intro a
      match a with
      | ⟨0, _⟩ => exact ⟨Nat.zero_le _, by show (j 0).val * 1 + 0 - 0 < 4; rw [Nat.mul_one]; exact h0⟩
      | ⟨1, _⟩ => exact ⟨Nat.zero_le _, by show (j 1).val * 1 + 0 - 0 < 2048; rw [Nat.mul_one]; exact h1⟩
      | ⟨2, _⟩ => exact ⟨by show lo ≤ (j 2).val * 1 + l.val; rw [Nat.mul_one]; exact hl.1, by show (j 2).val * 1 + l.val - lo < 2048; rw [Nat.mul_one]; exact hl.2⟩
    rw [dif_pos hl]
    refine (dif_pos hin).trans ?_
    show ((A _ _ _ : ℝ) : EReal) = _
    have a0 : (⟨(j 0).val * 1 + 0 - 0, (hin 0).2⟩ : Fin 4) = j 0 := Fin.ext (Nat.mul_one _)
    have a1 : (⟨(j 1).val * 1 + 0 - 0, (hin 1).2⟩ : Fin 2048) = j 1 := Fin.ext (Nat.mul_one _)
    have a2 : (⟨(j 2).val * 1 + l.val - lo, (hin 2).2⟩ : Fin 2048) = ⟨(j 2).val + l.val - lo, hl.2⟩ :=
      Fin.ext (by show (j 2).val * 1 + l.val - lo = _; rw [Nat.mul_one])
    exact congrArg (fun x : ℝ => (x : EReal)) (congr (congr (congrArg A a0) a1) a2)
  · rw [dif_neg hl]
    refine dif_neg fun hin => hl ?_
    have := hin 2
    change lo ≤ (j 2).val * 1 + l.val ∧ (j 2).val * 1 + l.val - lo < 2048 at this
    rwa [Nat.mul_one] at this

theorem fromKey_cube (A : Fin 4 → Fin 2048 → Fin 2048 → ℝ) :
    fromKey (cube A) = cube fun a t s => ∑ j : Fin 2048, if s.val ≤ j.val then A a t j else 0 := by
  funext j
  refine (window_sum 0 2047 A _ j).trans ?_
  show _ = ((∑ i : Fin 2048, if (j 2).val ≤ i.val then A (j 0) (j 1) i else 0 : ℝ) : EReal)
  rw [← coe_sum]
  have h2 : (j 2).val < 2048 := (j 2).isLt
  refine Finset.sum_bij_ne_zero (fun l _ _ => ⟨((j 2).val + l.val) % 2048, Nat.mod_lt _ (by norm_num)⟩) (fun _ _ _ => Finset.mem_univ _) ?_ ?_ ?_
  · intro a _ ha b _ hb hab
    have ha' : (j 2).val + a.val < 2048 := by
      by_contra hc; exact ha (dif_neg fun h => hc (by omega))
    have hb' : (j 2).val + b.val < 2048 := by
      by_contra hc; exact hb (dif_neg fun h => hc (by omega))
    have := Fin.mk.inj hab
    rw [Nat.mod_eq_of_lt ha', Nat.mod_eq_of_lt hb'] at this
    exact Fin.ext (by omega)
  · intro i _ hi
    have hle : (j 2).val ≤ i.val := by
      by_contra hc; rw [if_neg hc] at hi; exact hi rfl
    have hi2 := i.isLt
    have e : (⟨((j 2).val + (i.val - (j 2).val)) % 2048, Nat.mod_lt _ (by norm_num)⟩ : Fin 2048) = i :=
      Fin.ext (by show _ % 2048 = i.val; rw [Nat.mod_eq_of_lt] <;> omega)
    refine ⟨⟨i.val - (j 2).val, by omega⟩, Finset.mem_univ _, ?_, e⟩
    rw [dif_pos ⟨Nat.zero_le _, by show (j 2).val + (i.val - (j 2).val) - 0 < 2048; omega⟩]
    rw [if_pos hle] at hi
    have e' : (⟨(j 2).val + (i.val - (j 2).val) - 0, by omega⟩ : Fin 2048) = i := Fin.ext (by show (j 2).val + (i.val - (j 2).val) - 0 = _; omega)
    rw [e']; exact hi
  · intro a _ ha
    have ha' : (j 2).val + a.val < 2048 := by
      by_contra hc; exact ha (dif_neg fun h => hc (by omega))
    rw [dif_pos ⟨Nat.zero_le _, by omega⟩]
    have e : (⟨((j 2).val + a.val) % 2048, Nat.mod_lt _ (by norm_num)⟩ : Fin 2048) = ⟨(j 2).val + a.val - 0, by omega⟩ :=
      Fin.ext (Nat.mod_eq_of_lt ha')
    rw [e, if_pos (by show (j 2).val ≤ (j 2).val + a.val - 0; omega)]

theorem toKey_cube (A : Fin 4 → Fin 2048 → Fin 2048 → ℝ) :
    toKey (cube A) = cube fun a t s => ∑ j : Fin 2048, if j.val ≤ s.val then A a t j else 0 := by
  funext j
  refine (window_sum 2047 0 A _ j).trans ?_
  show _ = ((∑ i : Fin 2048, if i.val ≤ (j 2).val then A (j 0) (j 1) i else 0 : ℝ) : EReal)
  rw [← coe_sum]
  have h2 : (j 2).val < 2048 := (j 2).isLt
  refine Finset.sum_bij_ne_zero (fun l _ _ => ⟨((j 2).val + l.val - 2047) % 2048, Nat.mod_lt _ (by norm_num)⟩) (fun _ _ _ => Finset.mem_univ _) ?_ ?_ ?_
  · intro a _ ha b _ hb hab
    have ha' : 2047 ≤ (j 2).val + a.val := by
      by_contra hc; exact ha (dif_neg fun h => hc h.1)
    have hb' : 2047 ≤ (j 2).val + b.val := by
      by_contra hc; exact hb (dif_neg fun h => hc h.1)
    have := Fin.mk.inj hab
    rw [Nat.mod_eq_of_lt (by omega), Nat.mod_eq_of_lt (by omega)] at this
    exact Fin.ext (by omega)
  · intro i _ hi
    have hle : i.val ≤ (j 2).val := by
      by_contra hc; rw [if_neg hc] at hi; exact hi rfl
    have hi2 := i.isLt
    have e : (⟨((j 2).val + (i.val + 2047 - (j 2).val) - 2047) % 2048, Nat.mod_lt _ (by norm_num)⟩ : Fin 2048) = i :=
      Fin.ext (by show _ % 2048 = i.val; rw [Nat.mod_eq_of_lt] <;> omega)
    refine ⟨⟨i.val + 2047 - (j 2).val, by omega⟩, Finset.mem_univ _, ?_, e⟩
    rw [dif_pos ⟨by show 2047 ≤ (j 2).val + (i.val + 2047 - (j 2).val); omega, by show (j 2).val + (i.val + 2047 - (j 2).val) - 2047 < 2048; omega⟩]
    rw [if_pos hle] at hi
    have e' : (⟨(j 2).val + (i.val + 2047 - (j 2).val) - 2047, by omega⟩ : Fin 2048) = i := Fin.ext (by show (j 2).val + (i.val + 2047 - (j 2).val) - 2047 = _; omega)
    rw [e']; exact hi
  · intro a _ ha
    have ha' : 2047 ≤ (j 2).val + a.val := by
      by_contra hc; exact ha (dif_neg fun h => hc h.1)
    rw [dif_pos ⟨ha', by omega⟩]
    have e : (⟨((j 2).val + a.val - 2047) % 2048, Nat.mod_lt _ (by norm_num)⟩ : Fin 2048) = ⟨(j 2).val + a.val - 2047, by omega⟩ :=
      Fin.ext (Nat.mod_eq_of_lt (by omega))
    rw [e, if_pos (by show (j 2).val + a.val - 2047 ≤ (j 2).val; omega)]

/-! ### The weights and the logits' gradient -/

section Heads
variable (Z G : ℕ → ℕ → ℕ → ℝ)

/-- The array of a function of the head, the query and the key. -/
def cubeN : A3 := cube fun a t s => Z a.val t.val s.val

theorem keeps_eq : keeps (cubeN Z) = cubeN fun a t s => keep (Z a t) t s := by
  rw [keeps, cubeN, cube_neg, cube_neg, soft_cube, cube_neg, cube_masked, select_cube]
  refine cube_congr fun a t s => ?_
  rw [neg_neg, neg_softplus]; rfl

theorem expo_eq : expo (cubeN Z) = cubeN fun a t s => Real.exp (logSig (Z a t s) + later (Z a t) t s) := by
  rw [expo, keeps_eq, cubeN, cube_neg, soft_cube, cube_neg, cubeN, fromKey_cube, cube_sub, cube_add, cube_exp]
  refine cube_congr fun a t s => ?_
  rw [neg_softplus_neg, later_eq]

theorem wts_eq : wts (cubeN Z) = cubeN fun a t s => wt (Z a t) t s := by
  rw [wts, expo_eq, cube_masked, cubeN, select_cube]; rfl

theorem ews_eq : ews (cubeN Z) (cubeN G) = cubeN fun a t s => ew (Z a t) (G a t) t s := by
  rw [ews, expo_eq, cube_zeros, cubeN, cubeN, select_cube, cube_mul]
  refine cube_congr fun a t s => ?_
  show (if s.val < t.val then G a t s else 0) * _ = (if s.val < t.val then _ else 0) * _
  split <;> ring

theorem dlogs_eq : dlogs (cubeN Z) (cubeN G) = cubeN fun a t s => dlog (Z a t) (G a t) t s := by
  rw [dlogs, ews_eq]
  simp only [cubeN, cube_neg, toKey_cube, cube_add, cube_zeros, select_cube, sigm_cube, cube_mul]
  refine cube_congr fun a t s => ?_
  rw [before_eq (fun j => ew (Z a t) (G a t) t j), neg_neg (Z a t s), show logSig (-Z a t s) = logKeep (Z a t s) by rw [logSig, logKeep, tail_neg], exp_logKeep, dlog]
  by_cases h : s.val < t.val
  · rw [if_pos h, if_pos h]; ring
  · rw [if_neg h, if_neg h, show ew (Z a t) (G a t) t s = 0 by rw [ew, wt, if_neg h, zero_mul]]; ring

end Heads

end Cert.ReferenceIdeal.SB
-- ==== Proof.RefOut.lean ====
module

public import proofs.«01_k».proof.Proof.Ref

@[expose] public section

/-! The reference's results are the gradients over the reals. -/
set_option maxRecDepth 16384

noncomputable section

namespace Cert.ReferenceIdeal.SB

open Idealize.ShloMosaic Cert.ReferenceIdeal Cert.ReferenceIdeal.Gen Stick

variable (X Y : ℕ → ℕ → ℝ)

/-- Arguments of reals. -/
def xs : FVec Ideal S2048x768 .bf16 := fun j => ((X (j 0).val (j 1).val : ℝ) : EReal)
def ys : FVec Ideal S2048x256 .f32 := fun j => ((Y (j 0).val (j 1).val : ℝ) : EReal)

theorem ofBits_eighth : Ideal.ofBits .f32 0x3E000000#32 = ((1 / 8 : ℝ) : EReal) := by
  simp [Ideal.ofBits, Ideal.ieee, -EReal.coe_mul]; norm_num

theorem logits_eq : logits (xs X) = cubeN (hz X) := by
  funext j
  idx_vars j
  pointwise [logits, qs, ks, xs, eighth, cubeN, cube]
  rw [ofBits_eighth, hz, ← coe_sum]
  exact Finset.sum_congr rfl fun l _ => by rw [EReal.coe_mul, EReal.coe_mul]

theorem grads_eq : grads (xs X) (ys Y) = cubeN (hg X Y) := by
  funext j
  idx_vars j
  pointwise [grads, ds, vs, xs, ys, cubeN, cube]
  rw [hg, ← coe_sum]
  exact Finset.sum_congr rfl fun l _ => by rw [EReal.coe_mul]

theorem outV_eq (w : ℕ → ℕ → ℕ → ℝ) : outV (ys Y) (cubeN w)
    = fun i : S2048x256.Idx => ((∑ t : Fin 2048, w ((i 1).val / 64) t.val (i 0).val * Y t.val (i 1).val : ℝ) : EReal) := by
  funext i
  idx_vars i
  pointwise [outV, ds, ys, cubeN, cube]
  rw [← coe_sum]
  exact Finset.sum_congr rfl fun l _ => by rw [EReal.coe_mul, mul_comm]

theorem outK_eq (w : ℕ → ℕ → ℕ → ℝ) : outK (xs X) (cubeN w)
    = fun i : S2048x256.Idx => ((∑ t : Fin 2048, w ((i 1).val / 64) t.val (i 0).val * (X t.val (i 1).val * (1 / 8)) : ℝ) : EReal) := by
  funext i
  idx_vars i
  pointwise [outK, qs, xs, cubeN, cube, eighth]
  rw [ofBits_eighth, ← coe_sum]
  exact Finset.sum_congr rfl fun l _ => by rw [EReal.coe_mul, EReal.coe_mul]

theorem outQ_eq (w : ℕ → ℕ → ℕ → ℝ) : outQ (xs X) (cubeN w)
    = fun i : S2048x256.Idx => (((∑ s : Fin 2048, w ((i 1).val / 64) (i 0).val s.val * X s.val (256 + (i 1).val)) * (1 / 8) : ℝ) : EReal) := by
  funext i
  idx_vars i
  pointwise [outQ, ks, xs, cubeN, cube, eighth]
  rw [ofBits_eighth, EReal.coe_mul, ← coe_sum]
  refine congrArg (fun x : EReal => x * ((1 / 8 : ℝ) : EReal)) (Finset.sum_congr rfl fun l _ => ?_)
  rw [EReal.coe_mul]

section Results
variable (m : (ℓ : Loc nD τ sig) → Buf (Elt Ideal) ℓ) (c : Dev nD) (hx : m ((c.tc : Thread nD τ).loc main_arg0) = xs X)
  (hy : m ((c.tc : Thread nD τ).loc main_arg1) = ys Y)
include hx

include hy in
theorem ref_v45 : Value.res_main_v45 (F := Ideal) m c = fun i : S2048x256.Idx => ((oV X Y (i 0).val (i 1).val : ℝ) : EReal) := by
  rw [v45_eq, hx, hy, logits_eq, wts_eq]
  exact outV_eq Y _

include hy in
theorem ref_v54 : Value.res_main_v54 (F := Ideal) m c = fun i : S2048x256.Idx => ((oK X Y (i 0).val (i 1).val : ℝ) : EReal) := by
  rw [v54_eq, hx, hy, logits_eq, grads_eq, dlogs_eq]
  exact outK_eq X _

include hy in
theorem ref_v58 : Value.res_main_v58 (F := Ideal) m c = fun i : S2048x256.Idx => ((oQ X Y (i 0).val (i 1).val : ℝ) : EReal) := by
  rw [v58_eq, hx, hy, logits_eq, grads_eq, dlogs_eq]
  exact outQ_eq X _

end Results

end Cert.ReferenceIdeal.SB
-- ==== Proof.Finite.lean ====
module

public import proofs.«01_k».proof.Defs
public import Idealize.ShloMosaic.Lib.Pointwise.Index
public import Idealize.ShloMosaic.Lib.ReduceAll
public import Idealize.ShloMosaic.Lib.KernelVsHost

@[expose] public section

/-! What the precondition says: both arguments hold reals. -/
set_option maxRecDepth 16384

noncomputable section
namespace Cert.Pre_finite
open Idealize.ShloMosaic

/-- The side conditions the predicate's operations take. -/
theorem facts : Facts where
  bitsLt_bf16_f32 := by decide
  bcast_S_S2048x768 := by decide
  reducesTo_S2048x768_S_d0_1 := by decide
  h_S_ := by decide
  bcast_S_S2048x256 := by decide
  reducesTo_S2048x256_S_d0_1 := by decide

/-- A value below infinity in size is a real. -/
theorem real_of_lt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine (EReal.coe_toReal (ne_of_lt hlt.1) fun hb => ?_).symm
  rw [hb, EReal.neg_bot] at hlt
  exact lt_irrefl _ hlt.2

theorem bits_both (a b : BitVec 1) (h : IntOp.andi a b = 1#1) : a = 1#1 ∧ b = 1#1 := by
  revert a b; decide

instance : Subsingleton S_.Idx := ⟨fun a b => funext fun k => k.elim0⟩

/-- The entries of an array by row and column, zero outside it. -/
def entries {a b : ℕ} (f : Fin a → Fin b → EReal) (r k : ℕ) : ℝ := if h : r < a ∧ k < b then (f ⟨r, h.1⟩ ⟨k, h.2⟩).toReal else 0

theorem entries_at {a b : ℕ} (f : Fin a → Fin b → EReal) (r : Fin a) (k : Fin b) (h : f r k = (((f r k).toReal : ℝ) : EReal)) :
    f r k = ((entries f r.val k.val : ℝ) : EReal) := by
  rw [entries, dif_pos ⟨r.isLt, k.isLt⟩]; exact h

variable [Facts] (A : FVec Ideal S2048x768 .bf16) (B : FVec Ideal S2048x256 .f32) (h : fn (F := Ideal) A B = fun _ => 1#1)
include h

/-- Both arguments are arrays of reals. -/
theorem reals : ∃ X Y : ℕ → ℕ → ℝ, (∀ j, A j = ((X (j 0).val (j 1).val : ℝ) : EReal)) ∧ ∀ j, B j = ((Y (j 0).val (j 1).val : ℝ) : EReal) := by
  have hj := bits_both _ _ (congrFun h (fun k => k.elim0))
  refine ⟨entries fun r k => A (ix2 r k), entries fun r k => B (ix2 r k), fun j => ?_, fun j => ?_⟩
  · obtain ⟨r, k, rfl⟩ : ∃ (r : Fin 2048) (k : Fin 768), j = ix2 r k := ⟨j 0, j 1, eq_ix2 j⟩
    exact entries_at (fun r k => A (ix2 r k)) r k (real_of_lt _ (Host.reduce_andi_all _ _ _ _ _ hj.1 (ix2 r k)))
  · obtain ⟨r, k, rfl⟩ : ∃ (r : Fin 2048) (k : Fin 256), j = ix2 r k := ⟨j 0, j 1, eq_ix2 j⟩
    exact entries_at (fun r k => B (ix2 r k)) r k (real_of_lt _ (Host.reduce_andi_all _ _ _ _ _ hj.2 (ix2 r k)))

end Cert.Pre_finite
-- ==== Proof.Equal.lean ====
module

public import proofs.«01_k».proof.Proof.Arrays
public import proofs.«01_k».proof.Proof.RefOut
public import proofs.«01_k».proof.Proof.Finite

@[expose] public section

/-! The kernel's three gradients are the reference's. -/
set_option maxRecDepth 16384

noncomputable section
namespace Cert.Proof
open Idealize.ShloMosaic Idealize.SL.Sem
open Cert.KernelIdeal.SB (arrQ arrK arrV)

section
open Cert.KernelIdeal Cert.KernelIdeal.Gen Cert.KernelIdeal.SB
variable (m : (ℓ : Loc nD τ sig) → Buf (Elt Ideal) ℓ) (ρ : Dev nD → PrngReg) (X Y : Dev nD → ℕ → ℕ → ℝ)
  (hx : ∀ (c : Dev nD) (r : Fin 2048) (k : Fin 768), (m (c, Proc.tc.devRef main_arg0) : FVec Ideal S2048x768 .bf16) (ix2 r k) = ((X c r.val k.val : ℝ) : EReal))
  (hy : ∀ (c : Dev nD) (r : Fin 2048) (k : Fin 256), (m (c, Proc.tc.devRef main_arg1) : FVec Ideal S2048x256 .f32) (ix2 r k) = ((Y c r.val k.val : ℝ) : EReal))
include hx hy

/-- The kernel's run over the reals: its results are the gradients, its arguments as they began. -/
theorem run_kernel : θ_run (defs (F := Ideal)) (onTc (τ := τ) (main (F := Ideal))) ⟨m, fun _ => 0, ρ⟩ (fun r => ∀ c : Dev nD,
      r.2.mem ((c.tc : Thread nD τ).loc main_v27_0) = arrQ (X c) (Y c)
      ∧ r.2.mem ((c.tc : Thread nD τ).loc main_v27_1) = arrK (X c) (Y c)
      ∧ r.2.mem ((c.tc : Thread nD τ).loc main_v27_2) = arrV (X c) (Y c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1.1 c).1 6).trans (final_q m c (X c) (Y c) (hx c) (hy c)),
      ((h.1.1 c).1 7).trans (final_k m c (X c) (Y c) (hx c) (hy c)), ((h.1.1 c).1 8).trans (final_v m c (X c) (Y c) (hx c) (hy c)),
      h.2.1 c⟩)
    (θ_run_and (run_main m ρ) (frame_main m ρ))
end

/-- Over the reals, of finite arguments, the kernel's results are the reference's. -/
theorem equal : @Cert.algebraic_KernelIdeal_ReferenceIdeal_pre_finite Cert.KernelIdeal.Gen.facts Cert.ReferenceIdeal.Gen.facts Cert.Pre_finite.facts := by
  intro m g m' g' hpre hargs
  have hr := fun c => @Cert.Pre_finite.reals Cert.Pre_finite.facts _ _ (hpre c)
  choose X Y hx hy using hr
  refine ⟨fun c => arrQ (X c) (Y c), fun c => arrK (X c) (Y c), fun c => arrV (X c) (Y c), run_kernel m g X Y (fun c r k => hx c (ix2 r k)) (fun c r k => hy c (ix2 r k)), ?_⟩
  refine (θ_run Cert.ReferenceIdeal.defs _ _).mono (fun r h c => ?_) (Cert.ReferenceIdeal.Value.run m' g')
  have ex := (hargs c).1.trans (funext (hx c))
  have ey := (hargs c).2.trans (funext (hy c))
  obtain ⟨h0, h1, h2, h3, h4⟩ := h c
  exact ⟨h0.trans (Cert.ReferenceIdeal.SB.ref_v58 (X c) (Y c) m' c ex ey), h1.trans (Cert.ReferenceIdeal.SB.ref_v54 (X c) (Y c) m' c ex ey),
    h2.trans (Cert.ReferenceIdeal.SB.ref_v45 (X c) (Y c) m' c ex ey), h3, h4⟩

end Cert.Proof
-- ==== Proof.MixerReals.lean ====
module

public import proofs.«01_k».proof.Proof.Finite
public import proofs.«01_k».proof.Proof.Grid

@[expose] public section

/-! What the channel mixer's precondition says: every argument holds reals. -/
set_option maxRecDepth 16384

noncomputable section
namespace Cert.Pre_reals
open Idealize.ShloMosaic
open Cert.KernelIdeal.SB (up up_of)

/-- The side conditions the predicate's operations take. -/
theorem facts : Facts where
  bcast_S_S2048x1024 := by decide
  reducesTo_S2048x1024_S_d0_1 := by decide
  h_S_ := by decide
  bcast_S_S1x1024 := by decide
  reducesTo_S1x1024_S_d0_1 := by decide
  bitsLt_bf16_f32 := by decide
  bcast_S_S2816x1024 := by decide
  reducesTo_S2816x1024_S_d0_1 := by decide

instance : Subsingleton S_.Idx := ⟨fun a b => funext fun k => k.elim0⟩

/-- An array all of whose entries are reals. -/
theorem up_toReal {φ : FTy} {a b : ℕ} (v : FVec Ideal ⟨2, ![a, b]⟩ φ)
    (h : ∀ j, (v j : EReal) = (((v j : EReal).toReal : ℝ) : EReal)) : ∃ A : Fin a → Fin b → ℝ, v = up φ A :=
  ⟨fun r l => (v (ix2 r l) : EReal).toReal, up_of v _ fun r l => h (ix2 r l)⟩

variable [Facts] (x0 x5 : FVec Ideal S2048x1024 .f32) (x1 : FVec Ideal S1x1024 .f32) (x2 x3 x4 : FVec Ideal S2816x1024 .bf16)
  (h : fn (F := Ideal) x0 x1 x2 x3 x4 x5 = fun _ => 1#1)
include h

/-- All six arguments are arrays of reals. -/
theorem reals : (∃ A, x0 = up .f32 A) ∧ (∃ A, x1 = up .f32 A) ∧ (∃ A, x2 = up .bf16 A) ∧ (∃ A, x3 = up .bf16 A) ∧ (∃ A, x4 = up .bf16 A)
    ∧ ∃ A, x5 = up .f32 A := by
  obtain ⟨h', h4⟩ := Cert.Pre_finite.bits_both _ _ (congrFun h (fun k => k.elim0))
  obtain ⟨h', h3⟩ := Cert.Pre_finite.bits_both _ _ h'
  obtain ⟨h', h2⟩ := Cert.Pre_finite.bits_both _ _ h'
  obtain ⟨h', h5⟩ := Cert.Pre_finite.bits_both _ _ h'
  obtain ⟨h0, h1⟩ := Cert.Pre_finite.bits_both _ _ h'
  exact ⟨up_toReal x0 fun j => Cert.Pre_finite.real_of_lt _ (Host.reduce_andi_all _ _ _ _ _ h0 j),
    up_toReal x1 fun j => Cert.Pre_finite.real_of_lt _ (Host.reduce_andi_all _ _ _ _ _ h1 j),
    up_toReal x2 fun j => Cert.Pre_finite.real_of_lt _ (Host.reduce_andi_all _ _ _ _ _ h2 j),
    up_toReal x3 fun j => Cert.Pre_finite.real_of_lt _ (Host.reduce_andi_all _ _ _ _ _ h3 j),
    up_toReal x4 fun j => Cert.Pre_finite.real_of_lt _ (Host.reduce_andi_all _ _ _ _ _ h4 j),
    up_toReal x5 fun j => Cert.Pre_finite.real_of_lt _ (Host.reduce_andi_all _ _ _ _ _ h5 j)⟩

end Cert.Pre_reals
-- ==== Proof.MixerRows.lean ====
module

public import Mathlib.Analysis.SpecialFunctions.Log.Basic
public import Mathlib.Analysis.Real.Sqrt
public import Mathlib.Algebra.BigOperators.Fin

@[expose] public section

/-! The channel mixer and its gradients over the reals, one row of tokens at a time. -/

noncomputable section
namespace Cert.MixerIdeal.M

/-- The norm's small constant. -/
def eps : ℝ := 8796093 / 2 ^ 43
theorem eps_pos : 0 < eps := by unfold eps; positivity

/-- A row's mean square, its scale, the scaled row, and the row after the norm's weight. -/
def ms (x : Fin 1024 → ℝ) : ℝ := (∑ k, x k * x k) / 1024
def sc (x : Fin 1024 → ℝ) : ℝ := (√(ms x + eps))⁻¹
def xh (x : Fin 1024 → ℝ) (l : Fin 1024) : ℝ := x l * sc x
def hh (x n : Fin 1024 → ℝ) (l : Fin 1024) : ℝ := xh x l * n l
/-- A row against each row of a weight. -/
def proj (h : Fin 1024 → ℝ) (w : Fin 2816 → Fin 1024 → ℝ) (f : Fin 2816) : ℝ := ∑ l, h l * w f l
def sg (z : ℝ) : ℝ := 1 / (1 + Real.exp (-z))
/-- The gated row, and the gradients of the gate and of the up projection when `d` is the gradient of the gated row. -/
def act (g u : Fin 2816 → ℝ) (f : Fin 2816) : ℝ := g f * sg (g f) * u f
def dgate (d g u : Fin 2816 → ℝ) (f : Fin 2816) : ℝ := d f * u f * (sg (g f) * (1 + g f * (1 - sg (g f))))
def dup (d g : Fin 2816 → ℝ) (f : Fin 2816) : ℝ := d f * (g f * sg (g f))
/-- What comes back to the normalized row through both weights. -/
def dh (a b : Fin 2816 → ℝ) (wg wu : Fin 2816 → Fin 1024 → ℝ) (l : Fin 1024) : ℝ := ∑ f, a f * wg f l + ∑ f, b f * wu f l
/-- The mean of a gradient against the scaled row, and the gradient of the input: what passes by, plus the norm's part. -/
def dot (x v : Fin 1024 → ℝ) : ℝ := (∑ l, v l * xh x l) / 1024
def dx (y x v : Fin 1024 → ℝ) (l : Fin 1024) : ℝ := y l + sc x * (v l - xh x l * dot x v)

theorem ms_nonneg (x : Fin 1024 → ℝ) : 0 ≤ ms x := div_nonneg (Finset.sum_nonneg fun k _ => mul_self_nonneg (x k)) (by norm_num)
theorem ms_pos (x : Fin 1024 → ℝ) : 0 < ms x + eps := add_pos_of_nonneg_of_pos (ms_nonneg x) eps_pos
theorem one_add_exp (z : ℝ) : 0 < 1 + Real.exp z := add_pos one_pos (Real.exp_pos z)

/-- The square of the scale. -/
theorem sc_sq (x : Fin 1024 → ℝ) : sc x * sc x = 1 / (ms x + eps) := by
  rw [sc, ← mul_inv, Real.mul_self_sqrt (ms_pos x).le, one_div]

/-- The gate's gradient as a sum of two terms. -/
theorem dgate_eq (d g u : Fin 2816 → ℝ) (f : Fin 2816) :
    d f * u f * sg (g f) + g f * (d f * u f) * (sg (g f) * (1 - sg (g f))) = dgate d g u f := by
  unfold dgate; ring

/-- The gradient of the input, with the mean's part taken twice at half weight. -/
theorem dx_eq (y x v : Fin 1024 → ℝ) (l : Fin 1024) (s : ℝ) (hs : s = (∑ k, x k * v k) * (-(1 / 2) * (sc x / (ms x + eps))) / 1024) :
    y l + v l * sc x + x l * s + s * x l = dx y x v l := by
  have h : ∑ k, v k * xh x k = (∑ k, x k * v k) * sc x := by
    rw [Finset.sum_mul]; exact Finset.sum_congr rfl fun k _ => by unfold xh; ring
  have hq : sc x / (ms x + eps) = sc x * (sc x * sc x) := by rw [sc_sq]; ring
  rw [hs, hq, dx, dot, h, xh]; ring

end Cert.MixerIdeal.M
-- ==== Proof.MixerOuts.lean ====
module

public import proofs.«01_k».proof.Proof.Gen.MixerIdeal.Value
public import Idealize.ShloMosaic.Lib.Pipeline.ValueKit

@[expose] public section

/-! What the channel mixer's kernel leaves at a grid point, as functions of the blocks it reads: at the first point and at the
others, which differ in the gradient of the norm's weight alone. -/
set_option maxRecDepth 16384

noncomputable section
namespace Cert.MixerIdeal.M
open Idealize.ShloMosaic Cert.MixerIdeal Cert.MixerIdeal.Gen

variable {F : FTy → Type} [FloatOps F]

theorem hz : (![0, 0] : Fin 2 → ℕ) = fun _ => 0 := by funext i; fin_cases i <;> rfl

/-- The gradient that reaches the normalized rows, from the two products with the weights. -/
def mid (x0 : Vec F S256x1024 .f32) (x2 x3 : Vec F S256x2816 .bf16) (x5 x6 x7 : Vec F S2816x1024 .bf16) : FVec F S256x1024 .f32 :=
  k0_pay12 (k0_pay10 x0 x7 x2 x3) (k0_pay11 x0 x7 x2) x5 x6
/-- The block of the gradient of the input, -/
def outX (x0 x1 : Vec F S256x1024 .f32) (x2 x3 : Vec F S256x2816 .bf16) (x4 : Vec F S1x1024 .f32) (x5 x6 x7 : Vec F S2816x1024 .bf16) :
    FVec F S256x1024 .f32 :=
  k0_pay2 x0 (k0_pay14 x1) (k0_pay15 x1) (k0_pay16 (k0_pay10 x0 x7 x2 x3) (k0_pay11 x0 x7 x2) x5 x6 x4)
    (k0_pay17 x1 (k0_pay10 x0 x7 x2 x3) (k0_pay11 x0 x7 x2) x5 x6 x4)
/-- and what the block adds to the gradient of the norm's weight. -/
def addN (x0 x1 : Vec F S256x1024 .f32) (x2 x3 : Vec F S256x2816 .bf16) (x5 x6 x7 : Vec F S2816x1024 .bf16) : FVec F S1x1024 .f32 :=
  k0_pay1 (mid x0 x2 x3 x5 x6 x7) (k0_pay15 x1)

section
variable (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S256x2816 .bf16) (h3 : a3.IsWhole)
  (a4 : Memref sig .tc .vmem S256x2816 .bf16) (h4 : a4.IsWhole)
  (a5 : Memref sig .tc .vmem S1x1024 .f32) (h5 : a5.IsWhole)
  (a6 : Memref sig .tc .vmem S2816x1024 .bf16) (h6 : a6.IsWhole)
  (a7 : Memref sig .tc .vmem S2816x1024 .bf16) (h7 : a7.IsWhole)
  (a8 : Memref sig .tc .vmem S2816x1024 .bf16) (h8 : a8.IsWhole)
  (a9 : Memref sig .tc .vmem S256x1024 .f32) (h9 : a9.IsWhole)
  (a10 : Memref sig .tc .vmem S1x1024 .f32) (h10 : a10.IsWhole)
  (a11 : Memref sig .tc .vmem S256x2816 .bf16) (h11 : a11.IsWhole)
  (a12 : Memref sig .tc .vmem S256x2816 .bf16) (h12 : a12.IsWhole)
  (a13 : Memref sig .tc .vmem S256x2816 .bf16) (h13 : a13.IsWhole)
  (a14 : Memref sig .tc .vmem S256x1024 .bf16) (h14 : a14.IsWhole)
  (x0 : Vec F S256x1024 .f32) (x1 : Vec F S256x1024 .f32) (x2 : Vec F S256x2816 .bf16) (x3 : Vec F S256x2816 .bf16) (x4 : Vec F S1x1024 .f32) (x5 : Vec F S2816x1024 .bf16) (x6 : Vec F S2816x1024 .bf16) (x7 : Vec F S2816x1024 .bf16)

theorem out_A_8 (hc0 : cond0_0 i) (hc1 : ¬cond0_1 i) : out0_A_8 c i a1 h1 a2 h2 a3 h3 a4 h4 a5 h5 a6 h6 a7 h7 a8 h8 a9 h9 a10 h10 a11 h11 a12 h12 a13 h13 a14 h14 hc0 hc1 x0 x1 x2 x3 x4 x5 x6 x7
    = outX x0 x1 x2 x3 x4 x5 x6 x7 := by
  unfold out0_A_8
  rw [View.read_writes_junk_eq_canon]
  unfold kernelRun0_A
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz,
    View.ld_unit_zero (S := S2816x1024) hz, View.ld_unit_zero (S := S1x1024) hz]
  rfl
theorem out_A_9 (hc0 : cond0_0 i) (hc1 : ¬cond0_1 i) : out0_A_9 c i a1 h1 a2 h2 a3 h3 a4 h4 a5 h5 a6 h6 a7 h7 a8 h8 a9 h9 a10 h10 a11 h11 a12 h12 a13 h13 a14 h14 hc0 hc1 x0 x1 x2 x3 x4 x5 x6 x7
    = addN x0 x1 x2 x3 x5 x6 x7 := by
  unfold out0_A_9
  rw [View.read_writes_junk_eq_canon]
  unfold kernelRun0_A
  dsimp only
  sl_unfold_words
  rw [View.canon_unit_zero (S := S1x1024) hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz,
    View.ld_unit_zero (S := S2816x1024) hz, View.ld_unit_zero (S := S1x1024) hz]
  rfl
theorem out_A_10 (hc0 : cond0_0 i) (hc1 : ¬cond0_1 i) : out0_A_10 c i a1 h1 a2 h2 a3 h3 a4 h4 a5 h5 a6 h6 a7 h7 a8 h8 a9 h9 a10 h10 a11 h11 a12 h12 a13 h13 a14 h14 hc0 hc1 x0 x1 x2 x3 x4 x5 x6 x7
    = k0_pay9 x2 x3 := by
  unfold out0_A_10
  rw [View.read_writes_junk_eq_canon]
  unfold kernelRun0_A
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz,
    View.ld_unit_zero (S := S2816x1024) hz, View.ld_unit_zero (S := S1x1024) hz]
theorem out_A_11 (hc0 : cond0_0 i) (hc1 : ¬cond0_1 i) : out0_A_11 c i a1 h1 a2 h2 a3 h3 a4 h4 a5 h5 a6 h6 a7 h7 a8 h8 a9 h9 a10 h10 a11 h11 a12 h12 a13 h13 a14 h14 hc0 hc1 x0 x1 x2 x3 x4 x5 x6 x7
    = k0_pay10 x0 x7 x2 x3 := by
  unfold out0_A_11
  rw [View.read_writes_junk_eq_canon]
  unfold kernelRun0_A
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz,
    View.ld_unit_zero (S := S2816x1024) hz, View.ld_unit_zero (S := S1x1024) hz]
theorem out_A_12 (hc0 : cond0_0 i) (hc1 : ¬cond0_1 i) : out0_A_12 c i a1 h1 a2 h2 a3 h3 a4 h4 a5 h5 a6 h6 a7 h7 a8 h8 a9 h9 a10 h10 a11 h11 a12 h12 a13 h13 a14 h14 hc0 hc1 x0 x1 x2 x3 x4 x5 x6 x7
    = k0_pay11 x0 x7 x2 := by
  unfold out0_A_12
  rw [View.read_writes_junk_eq_canon]
  unfold kernelRun0_A
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz,
    View.ld_unit_zero (S := S2816x1024) hz, View.ld_unit_zero (S := S1x1024) hz]
theorem out_A_13 (hc0 : cond0_0 i) (hc1 : ¬cond0_1 i) : out0_A_13 c i a1 h1 a2 h2 a3 h3 a4 h4 a5 h5 a6 h6 a7 h7 a8 h8 a9 h9 a10 h10 a11 h11 a12 h12 a13 h13 a14 h14 hc0 hc1 x0 x1 x2 x3 x4 x5 x6 x7
    = k0_pay13 x1 x4 := by
  unfold out0_A_13
  rw [View.read_writes_junk_eq_canon]
  unfold kernelRun0_A
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz,
    View.ld_unit_zero (S := S2816x1024) hz, View.ld_unit_zero (S := S1x1024) hz]
theorem out_B_8 (hc0 : ¬cond0_0 i) (hc1 : cond0_1 i) (xo : Vec F S1x1024 .f32) : out0_B_8 c i a1 h1 a2 h2 a3 h3 a4 h4 a5 h5 a6 h6 a7 h7 a8 h8 a9 h9 a10 h10 a11 h11 a12 h12 a13 h13 a14 h14 hc0 hc1 x0 x1 x2 x3 x4 x5 x6 x7 xo
    = outX x0 x1 x2 x3 x4 x5 x6 x7 := by
  unfold out0_B_8
  rw [View.read_writes_junk_eq_canon]
  unfold kernelRun0_B
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread, h10.read_unread, View.ld_unit_zero (S := S256x1024) hz, View.ld_unit_zero (S := S256x2816) hz,
    View.ld_unit_zero (S := S2816x1024) hz, View.ld_unit_zero (S := S1x1024) hz]
  rfl
theorem out_B_9 (hc0 : ¬cond0_0 i) (hc1 : cond0_1 i) (xo : Vec F S1x1024 .f32) : out0_B_9 c i a1 h1 a2 h2 a3 h3 a4 h4 a5 h5 a6 h6 a7 h7 a8 h8 a9 h9 a10 h10 a11 h11 a12 h12 a13 h13 a14 h14 hc0 hc1 x0 x1 x2 x3 x4 x5 x6 x7 xo
    = addf xo (addN x0 x1 x2 x3 x5 x6 x7) := by
  unfold out0_B_9
  rw [View.read_writes_junk_eq_canon]
  unfold kernelRun0_B
  dsimp only
  sl_unfold_words
  rw [View.canon_unit_zero (S := S1x1024) hz]
  simp only [View.readAt_eq_ld, h1.read_unread, h2.read_unread, h3.read_unread, h4.read_unread, h5.read_unread, h6.read_unread, h7.read_unread, h8.read_unread, h10.read_unread, View.ld_unit_zero (S := S256x1024) hz, View.ld_unit_zero (S := S256x2816) hz,
    View.ld_unit_zero (S := S2816x1024) hz, View.ld_unit_zero (S := S1x1024) hz, k0_pay3, shapeCast_self]
  rfl
theorem out_B_10 (hc0 : ¬cond0_0 i) (hc1 : cond0_1 i) (xo : Vec F S1x1024 .f32) : out0_B_10 c i a1 h1 a2 h2 a3 h3 a4 h4 a5 h5 a6 h6 a7 h7 a8 h8 a9 h9 a10 h10 a11 h11 a12 h12 a13 h13 a14 h14 hc0 hc1 x0 x1 x2 x3 x4 x5 x6 x7 xo
    = k0_pay9 x2 x3 := by
  unfold out0_B_10
  rw [View.read_writes_junk_eq_canon]
  unfold kernelRun0_B
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h10.read_unread, View.ld_unit_zero (S := S256x1024) hz, View.ld_unit_zero (S := S256x2816) hz,
    View.ld_unit_zero (S := S2816x1024) hz, View.ld_unit_zero (S := S1x1024) hz]
theorem out_B_11 (hc0 : ¬cond0_0 i) (hc1 : cond0_1 i) (xo : Vec F S1x1024 .f32) : out0_B_11 c i a1 h1 a2 h2 a3 h3 a4 h4 a5 h5 a6 h6 a7 h7 a8 h8 a9 h9 a10 h10 a11 h11 a12 h12 a13 h13 a14 h14 hc0 hc1 x0 x1 x2 x3 x4 x5 x6 x7 xo
    = k0_pay10 x0 x7 x2 x3 := by
  unfold out0_B_11
  rw [View.read_writes_junk_eq_canon]
  unfold kernelRun0_B
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h10.read_unread, View.ld_unit_zero (S := S256x1024) hz, View.ld_unit_zero (S := S256x2816) hz,
    View.ld_unit_zero (S := S2816x1024) hz, View.ld_unit_zero (S := S1x1024) hz]
theorem out_B_12 (hc0 : ¬cond0_0 i) (hc1 : cond0_1 i) (xo : Vec F S1x1024 .f32) : out0_B_12 c i a1 h1 a2 h2 a3 h3 a4 h4 a5 h5 a6 h6 a7 h7 a8 h8 a9 h9 a10 h10 a11 h11 a12 h12 a13 h13 a14 h14 hc0 hc1 x0 x1 x2 x3 x4 x5 x6 x7 xo
    = k0_pay11 x0 x7 x2 := by
  unfold out0_B_12
  rw [View.read_writes_junk_eq_canon]
  unfold kernelRun0_B
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h10.read_unread, View.ld_unit_zero (S := S256x1024) hz, View.ld_unit_zero (S := S256x2816) hz,
    View.ld_unit_zero (S := S2816x1024) hz, View.ld_unit_zero (S := S1x1024) hz]
theorem out_B_13 (hc0 : ¬cond0_0 i) (hc1 : cond0_1 i) (xo : Vec F S1x1024 .f32) : out0_B_13 c i a1 h1 a2 h2 a3 h3 a4 h4 a5 h5 a6 h6 a7 h7 a8 h8 a9 h9 a10 h10 a11 h11 a12 h12 a13 h13 a14 h14 hc0 hc1 x0 x1 x2 x3 x4 x5 x6 x7 xo
    = k0_pay13 x1 x4 := by
  unfold out0_B_13
  rw [View.read_writes_junk_eq_canon]
  unfold kernelRun0_B
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread, h10.read_unread, View.ld_unit_zero (S := S256x1024) hz, View.ld_unit_zero (S := S256x2816) hz,
    View.ld_unit_zero (S := S2816x1024) hz, View.ld_unit_zero (S := S1x1024) hz]
end

end Cert.MixerIdeal.M
-- ==== Proof.MixerUp.lean ====
module

public import proofs.«01_k».proof.Proof.Up
public import proofs.«01_k».proof.Proof.MixerRows
public import proofs.«01_k».proof.Proof.MixerOuts

@[expose] public section

/-! What the channel mixer's kernel leaves at a grid point, when the blocks it reads hold reals. -/
set_option maxRecDepth 16384

noncomputable section
namespace Cert.MixerIdeal.M
open Idealize.ShloMosaic Cert.MixerIdeal Cert.MixerIdeal.Gen
open Cert.KernelIdeal.SB

section
variable {φ : FTy} {m n : ℕ} (A B : Fin m → Fin n → ℝ)
theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]
theorem rsqrt_coe (a : ℝ) (h : 0 < a) : Ideal.rsqrt (a : EReal) = (((√a)⁻¹ : ℝ) : EReal) := by
  show (if a < 0 then _ else if a = 0 then _ else _) = _
  rw [if_neg (not_lt.mpr h.le), if_neg h.ne']
theorem up_divf (h : ∀ r c, B r c ≠ 0) : divf (up φ A) (up φ B) = up φ fun r c => A r c / B r c := by
  funext j; exact div_coe _ _ (h _ _)
theorem up_rsqrt (h : ∀ r c, 0 < A r c) : rsqrt (up φ A) = up φ fun r c => (√(A r c))⁻¹ := by
  funext j; exact rsqrt_coe _ (h _ _)
theorem bits_1024 : Ideal.ofBits .f32 0x44800000#32 = ((1024 : ℝ) : EReal) := by
  simp [Ideal.ofBits, Ideal.ieee, -EReal.coe_mul]; norm_num
theorem bits_eps : Ideal.ofBits .f32 0x358637BD#32 = ((eps : ℝ) : EReal) := by
  simp [Ideal.ofBits, Ideal.ieee, -EReal.coe_mul, eps]; norm_num
theorem up_b1024 : (broadcast ⟨2, ![m, n]⟩ (Scalar.ofBits .f32 0x44800000#32 : Ideal .f32)) = up .f32 fun _ _ => 1024 := by
  funext j; exact bits_1024
theorem up_beps : (broadcast ⟨2, ![m, n]⟩ (Scalar.ofBits .f32 0x358637BD#32 : Ideal .f32)) = up .f32 fun _ _ => eps := by
  funext j; exact bits_eps
end

/-- The sum of a row, as a column; the sum of a column, as a row. -/
def rowsum (v : FVec Ideal S256x1024 .f32) : FVec Ideal S256x1 .f32 :=
  shapeCast S256x1 (multiReduction .add [1] S256 v 0x00000000#32 reduces_S256x1024_S256 (.inl rfl) rfl) shapeCasts_S256_S256x1
def colsum (v : FVec Ideal S256x1024 .f32) : FVec Ideal S1x1024 .f32 :=
  shapeCast S1x1024 (multiReduction .add [0] S1024 v 0x00000000#32 reduces_S256x1024_S1024 (.inl rfl) rfl) shapeCasts_S1024_S1x1024
theorem up_rowsum (A : Fin 256 → Fin 1024 → ℝ) : rowsum (up .f32 A) = up .f32 fun r _ => ∑ k, A r k := by
  funext j; idx_vars j; pointwise [rowsum]; simp only [up_at, coe_sum]
theorem up_colsum (A : Fin 256 → Fin 1024 → ℝ) : colsum (up .f32 A) = up .f32 fun _ l => ∑ r, A r l := by
  funext j; idx_vars j; pointwise [colsum]; simp only [up_at, coe_sum]
theorem up_col (A : Fin 256 → Fin 1 → ℝ) : broadcastTo S256x1024 (up .f32 A : FVec Ideal S256x1 .f32) broadcasts_S256x1_S256x1024 = up .f32 fun r _ => A r 0 := by
  funext j; idx_vars j; pointwise; simp only [up_at]
theorem up_row (A : Fin 1 → Fin 1024 → ℝ) : broadcastTo S256x1024 (up .f32 A : FVec Ideal S1x1024 .f32) broadcasts_S1x1024_S256x1024 = up .f32 fun _ l => A 0 l := by
  funext j; idx_vars j; pointwise; simp only [up_at]
theorem up_abt (A : Fin 256 → Fin 1024 → ℝ) (B : Fin 2816 → Fin 1024 → ℝ) :
    matmul dot_S256x1024_S2816x1024_S256x2816_1_1_0_0_n_n none (up .bf16 A : FVec Ideal S256x1024 .bf16) (up .bf16 B) (up .f32 fun _ _ => 0)
      = up .f32 fun r c => ∑ l, A r l * B c l := by
  funext j; idx_vars j; pointwise; simp only [up_at, coe_sum_mul, EReal.coe_zero, zero_add]
theorem up_ab (A : Fin 256 → Fin 2816 → ℝ) (B : Fin 2816 → Fin 1024 → ℝ) :
    matmul dot_S256x2816_S2816x1024_S256x1024_1_0_0_1_n_n none (up .bf16 A : FVec Ideal S256x2816 .bf16) (up .bf16 B) (up .f32 fun _ _ => 0)
      = up .f32 fun r c => ∑ l, A r l * B l c := by
  funext j; idx_vars j; pointwise; simp only [up_at, coe_sum_mul, EReal.coe_zero, zero_add]

section
variable (X Y : Fin 256 → Fin 1024 → ℝ) (N : Fin 1 → Fin 1024 → ℝ) (G U : Fin 256 → Fin 2816 → ℝ) (Wg Wu Wd : Fin 2816 → Fin 1024 → ℝ)

theorem pay14_up : k0_pay14 (F := Ideal) (up .f32 X) = up .f32 fun r _ => sc (X r) := by
  show rsqrt (addf (divf (rowsum (mulf (up .f32 X) (up .f32 X))) (broadcast S256x1 (Scalar.ofBits .f32 0x44800000#32 : Ideal .f32)))
    (broadcast S256x1 (Scalar.ofBits .f32 0x358637BD#32 : Ideal .f32))) = _
  simp only [up_mulf, up_rowsum, up_b1024, up_beps]
  rw [up_divf _ _ fun _ _ => by norm_num]
  simp only [up_addf]
  show rsqrt (up .f32 fun r (_ : Fin 1) => ms (X r) + eps) = _
  rw [up_rsqrt _ fun r _ => ms_pos (X r)]
  rfl
theorem pay15_up : k0_pay15 (F := Ideal) (up .f32 X) = up .f32 fun r l => xh (X r) l := by
  unfold k0_pay15
  simp only [pay14_up, up_col, up_mulf]; rfl
theorem pay13_up : k0_pay13 (F := Ideal) (up .f32 X) (up .f32 N) = up .bf16 fun r l => hh (X r) (N 0) l := by
  have h := pay15_up X
  unfold k0_pay15 k0_pay14 at h
  unfold k0_pay13
  dsimp only at h ⊢
  rw [h]
  simp only [up_row, up_mulf, up_truncf]; rfl
theorem pay4_up : k0_pay4 (F := Ideal) (up .f32 Y) (up .bf16 Wd) = up .f32 fun r f => proj (Y r) Wd f := by
  unfold k0_pay4
  simp only [up_truncf, up_zero, up_abt]; rfl
theorem pay5_up : k0_pay5 (F := Ideal) (up .bf16 G) = up .f32 G := by
  unfold k0_pay5
  simp only [up_cast, up_extf]
theorem pay6_up : k0_pay6 (F := Ideal) (up .bf16 G) = up .f32 G := by
  unfold k0_pay6
  simp only [up_cast, up_extf]
theorem pay7_up : k0_pay7 (F := Ideal) (up .bf16 G) = up .f32 fun r f => sg (G r f) := by
  unfold k0_pay7
  simp only [pay5_up, up_bzero, up_bone, up_subf, up_exp, up_addf]
  rw [up_divf _ _ fun r f => (one_add_exp (0 - G r f)).ne']
  exact up_congr fun r f => by rw [zero_sub]; rfl
theorem pay8_up : k0_pay8 (F := Ideal) (up .bf16 G) = up .f32 fun r f => G r f * sg (G r f) := by
  unfold k0_pay8
  simp only [pay5_up, pay7_up, up_mulf]
theorem pay9_up : k0_pay9 (F := Ideal) (up .bf16 G) (up .bf16 U) = up .bf16 fun r f => act (G r) (U r) f := by
  unfold k0_pay9
  simp only [pay8_up, pay6_up, up_mulf, up_truncf]; rfl
theorem pay10_up : k0_pay10 (F := Ideal) (up .f32 Y) (up .bf16 Wd) (up .bf16 G) (up .bf16 U) = up .bf16 fun r f => dgate (proj (Y r) Wd) (G r) (U r) f := by
  unfold k0_pay10
  simp only [pay4_up, pay5_up, pay6_up, pay7_up, up_bone, up_subf, up_mulf, up_addf, up_truncf]; rfl
theorem pay11_up : k0_pay11 (F := Ideal) (up .f32 Y) (up .bf16 Wd) (up .bf16 G) = up .bf16 fun r f => dup (proj (Y r) Wd) (G r) f := by
  unfold k0_pay11
  simp only [pay4_up, pay8_up, up_mulf, up_truncf]; rfl
theorem pay12_up (A B : Fin 256 → Fin 2816 → ℝ) : k0_pay12 (F := Ideal) (up .bf16 A) (up .bf16 B) (up .bf16 Wg) (up .bf16 Wu)
    = up .f32 fun r l => dh (A r) (B r) Wg Wu l := by
  unfold k0_pay12
  simp only [up_zero, up_ab, up_addf]; rfl
theorem pay16_up (A B : Fin 256 → Fin 2816 → ℝ) : k0_pay16 (F := Ideal) (up .bf16 A) (up .bf16 B) (up .bf16 Wg) (up .bf16 Wu) (up .f32 N)
    = up .f32 fun r l => dh (A r) (B r) Wg Wu l * N 0 l := by
  unfold k0_pay16
  simp only [pay12_up, up_row, up_mulf]
theorem pay17_up (A B : Fin 256 → Fin 2816 → ℝ) : k0_pay17 (F := Ideal) (up .f32 X) (up .bf16 A) (up .bf16 B) (up .bf16 Wg) (up .bf16 Wu) (up .f32 N)
    = up .f32 fun r _ => dot (X r) (fun l => dh (A r) (B r) Wg Wu l * N 0 l) := by
  show divf (rowsum (mulf (k0_pay16 (F := Ideal) (up .bf16 A) (up .bf16 B) (up .bf16 Wg) (up .bf16 Wu) (up .f32 N)) (k0_pay15 (F := Ideal) (up .f32 X))))
    (broadcast S256x1 (Scalar.ofBits .f32 0x44800000#32 : Ideal .f32)) = _
  simp only [pay16_up, pay15_up, up_mulf, up_rowsum, up_b1024]
  rw [up_divf _ _ fun _ _ => by norm_num]
  rfl

/-- The row of what comes back to the normalized row of a token. -/
def back (y : Fin 1024 → ℝ) (g u : Fin 2816 → ℝ) (wg wu wd : Fin 2816 → Fin 1024 → ℝ) (l : Fin 1024) : ℝ :=
  dh (dgate (proj y wd) g u) (dup (proj y wd) g) wg wu l

theorem outX_up : outX (F := Ideal) (up .f32 Y) (up .f32 X) (up .bf16 G) (up .bf16 U) (up .f32 N) (up .bf16 Wg) (up .bf16 Wu) (up .bf16 Wd)
    = up .f32 fun r l => dx (Y r) (X r) (fun l => back (Y r) (G r) (U r) Wg Wu Wd l * N 0 l) l := by
  unfold outX k0_pay2
  simp only [pay14_up, pay15_up, pay10_up, pay11_up, pay16_up, pay17_up, up_col, up_mulf, up_subf, up_addf]
  rfl
theorem addN_up : addN (F := Ideal) (up .f32 Y) (up .f32 X) (up .bf16 G) (up .bf16 U) (up .bf16 Wg) (up .bf16 Wu) (up .bf16 Wd)
    = up .f32 fun _ l => ∑ r, back (Y r) (G r) (U r) Wg Wu Wd l * xh (X r) l := by
  show colsum (mulf (k0_pay12 (F := Ideal) (k0_pay10 (F := Ideal) (up .f32 Y) (up .bf16 Wd) (up .bf16 G) (up .bf16 U))
    (k0_pay11 (F := Ideal) (up .f32 Y) (up .bf16 Wd) (up .bf16 G)) (up .bf16 Wg) (up .bf16 Wu)) (k0_pay15 (F := Ideal) (up .f32 X))) = _
  simp only [pay15_up, pay10_up, pay11_up, pay12_up, up_mulf, up_colsum]
  rfl
end

end Cert.MixerIdeal.M
-- ==== Proof.MixerBlocks.lean ====
module

public import proofs.«01_k».proof.Proof.MixerUp
public import proofs.«01_k».proof.Proof.Grid
public import Idealize.ShloMosaic.Lib.Pipeline.ValueKit
public import Idealize.ShloMosaic.Lib.Pointwise.Index

@[expose] public section

/-! What each grid point of the channel mixer's kernel reads and leaves, when its arrays hold reals. -/
set_option maxRecDepth 16384

noncomputable section
namespace Cert.MixerIdeal.M
open Idealize.ShloMosaic Cert.MixerIdeal Cert.MixerIdeal.Gen
open Cert.KernelIdeal.SB (up up_of up_at up_addf up_congr)

theorem lt8 (t : Fin cfg0.N) : t.val < 8 := t.isLt
/-- The row of an array that row `r` of block `t` is. -/
def tok (t : Fin cfg0.N) (r : Fin 256) : Fin 2048 := ⟨256 * t.val + r.val, by have := lt8 t; omega⟩

/-- Where each window's block lies. -/
theorem places : ∀ t : Fin cfg0.N, (win0_0.index t = ![t.val, 0]) ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![t.val, 0] ∧ win0_9.index t = ![0, 0] ∧ win0_10.index t = ![t.val, 0] ∧ win0_11.index t = ![t.val, 0]
    ∧ win0_12.index t = ![t.val, 0] ∧ win0_13.index t = ![t.val, 0] := by decide +kernel

section
variable (t : Fin cfg0.N)
theorem rd0 (A : FVec Ideal S2048x1024 .f32) (r : Fin 256) (l : Fin 1024) :
    ((win0_0.blk t).view.read (Elt Ideal) A : FVec Ideal S256x1024 .f32) (ix2 r l) = A (ix2 (tok t r) l) := by blk_point [places t]; show _ = 256 * t.val + r.val; omega
theorem rd1 (A : FVec Ideal S2048x1024 .f32) (r : Fin 256) (l : Fin 1024) :
    ((win0_1.blk t).view.read (Elt Ideal) A : FVec Ideal S256x1024 .f32) (ix2 r l) = A (ix2 (tok t r) l) := by blk_point [places t]; show _ = 256 * t.val + r.val; omega
theorem rd2 (A : FVec Ideal S2048x2816 .bf16) (r : Fin 256) (l : Fin 2816) :
    ((win0_2.blk t).view.read (Elt Ideal) A : FVec Ideal S256x2816 .bf16) (ix2 r l) = A (ix2 (tok t r) l) := by blk_point [places t]; show _ = 256 * t.val + r.val; omega
theorem rd3 (A : FVec Ideal S2048x2816 .bf16) (r : Fin 256) (l : Fin 2816) :
    ((win0_3.blk t).view.read (Elt Ideal) A : FVec Ideal S256x2816 .bf16) (ix2 r l) = A (ix2 (tok t r) l) := by blk_point [places t]; show _ = 256 * t.val + r.val; omega
theorem rd4 (A : FVec Ideal S1x1024 .f32) (r : Fin 1) (l : Fin 1024) :
    ((win0_4.blk t).view.read (Elt Ideal) A : FVec Ideal S1x1024 .f32) (ix2 r l) = A (ix2 r l) := by blk_point [places t]
theorem rd5 (A : FVec Ideal S2816x1024 .bf16) (r : Fin 2816) (l : Fin 1024) :
    ((win0_5.blk t).view.read (Elt Ideal) A : FVec Ideal S2816x1024 .bf16) (ix2 r l) = A (ix2 r l) := by blk_point [places t]
theorem rd6 (A : FVec Ideal S2816x1024 .bf16) (r : Fin 2816) (l : Fin 1024) :
    ((win0_6.blk t).view.read (Elt Ideal) A : FVec Ideal S2816x1024 .bf16) (ix2 r l) = A (ix2 r l) := by blk_point [places t]
theorem rd7 (A : FVec Ideal S2816x1024 .bf16) (r : Fin 2816) (l : Fin 1024) :
    ((win0_7.blk t).view.read (Elt Ideal) A : FVec Ideal S2816x1024 .bf16) (ix2 r l) = A (ix2 r l) := by blk_point [places t]
theorem rd8 (A : FVec Ideal S2048x1024 .f32) (r : Fin 256) (l : Fin 1024) :
    ((win0_8.blk t).view.read (Elt Ideal) A : FVec Ideal S256x1024 .f32) (ix2 r l) = A (ix2 (tok t r) l) := by blk_point [places t]; show _ = 256 * t.val + r.val; omega
theorem rd9 (A : FVec Ideal S1x1024 .f32) (r : Fin 1) (l : Fin 1024) :
    ((win0_9.blk t).view.read (Elt Ideal) A : FVec Ideal S1x1024 .f32) (ix2 r l) = A (ix2 r l) := by blk_point [places t]
theorem rd10 (A : FVec Ideal S2048x2816 .bf16) (r : Fin 256) (l : Fin 2816) :
    ((win0_10.blk t).view.read (Elt Ideal) A : FVec Ideal S256x2816 .bf16) (ix2 r l) = A (ix2 (tok t r) l) := by blk_point [places t]; show _ = 256 * t.val + r.val; omega
theorem rd11 (A : FVec Ideal S2048x2816 .bf16) (r : Fin 256) (l : Fin 2816) :
    ((win0_11.blk t).view.read (Elt Ideal) A : FVec Ideal S256x2816 .bf16) (ix2 r l) = A (ix2 (tok t r) l) := by blk_point [places t]; show _ = 256 * t.val + r.val; omega
theorem rd12 (A : FVec Ideal S2048x2816 .bf16) (r : Fin 256) (l : Fin 2816) :
    ((win0_12.blk t).view.read (Elt Ideal) A : FVec Ideal S256x2816 .bf16) (ix2 r l) = A (ix2 (tok t r) l) := by blk_point [places t]; show _ = 256 * t.val + r.val; omega
theorem rd13 (A : FVec Ideal S2048x1024 .bf16) (r : Fin 256) (l : Fin 1024) :
    ((win0_13.blk t).view.read (Elt Ideal) A : FVec Ideal S256x1024 .bf16) (ix2 r l) = A (ix2 (tok t r) l) := by blk_point [places t]; show _ = 256 * t.val + r.val; omega
end

section
variable (m : (ℓ : Loc nD τ sig) → Buf (Elt Ideal) ℓ) (c : Dev nD)
variable (X Y : Fin 2048 → Fin 1024 → ℝ) (N : Fin 1 → Fin 1024 → ℝ) (G U : Fin 2048 → Fin 2816 → ℝ) (Wg Wu Wd : Fin 2816 → Fin 1024 → ℝ)

/-- The arrays the kernel is given, as arrays of reals. -/
structure Given : Prop where
  y : (V m c main_arg5 : FVec Ideal S2048x1024 .f32) = up .f32 Y
  x : (V m c main_arg0 : FVec Ideal S2048x1024 .f32) = up .f32 X
  g : (V m c main_v18 : FVec Ideal S2048x2816 .bf16) = up .bf16 G
  u : (V m c main_v19 : FVec Ideal S2048x2816 .bf16) = up .bf16 U
  n : (V m c main_arg1 : FVec Ideal S1x1024 .f32) = up .f32 N
  wg : (V m c main_arg2 : FVec Ideal S2816x1024 .bf16) = up .bf16 Wg
  wu : (V m c main_arg3 : FVec Ideal S2816x1024 .bf16) = up .bf16 Wu
  wd : (V m c main_arg4 : FVec Ideal S2816x1024 .bf16) = up .bf16 Wd

variable {m c X Y N G U Wg Wu Wd} (H : Given m c X Y N G U Wg Wu Wd) (t : Fin cfg0.N)
include H

theorem in0 : (iblk m c 0 t : FVec Ideal S256x1024 .f32) = up .f32 fun r l => Y (tok t r) l :=
  up_of _ _ fun r l => (rd0 t (V m c main_arg5) r l).trans (congrFun H.y _)
theorem in1 : (iblk m c 1 t : FVec Ideal S256x1024 .f32) = up .f32 fun r l => X (tok t r) l :=
  up_of _ _ fun r l => (rd1 t (V m c main_arg0) r l).trans (congrFun H.x _)
theorem in2 : (iblk m c 2 t : FVec Ideal S256x2816 .bf16) = up .bf16 fun r l => G (tok t r) l :=
  up_of _ _ fun r l => (rd2 t (V m c main_v18) r l).trans (congrFun H.g _)
theorem in3 : (iblk m c 3 t : FVec Ideal S256x2816 .bf16) = up .bf16 fun r l => U (tok t r) l :=
  up_of _ _ fun r l => (rd3 t (V m c main_v19) r l).trans (congrFun H.u _)
theorem in4 : (iblk m c 4 t : FVec Ideal S1x1024 .f32) = up .f32 N :=
  up_of _ _ fun r l => (rd4 t (V m c main_arg1) r l).trans (congrFun H.n _)
theorem in5 : (iblk m c 5 t : FVec Ideal S2816x1024 .bf16) = up .bf16 Wg :=
  up_of _ _ fun r l => (rd5 t (V m c main_arg2) r l).trans (congrFun H.wg _)
theorem in6 : (iblk m c 6 t : FVec Ideal S2816x1024 .bf16) = up .bf16 Wu :=
  up_of _ _ fun r l => (rd6 t (V m c main_arg3) r l).trans (congrFun H.wu _)
theorem in7 : (iblk m c 7 t : FVec Ideal S2816x1024 .bf16) = up .bf16 Wd :=
  up_of _ _ fun r l => (rd7 t (V m c main_arg4) r l).trans (congrFun H.wd _)
end

end Cert.MixerIdeal.M
-- ==== Proof.MixerArrays.lean ====
module

public import proofs.«01_k».proof.Proof.MixerBlocks
public import Mathlib.Logic.Equiv.Fin.Basic
public import Mathlib.Algebra.BigOperators.Fin

@[expose] public section

/-! The arrays the channel mixer's kernel ends with, when its arguments hold reals. -/
set_option maxRecDepth 16384

noncomputable section
namespace Cert.MixerIdeal.M
open Idealize.ShloMosaic Cert.MixerIdeal Cert.MixerIdeal.Gen
open Cert.KernelIdeal.SB (up up_of up_at up_addf up_congr)

section
variable (X Y : Fin 2048 → Fin 1024 → ℝ) (N : Fin 1 → Fin 1024 → ℝ) (G U : Fin 2048 → Fin 2816 → ℝ) (Wg Wu Wd : Fin 2816 → Fin 1024 → ℝ)

/-- The gradient of the input; a token's part of the gradient of the norm's weight, and the whole of it; the gated rows; the gradients
of the gate and of the up projection; the normalized rows. -/
def resX (r : Fin 2048) (l : Fin 1024) : ℝ := dx (Y r) (X r) (fun l => back (Y r) (G r) (U r) Wg Wu Wd l * N 0 l) l
def partN (r : Fin 2048) (l : Fin 1024) : ℝ := back (Y r) (G r) (U r) Wg Wu Wd l * xh (X r) l
def resN (_ : Fin 1) (l : Fin 1024) : ℝ := ∑ r, partN X Y G U Wg Wu Wd r l
def resA (r : Fin 2048) (f : Fin 2816) : ℝ := act (G r) (U r) f
def resG (r : Fin 2048) (f : Fin 2816) : ℝ := dgate (proj (Y r) Wd) (G r) (U r) f
def resU (r : Fin 2048) (f : Fin 2816) : ℝ := dup (proj (Y r) Wd) (G r) f
def resH (r : Fin 2048) (l : Fin 1024) : ℝ := hh (X r) (N 0) l

/-- The norm's weight's gradient over the tokens of one block, and over all eight. -/
def blockN (s : ℕ) (l : Fin 1024) : ℝ := if h : s < cfg0.N then ∑ r, partN X Y G U Wg Wu Wd (tok ⟨s, h⟩ r) l else 0
theorem blocks_all (l : Fin 1024) : ∑ s ∈ Finset.range 8, blockN X Y G U Wg Wu Wd s l = resN X Y G U Wg Wu Wd 0 l := by
  rw [Finset.sum_range]
  calc ∑ s : Fin 8, blockN X Y G U Wg Wu Wd s.val l = ∑ s : Fin 8, ∑ r : Fin 256, partN X Y G U Wg Wu Wd (tok s r) l :=
        Finset.sum_congr rfl fun s _ => dif_pos s.isLt
    _ = ∑ p : Fin 8 × Fin 256, partN X Y G U Wg Wu Wd (tok p.1 p.2) l := (Fintype.sum_prod_type (fun p : Fin 8 × Fin 256 => partN X Y G U Wg Wu Wd (tok p.1 p.2) l)).symm
    _ = ∑ r : Fin (8 * 256), partN X Y G U Wg Wu Wd r l :=
        Fintype.sum_equiv (finProdFinEquiv (m := 8) (n := 256)) _ _ fun p => congrArg (fun r => partN X Y G U Wg Wu Wd r l)
          (Fin.ext (show 256 * p.1.val + p.2.val = p.2.val + 256 * p.1.val from Nat.add_comm _ _))
    _ = _ := rfl
end

section
variable (X Y : Fin 256 → Fin 1024 → ℝ) (N : Fin 1 → Fin 1024 → ℝ) (G U : Fin 256 → Fin 2816 → ℝ) (Wg Wu Wd : Fin 2816 → Fin 1024 → ℝ)
variable {x0 x1 : FVec Ideal S256x1024 .f32} {x2 x3 : FVec Ideal S256x2816 .bf16} {x4 : FVec Ideal S1x1024 .f32} {x5 x6 x7 : FVec Ideal S2816x1024 .bf16}
  (h0 : x0 = up .f32 Y) (h1 : x1 = up .f32 X) (h2 : x2 = up .bf16 G) (h3 : x3 = up .bf16 U) (h4 : x4 = up .f32 N)
  (h5 : x5 = up .bf16 Wg) (h6 : x6 = up .bf16 Wu) (h7 : x7 = up .bf16 Wd)
include h0 h1 h2 h3 h4 h5 h6 h7
theorem outX_of : outX (F := Ideal) x0 x1 x2 x3 x4 x5 x6 x7
    = up .f32 fun r l => dx (Y r) (X r) (fun l => back (Y r) (G r) (U r) Wg Wu Wd l * N 0 l) l := by subst_vars; exact outX_up ..
omit h4 in
theorem addN_of : addN (F := Ideal) x0 x1 x2 x3 x5 x6 x7 = up .f32 fun _ l => ∑ r, back (Y r) (G r) (U r) Wg Wu Wd l * xh (X r) l := by
  subst_vars; exact addN_up ..
omit h0 h1 h4 h5 h6 h7 in
theorem pay9_of : k0_pay9 (F := Ideal) x2 x3 = up .bf16 fun r f => act (G r) (U r) f := by subst_vars; exact pay9_up ..
omit h1 h4 h5 h6 in
theorem pay10_of : k0_pay10 (F := Ideal) x0 x7 x2 x3 = up .bf16 fun r f => dgate (proj (Y r) Wd) (G r) (U r) f := by subst_vars; exact pay10_up ..
omit h1 h3 h4 h5 h6 in
theorem pay11_of : k0_pay11 (F := Ideal) x0 x7 x2 = up .bf16 fun r f => dup (proj (Y r) Wd) (G r) f := by subst_vars; exact pay11_up ..
omit h0 h2 h3 h5 h6 h7 in
theorem pay13_of : k0_pay13 (F := Ideal) x1 x4 = up .bf16 fun r l => hh (X r) (N 0) l := by subst_vars; exact pay13_up ..
end

section
variable {m : (ℓ : Loc nD τ sig) → Buf (Elt Ideal) ℓ} {c : Dev nD}
variable {X Y : Fin 2048 → Fin 1024 → ℝ} {N : Fin 1 → Fin 1024 → ℝ} {G U : Fin 2048 → Fin 2816 → ℝ} {Wg Wu Wd : Fin 2816 → Fin 1024 → ℝ}
variable (H : Given m c X Y N G U Wg Wu Wd) (t : Fin cfg0.N)

/-- What each point leaves in each block: at the first point and at the others, the same function of what it reads. -/
theorem term8 : (outsAt0 m c t.val t.isLt).1 = outX (F := Ideal) (iblk m c 0 t) (iblk m c 1 t) (iblk m c 2 t) (iblk m c 3 t) (iblk m c 4 t) (iblk m c 5 t) (iblk m c 6 t) (iblk m c 7 t) := by
  by_cases h : t.val = 0
  · simp only [outsAt0_A m c t (show t.val % 8 = 0 by omega) (show ¬1 ≤ t.val by omega)]
    rw [out_A_8]
  · have := lt8 t
    simp only [outsAt0_B m c t (show ¬t.val % 8 = 0 by omega) (show 1 ≤ t.val by omega)]
    rw [out_B_8]
theorem term10 : (outsAt0 m c t.val t.isLt).2.2.1 = k0_pay9 (F := Ideal) (iblk m c 2 t) (iblk m c 3 t) := by
  by_cases h : t.val = 0
  · simp only [outsAt0_A m c t (show t.val % 8 = 0 by omega) (show ¬1 ≤ t.val by omega)]
    rw [out_A_10]
  · have := lt8 t
    simp only [outsAt0_B m c t (show ¬t.val % 8 = 0 by omega) (show 1 ≤ t.val by omega)]
    rw [out_B_10]
theorem term11 : (outsAt0 m c t.val t.isLt).2.2.2.1 = k0_pay10 (F := Ideal) (iblk m c 0 t) (iblk m c 7 t) (iblk m c 2 t) (iblk m c 3 t) := by
  by_cases h : t.val = 0
  · simp only [outsAt0_A m c t (show t.val % 8 = 0 by omega) (show ¬1 ≤ t.val by omega)]
    rw [out_A_11]
  · have := lt8 t
    simp only [outsAt0_B m c t (show ¬t.val % 8 = 0 by omega) (show 1 ≤ t.val by omega)]
    rw [out_B_11]
theorem term12 : (outsAt0 m c t.val t.isLt).2.2.2.2.1 = k0_pay11 (F := Ideal) (iblk m c 0 t) (iblk m c 7 t) (iblk m c 2 t) := by
  by_cases h : t.val = 0
  · simp only [outsAt0_A m c t (show t.val % 8 = 0 by omega) (show ¬1 ≤ t.val by omega)]
    rw [out_A_12]
  · have := lt8 t
    simp only [outsAt0_B m c t (show ¬t.val % 8 = 0 by omega) (show 1 ≤ t.val by omega)]
    rw [out_B_12]
theorem term13 : (outsAt0 m c t.val t.isLt).2.2.2.2.2 = k0_pay13 (F := Ideal) (iblk m c 1 t) (iblk m c 4 t) := by
  by_cases h : t.val = 0
  · simp only [outsAt0_A m c t (show t.val % 8 = 0 by omega) (show ¬1 ≤ t.val by omega)]
    rw [out_A_13]
  · have := lt8 t
    simp only [outsAt0_B m c t (show ¬t.val % 8 = 0 by omega) (show 1 ≤ t.val by omega)]
    rw [out_B_13]
include H in
theorem left8 : (outsAt0 m c t.val t.isLt).1 = (up .f32 fun r l => resX X Y N G U Wg Wu Wd (tok t r) l : FVec Ideal ⟨2, ![256, 1024]⟩ .f32) :=
  (term8 t).trans (outX_of (h0 := in0 H t) (h1 := in1 H t) (h2 := in2 H t) (h3 := in3 H t) (h4 := in4 H t) (h5 := in5 H t) (h6 := in6 H t) (h7 := in7 H t) ..)
include H in
theorem left10 : (outsAt0 m c t.val t.isLt).2.2.1 = (up .bf16 fun r l => resA G U (tok t r) l : FVec Ideal ⟨2, ![256, 2816]⟩ .bf16) :=
  (term10 t).trans (pay9_of (h2 := in2 H t) (h3 := in3 H t) ..)
include H in
theorem left11 : (outsAt0 m c t.val t.isLt).2.2.2.1 = (up .bf16 fun r l => resG Y G U Wd (tok t r) l : FVec Ideal ⟨2, ![256, 2816]⟩ .bf16) :=
  (term11 t).trans (pay10_of (h0 := in0 H t) (h2 := in2 H t) (h3 := in3 H t) (h7 := in7 H t) ..)
include H in
theorem left12 : (outsAt0 m c t.val t.isLt).2.2.2.2.1 = (up .bf16 fun r l => resU Y G Wd (tok t r) l : FVec Ideal ⟨2, ![256, 2816]⟩ .bf16) :=
  (term12 t).trans (pay11_of (h0 := in0 H t) (h2 := in2 H t) (h7 := in7 H t) ..)
include H in
theorem left13 : (outsAt0 m c t.val t.isLt).2.2.2.2.2 = (up .bf16 fun r l => resH X N (tok t r) l : FVec Ideal ⟨2, ![256, 1024]⟩ .bf16) :=
  (term13 t).trans (pay13_of (h1 := in1 H t) (h4 := in4 H t) ..)

include H in
/-- What a block adds to the norm's weight's gradient. -/
theorem adds : addN (F := Ideal) (iblk m c 0 t) (iblk m c 1 t) (iblk m c 2 t) (iblk m c 3 t)
    (iblk m c 5 t) (iblk m c 6 t) (iblk m c 7 t) = up .f32 fun _ l => blockN X Y G U Wg Wu Wd t.val l := by
  refine (addN_of (h0 := in0 H t) (h1 := in1 H t) (h2 := in2 H t) (h3 := in3 H t) (h5 := in5 H t) (h6 := in6 H t) (h7 := in7 H t) ..).trans ?_
  refine up_congr fun _ l => ?_
  rw [blockN, dif_pos t.isLt]
  rfl
theorem term9_first (h : t.val = 0) : (outsAt0 m c t.val t.isLt).2.1
    = addN (F := Ideal) (iblk m c 0 t) (iblk m c 1 t) (iblk m c 2 t) (iblk m c 3 t) (iblk m c 5 t) (iblk m c 6 t) (iblk m c 7 t) := by
  simp only [outsAt0_A m c t (show t.val % 8 = 0 by omega) (show ¬1 ≤ t.val by omega)]
  rw [out_A_9]
theorem term9_next (h : t.val ≠ 0) : (outsAt0 m c t.val t.isLt).2.1
    = addf (s := S1x1024) (φ := .f32) (outsAt0 m c (t.val - 1) (Nat.lt_of_le_of_lt (Nat.sub_le _ _) t.isLt)).2.1
      (addN (F := Ideal) (iblk m c 0 t) (iblk m c 1 t) (iblk m c 2 t) (iblk m c 3 t) (iblk m c 5 t) (iblk m c 6 t) (iblk m c 7 t)) := by
  have := lt8 t
  simp only [outsAt0_B m c t (show ¬t.val % 8 = 0 by omega) (show 1 ≤ t.val by omega)]
  rw [out_B_9]
include H in
/-- The running total, point by point. -/
theorem left9 (n : ℕ) (hn : n < cfg0.N) : (outsAt0 m c n hn).2.1
    = (up .f32 fun _ l => ∑ s ∈ Finset.range (n + 1), blockN X Y G U Wg Wu Wd s l : FVec Ideal S1x1024 .f32) := by
  induction n with
  | zero =>
    refine (term9_first ⟨0, hn⟩ rfl).trans ((adds H ⟨0, hn⟩).trans (up_congr fun _ l => ?_))
    rw [Finset.sum_range_one]
  | succ n ih =>
    refine (term9_next ⟨n + 1, hn⟩ (Nat.succ_ne_zero n)).trans ?_
    refine (congrArg₂ (addf (s := S1x1024) (φ := .f32)) (ih (Nat.lt_of_succ_lt hn)) (adds H ⟨n + 1, hn⟩)).trans ?_
    rw [up_addf]
    exact up_congr fun _ l => (Finset.sum_range_succ _ _).symm

include H in
theorem flushed8 : (dats m 0 c).flushed 8 t = (win0_8.blk t).view.read (Elt Ideal) (up .f32 (resX X Y N G U Wg Wu Wd) : FVec Ideal S2048x1024 .f32) := by
  rw [Value.flushed8]
  exact (left8 H t).trans (up_of _ _ fun r l => rd8 t (up .f32 (resX X Y N G U Wg Wu Wd)) r l).symm
include H in
theorem flushed10 : (dats m 0 c).flushed 10 t = (win0_10.blk t).view.read (Elt Ideal) (up .bf16 (resA G U) : FVec Ideal S2048x2816 .bf16) := by
  rw [Value.flushed10]
  exact (left10 H t).trans (up_of _ _ fun r l => rd10 t (up .bf16 (resA G U)) r l).symm
include H in
theorem flushed11 : (dats m 0 c).flushed 11 t = (win0_11.blk t).view.read (Elt Ideal) (up .bf16 (resG Y G U Wd) : FVec Ideal S2048x2816 .bf16) := by
  rw [Value.flushed11]
  exact (left11 H t).trans (up_of _ _ fun r l => rd11 t (up .bf16 (resG Y G U Wd)) r l).symm
include H in
theorem flushed12 : (dats m 0 c).flushed 12 t = (win0_12.blk t).view.read (Elt Ideal) (up .bf16 (resU Y G Wd) : FVec Ideal S2048x2816 .bf16) := by
  rw [Value.flushed12]
  exact (left12 H t).trans (up_of _ _ fun r l => rd12 t (up .bf16 (resU Y G Wd)) r l).symm
include H in
theorem flushed13 : (dats m 0 c).flushed 13 t = (win0_13.blk t).view.read (Elt Ideal) (up .bf16 (resH X N) : FVec Ideal S2048x1024 .bf16) := by
  rw [Value.flushed13]
  exact (left13 H t).trans (up_of _ _ fun r l => rd13 t (up .bf16 (resH X N)) r l).symm
include H in
theorem flushed9 (h : t.val = 7) : (dats m 0 c).flushed 9 t = (win0_9.blk t).view.read (Elt Ideal) (up .f32 (resN X Y G U Wg Wu Wd) : FVec Ideal S1x1024 .f32) := by
  rw [Value.flushed9]
  refine (left9 H t.val t.isLt).trans (Eq.trans ?_ (up_of (φ := .f32) _ (resN X Y G U Wg Wu Wd) fun r l => rd9 t (up .f32 (resN X Y G U Wg Wu Wd) : FVec Ideal S1x1024 .f32) r l).symm)
  refine up_congr fun r l => ?_
  rw [h]
  exact blocks_all X Y G U Wg Wu Wd l

end

/-- The rows and columns of a block, and the block an index lies in. -/
theorem rows8 : ∀ t : Fin grid0.N, win0_8.index t 0 * win0_8.size 0 = 256 * t.val ∧ win0_8.xsize (grid0.coords t) 0 = 256
    ∧ win0_8.index t 1 * win0_8.size 1 = 0 ∧ win0_8.xsize (grid0.coords t) 1 = 1024 := by decide +kernel
theorem mem8 (t : Fin cfg0.N) (i : S2048x1024.Idx) (h0 : (i 0).val / 256 = t.val) : i ∈ ((cfg0.win 8).blk t).view.set := by
  show i ∈ ((View.whole main_v20_0).slice (win0_8.rect t)).set
  rw [View.set_slice_whole, Rect.mem_set_unit]
  obtain ⟨a0, b0, a1, b1⟩ := rows8 t
  have h1 : (i 1 : Nat) < 1024 := (i 1).isLt
  have h2 : (i 0 : Nat) < 2048 := (i 0).isLt
  intro a
  match a with
  | ⟨0, _⟩ =>
    show win0_8.index t 0 * win0_8.size 0 ≤ (i 0 : Nat) ∧ (i 0 : Nat) < win0_8.index t 0 * win0_8.size 0 + win0_8.xsize (grid0.coords t) 0
    rw [a0, b0]; omega
  | ⟨1, _⟩ =>
    show win0_8.index t 1 * win0_8.size 1 ≤ (i 1 : Nat) ∧ (i 1 : Nat) < win0_8.index t 1 * win0_8.size 1 + win0_8.xsize (grid0.coords t) 1
    rw [a1, b1]; omega
theorem rows10 : ∀ t : Fin grid0.N, win0_10.index t 0 * win0_10.size 0 = 256 * t.val ∧ win0_10.xsize (grid0.coords t) 0 = 256
    ∧ win0_10.index t 1 * win0_10.size 1 = 0 ∧ win0_10.xsize (grid0.coords t) 1 = 2816 := by decide +kernel
theorem mem10 (t : Fin cfg0.N) (i : S2048x2816.Idx) (h0 : (i 0).val / 256 = t.val) : i ∈ ((cfg0.win 10).blk t).view.set := by
  show i ∈ ((View.whole main_v20_2).slice (win0_10.rect t)).set
  rw [View.set_slice_whole, Rect.mem_set_unit]
  obtain ⟨a0, b0, a1, b1⟩ := rows10 t
  have h1 : (i 1 : Nat) < 2816 := (i 1).isLt
  have h2 : (i 0 : Nat) < 2048 := (i 0).isLt
  intro a
  match a with
  | ⟨0, _⟩ =>
    show win0_10.index t 0 * win0_10.size 0 ≤ (i 0 : Nat) ∧ (i 0 : Nat) < win0_10.index t 0 * win0_10.size 0 + win0_10.xsize (grid0.coords t) 0
    rw [a0, b0]; omega
  | ⟨1, _⟩ =>
    show win0_10.index t 1 * win0_10.size 1 ≤ (i 1 : Nat) ∧ (i 1 : Nat) < win0_10.index t 1 * win0_10.size 1 + win0_10.xsize (grid0.coords t) 1
    rw [a1, b1]; omega
theorem rows11 : ∀ t : Fin grid0.N, win0_11.index t 0 * win0_11.size 0 = 256 * t.val ∧ win0_11.xsize (grid0.coords t) 0 = 256
    ∧ win0_11.index t 1 * win0_11.size 1 = 0 ∧ win0_11.xsize (grid0.coords t) 1 = 2816 := by decide +kernel
theorem mem11 (t : Fin cfg0.N) (i : S2048x2816.Idx) (h0 : (i 0).val / 256 = t.val) : i ∈ ((cfg0.win 11).blk t).view.set := by
  show i ∈ ((View.whole main_v20_3).slice (win0_11.rect t)).set
  rw [View.set_slice_whole, Rect.mem_set_unit]
  obtain ⟨a0, b0, a1, b1⟩ := rows11 t
  have h1 : (i 1 : Nat) < 2816 := (i 1).isLt
  have h2 : (i 0 : Nat) < 2048 := (i 0).isLt
  intro a
  match a with
  | ⟨0, _⟩ =>
    show win0_11.index t 0 * win0_11.size 0 ≤ (i 0 : Nat) ∧ (i 0 : Nat) < win0_11.index t 0 * win0_11.size 0 + win0_11.xsize (grid0.coords t) 0
    rw [a0, b0]; omega
  | ⟨1, _⟩ =>
    show win0_11.index t 1 * win0_11.size 1 ≤ (i 1 : Nat) ∧ (i 1 : Nat) < win0_11.index t 1 * win0_11.size 1 + win0_11.xsize (grid0.coords t) 1
    rw [a1, b1]; omega
theorem rows12 : ∀ t : Fin grid0.N, win0_12.index t 0 * win0_12.size 0 = 256 * t.val ∧ win0_12.xsize (grid0.coords t) 0 = 256
    ∧ win0_12.index t 1 * win0_12.size 1 = 0 ∧ win0_12.xsize (grid0.coords t) 1 = 2816 := by decide +kernel
theorem mem12 (t : Fin cfg0.N) (i : S2048x2816.Idx) (h0 : (i 0).val / 256 = t.val) : i ∈ ((cfg0.win 12).blk t).view.set := by
  show i ∈ ((View.whole main_v20_4).slice (win0_12.rect t)).set
  rw [View.set_slice_whole, Rect.mem_set_unit]
  obtain ⟨a0, b0, a1, b1⟩ := rows12 t
  have h1 : (i 1 : Nat) < 2816 := (i 1).isLt
  have h2 : (i 0 : Nat) < 2048 := (i 0).isLt
  intro a
  match a with
  | ⟨0, _⟩ =>
    show win0_12.index t 0 * win0_12.size 0 ≤ (i 0 : Nat) ∧ (i 0 : Nat) < win0_12.index t 0 * win0_12.size 0 + win0_12.xsize (grid0.coords t) 0
    rw [a0, b0]; omega
  | ⟨1, _⟩ =>
    show win0_12.index t 1 * win0_12.size 1 ≤ (i 1 : Nat) ∧ (i 1 : Nat) < win0_12.index t 1 * win0_12.size 1 + win0_12.xsize (grid0.coords t) 1
    rw [a1, b1]; omega
theorem rows13 : ∀ t : Fin grid0.N, win0_13.index t 0 * win0_13.size 0 = 256 * t.val ∧ win0_13.xsize (grid0.coords t) 0 = 256
    ∧ win0_13.index t 1 * win0_13.size 1 = 0 ∧ win0_13.xsize (grid0.coords t) 1 = 1024 := by decide +kernel
theorem mem13 (t : Fin cfg0.N) (i : S2048x1024.Idx) (h0 : (i 0).val / 256 = t.val) : i ∈ ((cfg0.win 13).blk t).view.set := by
  show i ∈ ((View.whole main_v20_5).slice (win0_13.rect t)).set
  rw [View.set_slice_whole, Rect.mem_set_unit]
  obtain ⟨a0, b0, a1, b1⟩ := rows13 t
  have h1 : (i 1 : Nat) < 1024 := (i 1).isLt
  have h2 : (i 0 : Nat) < 2048 := (i 0).isLt
  intro a
  match a with
  | ⟨0, _⟩ =>
    show win0_13.index t 0 * win0_13.size 0 ≤ (i 0 : Nat) ∧ (i 0 : Nat) < win0_13.index t 0 * win0_13.size 0 + win0_13.xsize (grid0.coords t) 0
    rw [a0, b0]; omega
  | ⟨1, _⟩ =>
    show win0_13.index t 1 * win0_13.size 1 ≤ (i 1 : Nat) ∧ (i 1 : Nat) < win0_13.index t 1 * win0_13.size 1 + win0_13.xsize (grid0.coords t) 1
    rw [a1, b1]; omega
theorem rows9 : ∀ t : Fin grid0.N, win0_9.index t 0 * win0_9.size 0 = 0 ∧ win0_9.xsize (grid0.coords t) 0 = 1
    ∧ win0_9.index t 1 * win0_9.size 1 = 0 ∧ win0_9.xsize (grid0.coords t) 1 = 1024 := by decide +kernel
theorem mem9 (t : Fin cfg0.N) (i : S1x1024.Idx) : i ∈ ((cfg0.win 9).blk t).view.set := by
  show i ∈ ((View.whole main_v20_1).slice (win0_9.rect t)).set
  rw [View.set_slice_whole, Rect.mem_set_unit]
  obtain ⟨a0, b0, a1, b1⟩ := rows9 t
  have h1 : (i 1 : Nat) < 1024 := (i 1).isLt
  have h2 : (i 0 : Nat) < 1 := (i 0).isLt
  intro a
  match a with
  | ⟨0, _⟩ =>
    show win0_9.index t 0 * win0_9.size 0 ≤ (i 0 : Nat) ∧ (i 0 : Nat) < win0_9.index t 0 * win0_9.size 0 + win0_9.xsize (grid0.coords t) 0
    rw [a0, b0]; omega
  | ⟨1, _⟩ =>
    show win0_9.index t 1 * win0_9.size 1 ≤ (i 1 : Nat) ∧ (i 1 : Nat) < win0_9.index t 1 * win0_9.size 1 + win0_9.xsize (grid0.coords t) 1
    rw [a1, b1]; omega

section
variable {m : (ℓ : Loc nD τ sig) → Buf (Elt Ideal) ℓ} {c : Dev nD}
variable {X Y : Fin 2048 → Fin 1024 → ℝ} {N : Fin 1 → Fin 1024 → ℝ} {G U : Fin 2048 → Fin 2816 → ℝ} {Wg Wu Wd : Fin 2816 → Fin 1024 → ℝ}
variable (H : Given m c X Y N G U Wg Wu Wd)
include H
/-- The blocks tile each array, so the arrays end at the results. -/
theorem final8 : (dats m 0 c).arrAt 8 cfg0.N = (up .f32 (resX X Y N G U Wg Wu Wd) : FVec Ideal S2048x1024 .f32) :=
  (dats m 0 c).arrAt_eq_of_cover 8 _ (fun t _ => flushed8 H t) fun i => by
    have h0 : (i 0 : Nat) < 2048 := (i 0).isLt
    have ht : (i 0).val / 256 < cfg0.N := by show _ < 8; omega
    exact ⟨⟨_, ht⟩, flush0_8 _, mem8 _ i rfl⟩
theorem final10 : (dats m 0 c).arrAt 10 cfg0.N = (up .bf16 (resA G U) : FVec Ideal S2048x2816 .bf16) :=
  (dats m 0 c).arrAt_eq_of_cover 10 _ (fun t _ => flushed10 H t) fun i => by
    have h0 : (i 0 : Nat) < 2048 := (i 0).isLt
    have ht : (i 0).val / 256 < cfg0.N := by show _ < 8; omega
    exact ⟨⟨_, ht⟩, flush0_10 _, mem10 _ i rfl⟩
theorem final11 : (dats m 0 c).arrAt 11 cfg0.N = (up .bf16 (resG Y G U Wd) : FVec Ideal S2048x2816 .bf16) :=
  (dats m 0 c).arrAt_eq_of_cover 11 _ (fun t _ => flushed11 H t) fun i => by
    have h0 : (i 0 : Nat) < 2048 := (i 0).isLt
    have ht : (i 0).val / 256 < cfg0.N := by show _ < 8; omega
    exact ⟨⟨_, ht⟩, flush0_11 _, mem11 _ i rfl⟩
theorem final12 : (dats m 0 c).arrAt 12 cfg0.N = (up .bf16 (resU Y G Wd) : FVec Ideal S2048x2816 .bf16) :=
  (dats m 0 c).arrAt_eq_of_cover 12 _ (fun t _ => flushed12 H t) fun i => by
    have h0 : (i 0 : Nat) < 2048 := (i 0).isLt
    have ht : (i 0).val / 256 < cfg0.N := by show _ < 8; omega
    exact ⟨⟨_, ht⟩, flush0_12 _, mem12 _ i rfl⟩
theorem final13 : (dats m 0 c).arrAt 13 cfg0.N = (up .bf16 (resH X N) : FVec Ideal S2048x1024 .bf16) :=
  (dats m 0 c).arrAt_eq_of_cover 13 _ (fun t _ => flushed13 H t) fun i => by
    have h0 : (i 0 : Nat) < 2048 := (i 0).isLt
    have ht : (i 0).val / 256 < cfg0.N := by show _ < 8; omega
    exact ⟨⟨_, ht⟩, flush0_13 _, mem13 _ i rfl⟩
theorem final9 : (dats m 0 c).arrAt 9 cfg0.N = (up .f32 (resN X Y G U Wg Wu Wd) : FVec Ideal S1x1024 .f32) :=
  (dats m 0 c).arrAt_eq_of_cover 9 _ (fun t ht => flushed9 H t (by have := (flush0_9 t).mp ht; have := lt8 t; omega)) fun i =>
    ⟨⟨7, by decide⟩, (flush0_9 _).mpr rfl, mem9 _ i⟩
end

end Cert.MixerIdeal.M
-- ==== Proof.MixerHost.lean ====
module

public import proofs.«01_k».proof.Proof.MixerUp
public import Idealize.ShloMosaic.Lib.Pointwise.Index

@[expose] public section

/-! The host's operations on arrays of reals, at the shapes the channel mixer takes. -/
set_option maxRecDepth 16384

noncomputable section
namespace Cert.MixerIdeal.H
open Idealize.ShloMosaic
open Cert.KernelIdeal.SB Cert.MixerIdeal.M

abbrev R1 : Shape := ⟨1, ![2048]⟩
abbrev C1 : Shape := ⟨1, ![1024]⟩
abbrev P0 : Shape := ⟨0, ![]⟩
abbrev Tok : Shape := ⟨2, ![2048, 1024]⟩
abbrev Col : Shape := ⟨2, ![2048, 1]⟩
abbrev Row : Shape := ⟨2, ![1, 1024]⟩

section
variable {m n : ℕ} (A B : Fin m → Fin n → ℝ)
theorem up_hexp : Host.exp (up .f32 A) = up .f32 fun r c => Real.exp (A r c) := rfl
theorem up_hneg : Host.negf (up .f32 A) = up .f32 fun r c => -A r c := rfl
theorem up_hdiv (h : ∀ r c, B r c ≠ 0) : Host.divf (up .f32 A) (up .f32 B) = up .f32 fun r c => A r c / B r c := by
  funext j; exact div_coe _ _ (h _ _)
theorem up_hrsqrt (h : ∀ r c, 0 < A r c) : Host.rsqrt (up .f32 A) = up .f32 fun r c => (√(A r c))⁻¹ := by
  funext j; exact rsqrt_coe _ (h _ _)
theorem up_h1024 : Host.divf (up .f32 A) (up .f32 fun _ _ => 1024) = up .f32 fun r c => A r c / 1024 :=
  up_hdiv A _ fun _ _ => by norm_num
/-- The logistic function as the host spells it. -/
theorem up_hsg : Host.divf (up .f32 fun _ _ => 1) (up .f32 fun r c => 1 + Real.exp (-A r c)) = up .f32 fun r c => sg (A r c) :=
  up_hdiv _ _ fun r c => (one_add_exp (-A r c)).ne'

theorem bits_half : Ideal.ofBits .f32 0xBF000000#32 = ((-(1 / 2) : ℝ) : EReal) := by
  simp [Ideal.ofBits, Ideal.ieee, -EReal.coe_mul]; norm_num
theorem up_c0 (h) : broadcastInDim (⟨2, ![m, n]⟩ : Shape) ![] h (constant P0 .f32 0x00000000#32 : FVec Ideal P0 .f32) = up .f32 fun _ _ => 0 := by
  funext j; exact Ideal.ofBits_zero_f32
theorem up_c1 (h) : broadcastInDim (⟨2, ![m, n]⟩ : Shape) ![] h (constant P0 .f32 0x3F800000#32 : FVec Ideal P0 .f32) = up .f32 fun _ _ => 1 := by
  funext j; exact congrFun (up_bone (m := m) (n := n)) j
theorem up_c1024 (h) : broadcastInDim (⟨2, ![m, n]⟩ : Shape) ![] h (constant P0 .f32 0x44800000#32 : FVec Ideal P0 .f32) = up .f32 fun _ _ => 1024 := by
  funext j; exact bits_1024
theorem up_ceps (h) : broadcastInDim (⟨2, ![m, n]⟩ : Shape) ![] h (constant P0 .f32 0x358637BD#32 : FVec Ideal P0 .f32) = up .f32 fun _ _ => eps := by
  funext j; exact bits_eps
theorem up_chalf (h) : broadcastInDim (⟨2, ![m, n]⟩ : Shape) ![] h (constant P0 .f32 0xBF000000#32 : FVec Ideal P0 .f32) = up .f32 fun _ _ => -(1 / 2) := by
  funext j; exact bits_half
end

section
variable (X : Fin 2048 → Fin 1024 → ℝ)
theorem up_hrows (h₁ h₂ h₃) : broadcastInDim Col ![0] h₁ (Host.reduceAdd (axes := [1]) (up .f32 X : FVec Ideal Tok .f32) (constant P0 .f32 0x00000000#32) h₂ h₃ : FVec Ideal R1 .f32)
    = up .f32 fun r _ => ∑ k, X r k := by
  funext j; idx_vars j; pointwise; simp only [up_at, coe_sum]
theorem up_hrows' (h₁ h₂ h₃) : shapeCast Col (Host.reduceAdd (axes := [1]) (up .f32 X : FVec Ideal Tok .f32) (constant P0 .f32 0x00000000#32) h₂ h₃ : FVec Ideal R1 .f32) h₁
    = up .f32 fun r _ => ∑ k, X r k := by
  funext j; idx_vars j; pointwise; simp only [up_at, coe_sum]
theorem up_hcols (h₁ h₂ h₃) : shapeCast Row (Host.reduceAdd (axes := [0]) (up .f32 X : FVec Ideal Tok .f32) (constant P0 .f32 0x00000000#32) h₂ h₃ : FVec Ideal C1 .f32) h₁
    = up .f32 fun _ l => ∑ r, X r l := by
  funext j; idx_vars j; pointwise; simp only [up_at, coe_sum]
theorem up_hone (A : Fin 2048 → Fin 1 → ℝ) (h₁ h₂ h₃) :
    broadcastInDim Tok ![0] h₁ (Host.reduceAdd (axes := [1]) (up .f32 A : FVec Ideal Col .f32) (constant P0 .f32 0x00000000#32) h₂ h₃ : FVec Ideal R1 .f32)
    = up .f32 fun r _ => A r 0 := by
  funext j; idx_vars j; pointwise; simp only [up_at, Finset.univ_unique, Finset.sum_singleton]; rfl
theorem up_hcol (A : Fin 2048 → Fin 1 → ℝ) (h) : broadcastInDim Tok ![0, 1] h (up .f32 A : FVec Ideal Col .f32) = up .f32 fun r _ => A r 0 := by
  funext j; idx_vars j; pointwise; simp only [up_at]
theorem up_hrow (A : Fin 1 → Fin 1024 → ℝ) (h) : broadcastInDim Tok ![0, 1] h (up .f32 A : FVec Ideal Row .f32) = up .f32 fun _ l => A 0 l := by
  funext j; idx_vars j; pointwise; simp only [up_at]

/-- The scale of each row, from its mean square; and the scale over the mean square. -/
theorem up_hsc : Host.rsqrt (up .f32 fun r (_ : Fin 1) => (∑ k, X r k * X r k) / 1024 + eps) = up .f32 fun r _ => sc (X r) :=
  up_hrsqrt _ fun r _ => ms_pos (X r)
theorem up_hscdiv : Host.divf (up .f32 fun r (_ : Fin 1) => sc (X r)) (up .f32 fun r (_ : Fin 1) => (∑ k, X r k * X r k) / 1024 + eps)
    = up .f32 fun r _ => sc (X r) / (ms (X r) + eps) :=
  up_hdiv _ _ fun r _ => (ms_pos (X r)).ne'
theorem up_hh (N : Fin 1 → Fin 1024 → ℝ) : (up .f32 fun r l => X r l * sc (X r) * N 0 l : FVec Ideal Tok .f32) = up .f32 fun r l => hh (X r) (N 0) l := rfl
end

end Cert.MixerIdeal.H
-- ==== Proof.MixerSaved.lean ====
module

public import proofs.«01_k».proof.Proof.MixerArrays
public import proofs.«01_k».proof.Proof.MixerHost

@[expose] public section

/-! The gate's and the up projection's rows, which the host computes before the channel mixer's kernel runs. -/
set_option maxRecDepth 16384

noncomputable section
namespace Cert.MixerIdeal.F
open Idealize.ShloMosaic Cert.MixerIdeal Cert.MixerIdeal.Gen
open Cert.KernelIdeal.SB Cert.MixerIdeal.M Cert.MixerIdeal.H

/-- The host's operations, on arrays of reals. -/
theorem r_c1024 : broadcastInDim (α := Elt Ideal .f32) S2048x1 ![] bcast_S_S2048x1 (constant S_ .f32 0x44800000#32 : FVec Ideal S_ .f32) = up .f32 fun _ _ => 1024 := up_c1024 _
theorem r_ceps : broadcastInDim (α := Elt Ideal .f32) S2048x1 ![] bcast_S_S2048x1 (constant S_ .f32 0x358637BD#32 : FVec Ideal S_ .f32) = up .f32 fun _ _ => eps := up_ceps _
theorem r_rows (X : Fin 2048 → Fin 1024 → ℝ) : broadcastInDim (α := Elt Ideal .f32) S2048x1 ![0] bcast_S2048_S2048x1_0
    (Host.reduceAdd (up .f32 X : FVec Ideal S2048x1024 .f32) (constant S_ .f32 0x00000000#32) reducesTo_S2048x1024_S2048_d1 h_S_)
    = up .f32 fun r _ => ∑ k, X r k := up_hrows ..
theorem r_col (A : Fin 2048 → Fin 1 → ℝ) : broadcastInDim (α := Elt Ideal .f32) S2048x1024 ![0, 1] bcast_S2048x1_S2048x1024_0_1 (up .f32 A : FVec Ideal S2048x1 .f32)
    = up .f32 fun r _ => A r 0 := up_hcol ..
theorem r_row (A : Fin 1 → Fin 1024 → ℝ) : broadcastInDim (α := Elt Ideal .f32) S2048x1024 ![0, 1] bcast_S1x1024_S2048x1024_0_1 (up .f32 A : FVec Ideal S1x1024 .f32)
    = up .f32 fun _ l => A 0 l := up_hrow ..
theorem r_fwd (A : Fin 2048 → Fin 1024 → ℝ) (W : Fin 2816 → Fin 1024 → ℝ) :
    Host.dotGeneral dot_S2048x1024_S1024x2816_S2048x2816_1_0_0_1_n_n none (up .f32 A : FVec Ideal S2048x1024 .f32)
    (transpose S1024x2816 [1, 0] (up .f32 W : FVec Ideal S2816x1024 .f32) transposes_S2816x1024_S1024x2816_1_0) = up .f32 fun r f => proj (A r) W f := by
  funext j; idx_vars j; pointwise; simp only [up_at, coe_sum_mul]; rfl

section
variable (m : (ℓ : Loc nD τ sig) → Buf (Elt Ideal) ℓ) (c : Dev nD)
variable (X : Fin 2048 → Fin 1024 → ℝ) (N : Fin 1 → Fin 1024 → ℝ) (W : Fin 2816 → Fin 1024 → ℝ)
/-- The rows of one projection: the normalized tokens against the rows of a weight. -/
abbrev gate (r : Fin 2048) (f : Fin 2816) : ℝ := proj (fun l => hh (X r) (N 0) l) W f
variable (hx : m ((c.tc : Thread nD τ).loc main_arg0) = (up .f32 X : FVec Ideal S2048x1024 .f32))
  (hn : m ((c.tc : Thread nD τ).loc main_arg1) = (up .f32 N : FVec Ideal S1x1024 .f32))
include hx hn
theorem val_g (hw : m ((c.tc : Thread nD τ).loc main_arg2) = (up .bf16 W : FVec Ideal S2816x1024 .bf16)) :
    (V m c main_v18 : FVec Ideal S2048x2816 .bf16) = up .bf16 (gate X N W) := by
  unfold V hostOps0
  after_results_simp
  simp only [hx, hn, hw, up_extf, up_mulf]
  rw [r_c1024, r_ceps, r_rows, up_h1024, up_addf, up_hsc, r_col, r_row]
  simp only [up_mulf, up_hh]
  rw [r_fwd, up_truncf]
theorem val_u (hw : m ((c.tc : Thread nD τ).loc main_arg3) = (up .bf16 W : FVec Ideal S2816x1024 .bf16)) :
    (V m c main_v19 : FVec Ideal S2048x2816 .bf16) = up .bf16 (gate X N W) := by
  unfold V hostOps0
  after_results_simp
  simp only [hx, hn, hw, up_extf, up_mulf]
  rw [r_c1024, r_ceps, r_rows, up_h1024, up_addf, up_hsc, r_col, r_row]
  simp only [up_mulf, up_hh]
  rw [r_fwd, up_truncf]
end

end Cert.MixerIdeal.F
-- ==== Proof.MixerRef.lean ====
module

public import proofs.«01_k».proof.Proof.MixerArrays
public import proofs.«01_k».proof.Proof.MixerHost
public import proofs.«01_k».proof.Proof.Gen.MixerReferenceIdeal.Run

@[expose] public section

/-! What the channel mixer's reference computes, when its arguments hold reals: the same rows as the kernel. -/
set_option maxRecDepth 16384

noncomputable section
namespace Cert.MixerReferenceIdeal.W
open Idealize.ShloMosaic Cert.MixerReferenceIdeal Cert.MixerReferenceIdeal.Gen
open Cert.KernelIdeal.SB Cert.MixerIdeal.M Cert.MixerIdeal.H

/-- The operations of the reference, on arrays of reals. -/
theorem r_c1024 : broadcastInDim (α := Elt Ideal .f32) S2048x1 ![] bcast_S_S2048x1 (constant S_ .f32 0x44800000#32 : FVec Ideal S_ .f32) = up .f32 fun _ _ => 1024 := up_c1024 _
theorem r_ceps : broadcastInDim (α := Elt Ideal .f32) S2048x1 ![] bcast_S_S2048x1 (constant S_ .f32 0x358637BD#32 : FVec Ideal S_ .f32) = up .f32 fun _ _ => eps := up_ceps _
theorem r_rows (X : Fin 2048 → Fin 1024 → ℝ) : broadcastInDim (α := Elt Ideal .f32) S2048x1 ![0] bcast_S2048_S2048x1_0
    (Host.reduceAdd (up .f32 X : FVec Ideal S2048x1024 .f32) (constant S_ .f32 0x00000000#32) reducesTo_S2048x1024_S2048_d1 h_S_)
    = up .f32 fun r _ => ∑ k, X r k := up_hrows ..
theorem r_col (A : Fin 2048 → Fin 1 → ℝ) : broadcastInDim (α := Elt Ideal .f32) S2048x1024 ![0, 1] bcast_S2048x1_S2048x1024_0_1 (up .f32 A : FVec Ideal S2048x1 .f32)
    = up .f32 fun r _ => A r 0 := up_hcol ..
theorem r_row (A : Fin 1 → Fin 1024 → ℝ) : broadcastInDim (α := Elt Ideal .f32) S2048x1024 ![0, 1] bcast_S1x1024_S2048x1024_0_1 (up .f32 A : FVec Ideal S1x1024 .f32)
    = up .f32 fun _ l => A 0 l := up_hrow ..
theorem r_fwd (A : Fin 2048 → Fin 1024 → ℝ) (W : Fin 2816 → Fin 1024 → ℝ) :
    Host.dotGeneral dot_S2048x1024_S1024x2816_S2048x2816_1_0_0_1_n_n none (up .f32 A : FVec Ideal S2048x1024 .f32)
    (transpose S1024x2816 [1, 0] (up .f32 W : FVec Ideal S2816x1024 .f32) transposes_S2816x1024_S1024x2816_1_0) = up .f32 fun r f => proj (A r) W f := by
  funext j; idx_vars j; pointwise; simp only [up_at, coe_sum_mul]; rfl
theorem r_c0 : broadcastInDim (α := Elt Ideal .f32) S2048x2816 ![] bcast_S_S2048x2816 (constant S_ .f32 0x00000000#32 : FVec Ideal S_ .f32) = up .f32 fun _ _ => 0 := up_c0 _
theorem r_c1 : broadcastInDim (α := Elt Ideal .f32) S2048x2816 ![] bcast_S_S2048x2816 (constant S_ .f32 0x3F800000#32 : FVec Ideal S_ .f32) = up .f32 fun _ _ => 1 := up_c1 _
theorem r_chalf : broadcastInDim (α := Elt Ideal .f32) S2048x1 ![] bcast_S_S2048x1 (constant S_ .f32 0xBF000000#32 : FVec Ideal S_ .f32) = up .f32 fun _ _ => -(1 / 2) := up_chalf _
theorem r_rows' (X : Fin 2048 → Fin 1024 → ℝ) : shapeCast (α := Elt Ideal .f32) S2048x1
    (Host.reduceAdd (up .f32 X : FVec Ideal S2048x1024 .f32) (constant S_ .f32 0x00000000#32) reducesTo_S2048x1024_S2048_d1 h_S_) shapeCasts_S2048_S2048x1
    = up .f32 fun r _ => ∑ k, X r k := up_hrows' ..
theorem r_cols (X : Fin 2048 → Fin 1024 → ℝ) : shapeCast (α := Elt Ideal .f32) S1x1024
    (Host.reduceAdd (up .f32 X : FVec Ideal S2048x1024 .f32) (constant S_ .f32 0x00000000#32) reducesTo_S2048x1024_S1024_d0 h_S_) shapeCasts_S1024_S1x1024
    = up .f32 fun _ l => ∑ r, X r l := up_hcols ..
theorem r_one (A : Fin 2048 → Fin 1 → ℝ) : broadcastInDim (α := Elt Ideal .f32) S2048x1024 ![0] bcast_S2048_S2048x1024_0
    (Host.reduceAdd (up .f32 A : FVec Ideal S2048x1 .f32) (constant S_ .f32 0x00000000#32) reducesTo_S2048x1_S2048_d1 h_S_)
    = up .f32 fun r _ => A r 0 := up_hone ..
theorem r_dn (A : Fin 2048 → Fin 1024 → ℝ) (W : Fin 2816 → Fin 1024 → ℝ) :
    Host.dotGeneral dot_S2048x1024_S2816x1024_S2048x2816_1_1_0_0_n_n none (up .f32 A : FVec Ideal S2048x1024 .f32)
    (up .f32 W : FVec Ideal S2816x1024 .f32) = up .f32 fun r f => proj (A r) W f := by
  funext j; idx_vars j; pointwise; simp only [up_at, coe_sum_mul]; rfl
theorem r_bwd (D : Fin 2048 → Fin 2816 → ℝ) (W : Fin 2816 → Fin 1024 → ℝ) :
    Host.dotGeneral dot_S2048x2816_S1024x2816_S2048x1024_1_1_0_0_n_n none (up .f32 D : FVec Ideal S2048x2816 .f32)
    (transpose S1024x2816 [1, 0] (up .f32 W : FVec Ideal S2816x1024 .f32) transposes_S2816x1024_S1024x2816_1_0) = up .f32 fun r l => ∑ f, D r f * W f l := by
  funext j; idx_vars j; pointwise; simp only [up_at, coe_sum_mul]

/-- The order of two factors, and of two sums. -/
theorem act_flip (g d : Fin 2816 → ℝ) (f : Fin 2816) : g f * sg (g f) * d f = dup d g f := mul_comm _ _
theorem dh_flip (a b : Fin 2816 → ℝ) (wg wu : Fin 2816 → Fin 1024 → ℝ) (l : Fin 1024) :
    ∑ f, b f * wu f l + ∑ f, a f * wg f l = dh a b wg wu l := add_comm _ _

section
variable (m : (ℓ : Loc nD τ sig) → Buf (Elt Ideal) ℓ) (c : Dev nD)
variable (X Y : Fin 2048 → Fin 1024 → ℝ) (N : Fin 1 → Fin 1024 → ℝ) (Wg Wu Wd : Fin 2816 → Fin 1024 → ℝ)
/-- The arguments as arrays of reals. -/
structure Args : Prop where
  x : m ((c.tc : Thread nD τ).loc main_arg0) = (up .f32 X : FVec Ideal S2048x1024 .f32)
  n : m ((c.tc : Thread nD τ).loc main_arg1) = (up .f32 N : FVec Ideal S1x1024 .f32)
  wg : m ((c.tc : Thread nD τ).loc main_arg2) = (up .bf16 Wg : FVec Ideal S2816x1024 .bf16)
  wu : m ((c.tc : Thread nD τ).loc main_arg3) = (up .bf16 Wu : FVec Ideal S2816x1024 .bf16)
  wd : m ((c.tc : Thread nD τ).loc main_arg4) = (up .bf16 Wd : FVec Ideal S2816x1024 .bf16)
  y : m ((c.tc : Thread nD τ).loc main_arg5) = (up .f32 Y : FVec Ideal S2048x1024 .f32)
end

/-- The gate's and the up projection's rows. -/
abbrev gate (X : Fin 2048 → Fin 1024 → ℝ) (N : Fin 1 → Fin 1024 → ℝ) (W : Fin 2816 → Fin 1024 → ℝ) (r : Fin 2048) (f : Fin 2816) : ℝ :=
  proj (fun l => hh (X r) (N 0) l) W f

section
variable {m : (ℓ : Loc nD τ sig) → Buf (Elt Ideal) ℓ} {c : Dev nD}
variable {X Y : Fin 2048 → Fin 1024 → ℝ} {N : Fin 1 → Fin 1024 → ℝ} {Wg Wu Wd : Fin 2816 → Fin 1024 → ℝ} (H : Args m c X Y N Wg Wu Wd)
include H
theorem ref_g : Value.res_main_v58 m c = (up .bf16 (resG Y (gate X N Wg) (gate X N Wu) Wd) : FVec Ideal S2048x2816 .bf16) := by
  unfold Value.res_main_v58
  simp only [H.x, H.n, H.wg, H.wu, H.wd, H.y, up_extf, up_cast, up_mulf, r_dn]
  rw [r_c1024, r_ceps, r_rows, up_h1024, up_addf, up_hsc, r_col, r_row, r_c0, r_c1]
  simp only [up_mulf, up_hh]
  rw [r_fwd _ Wg, r_fwd _ Wu]
  simp only [up_addf, add_zero, up_hneg, up_hexp, up_hsg, up_mulf, up_subf, dgate_eq]
  rw [up_truncf]
  rfl
theorem ref_n : Value.res_main_v39 m c = (up .f32 (resN X Y (gate X N Wg) (gate X N Wu) Wg Wu Wd) : FVec Ideal S1x1024 .f32) := by
  unfold Value.res_main_v39
  simp only [H.x, H.n, H.wg, H.wu, H.wd, H.y, up_extf, up_cast, up_mulf, r_dn]
  rw [r_c1024, r_ceps, r_rows, up_h1024, up_addf, up_hsc, r_col, r_row, r_c0, r_c1]
  simp only [up_mulf, up_hh]
  rw [r_fwd _ Wg, r_fwd _ Wu]
  simp only [up_addf, add_zero, up_hneg, up_hexp, up_hsg, up_mulf, up_subf, dgate_eq]
  rw [r_bwd _ Wg, r_bwd _ Wu]
  simp only [up_addf, up_mulf, act_flip, dh_flip]
  refine (r_cols _).trans ?_
  exact up_congr fun _ l => Finset.sum_congr rfl fun r _ => mul_comm _ _
theorem ref_x : Value.res_main_v56 m c = (up .f32 (resX X Y N (gate X N Wg) (gate X N Wu) Wg Wu Wd) : FVec Ideal S2048x1024 .f32) := by
  unfold Value.res_main_v56
  simp only [H.x, H.n, H.wg, H.wu, H.wd, H.y, up_extf, up_cast, up_mulf, r_dn]
  rw [r_c1024, r_ceps, r_rows, up_h1024, up_addf, up_hsc, r_col, r_row, r_c0, r_c1]
  simp only [up_mulf, up_hh]
  rw [r_fwd _ Wg, r_fwd _ Wu]
  simp only [up_addf, add_zero, up_hneg, up_hexp, up_hsg, up_mulf, up_subf, dgate_eq]
  rw [r_bwd _ Wg, r_bwd _ Wu, r_chalf, up_hscdiv]
  simp only [up_addf, up_mulf, act_flip, dh_flip]
  rw [r_rows']
  simp only [up_mulf, up_h1024]
  rw [r_one]
  simp only [up_addf, up_mulf]
  exact up_congr fun r l => dx_eq (Y r) (X r) (fun l => back (Y r) (gate X N Wg r) (gate X N Wu r) Wg Wu Wd l * N 0 l) l _ rfl
theorem ref_a : (truncf .bf16 (mulf (mulf (addf (Host.dotGeneral dot_S2048x1024_S1024x2816_S2048x2816_1_0_0_1_n_n none (mulf (mulf (m ((c.tc : Thread nD τ).loc main_arg0)) (broadcastInDim S2048x1024 ![0, 1] bcast_S2048x1_S2048x1024_0_1 (Host.rsqrt (addf (Host.divf (broadcastInDim S2048x1 ![0] bcast_S2048_S2048x1_0 (Host.reduceAdd (mulf (m ((c.tc : Thread nD τ).loc main_arg0)) (m ((c.tc : Thread nD τ).loc main_arg0))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (m ((c.tc : Thread nD τ).loc main_arg1)))) (transpose S1024x2816 [1, 0] (extf .f32 (m ((c.tc : Thread nD τ).loc main_arg2)) bitsLt_bf16_f32) transposes_S2816x1024_S1024x2816_1_0)) (broadcastInDim S2048x2816 ![] bcast_S_S2048x2816 (constant S_ .f32 0x00000000#32))) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (addf (Host.dotGeneral dot_S2048x1024_S1024x2816_S2048x2816_1_0_0_1_n_n none (mulf (mulf (m ((c.tc : Thread nD τ).loc main_arg0)) (broadcastInDim S2048x1024 ![0, 1] bcast_S2048x1_S2048x1024_0_1 (Host.rsqrt (addf (Host.divf (broadcastInDim S2048x1 ![0] bcast_S2048_S2048x1_0 (Host.reduceAdd (mulf (m ((c.tc : Thread nD τ).loc main_arg0)) (m ((c.tc : Thread nD τ).loc main_arg0))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (m ((c.tc : Thread nD τ).loc main_arg1)))) (transpose S1024x2816 [1, 0] (extf .f32 (m ((c.tc : Thread nD τ).loc main_arg2)) bitsLt_bf16_f32) transposes_S2816x1024_S1024x2816_1_0)) (broadcastInDim S2048x2816 ![] bcast_S_S2048x2816 (constant S_ .f32 0x00000000#32)))))))) (addf (Host.dotGeneral dot_S2048x1024_S1024x2816_S2048x2816_1_0_0_1_n_n none (mulf (mulf (m ((c.tc : Thread nD τ).loc main_arg0)) (broadcastInDim S2048x1024 ![0, 1] bcast_S2048x1_S2048x1024_0_1 (Host.rsqrt (addf (Host.divf (broadcastInDim S2048x1 ![0] bcast_S2048_S2048x1_0 (Host.reduceAdd (mulf (m ((c.tc : Thread nD τ).loc main_arg0)) (m ((c.tc : Thread nD τ).loc main_arg0))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (m ((c.tc : Thread nD τ).loc main_arg1)))) (transpose S1024x2816 [1, 0] (extf .f32 (m ((c.tc : Thread nD τ).loc main_arg3)) bitsLt_bf16_f32) transposes_S2816x1024_S1024x2816_1_0)) (broadcastInDim S2048x2816 ![] bcast_S_S2048x2816 (constant S_ .f32 0x00000000#32)))) bitsLt_bf16_f32 : FVec Ideal S2048x2816 .bf16)
    = (up .bf16 (resA (gate X N Wg) (gate X N Wu)) : FVec Ideal S2048x2816 .bf16) := by
  simp only [H.x, H.n, H.wg, H.wu, up_extf, up_cast, up_mulf]
  rw [r_c1024, r_ceps, r_rows, up_h1024, up_addf, up_hsc, r_col, r_row, r_c0, r_c1]
  simp only [up_mulf, up_hh]
  rw [r_fwd _ Wg, r_fwd _ Wu]
  simp only [up_addf, add_zero, up_hneg, up_hexp, up_hsg, up_mulf]
  rw [up_truncf]
  rfl
theorem ref_u : (truncf .bf16 (mulf (mulf (addf (Host.dotGeneral dot_S2048x1024_S1024x2816_S2048x2816_1_0_0_1_n_n none (mulf (mulf (m ((c.tc : Thread nD τ).loc main_arg0)) (broadcastInDim S2048x1024 ![0, 1] bcast_S2048x1_S2048x1024_0_1 (Host.rsqrt (addf (Host.divf (broadcastInDim S2048x1 ![0] bcast_S2048_S2048x1_0 (Host.reduceAdd (mulf (m ((c.tc : Thread nD τ).loc main_arg0)) (m ((c.tc : Thread nD τ).loc main_arg0))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (m ((c.tc : Thread nD τ).loc main_arg1)))) (transpose S1024x2816 [1, 0] (extf .f32 (m ((c.tc : Thread nD τ).loc main_arg2)) bitsLt_bf16_f32) transposes_S2816x1024_S1024x2816_1_0)) (broadcastInDim S2048x2816 ![] bcast_S_S2048x2816 (constant S_ .f32 0x00000000#32))) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (addf (Host.dotGeneral dot_S2048x1024_S1024x2816_S2048x2816_1_0_0_1_n_n none (mulf (mulf (m ((c.tc : Thread nD τ).loc main_arg0)) (broadcastInDim S2048x1024 ![0, 1] bcast_S2048x1_S2048x1024_0_1 (Host.rsqrt (addf (Host.divf (broadcastInDim S2048x1 ![0] bcast_S2048_S2048x1_0 (Host.reduceAdd (mulf (m ((c.tc : Thread nD τ).loc main_arg0)) (m ((c.tc : Thread nD τ).loc main_arg0))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (m ((c.tc : Thread nD τ).loc main_arg1)))) (transpose S1024x2816 [1, 0] (extf .f32 (m ((c.tc : Thread nD τ).loc main_arg2)) bitsLt_bf16_f32) transposes_S2816x1024_S1024x2816_1_0)) (broadcastInDim S2048x2816 ![] bcast_S_S2048x2816 (constant S_ .f32 0x00000000#32)))))))) (Host.dotGeneral (φ₁ := .f32) dot_S2048x1024_S2816x1024_S2048x2816_1_1_0_0_n_n none (shapeCast (α := Elt Ideal .f32) S2048x1024 (m ((c.tc : Thread nD τ).loc main_arg5)) shapeCasts_S2048x1024_S2048x1024 : FVec Ideal S2048x1024 .f32) (extf .f32 (m ((c.tc : Thread nD τ).loc main_arg4)) bitsLt_bf16_f32))) bitsLt_bf16_f32 : FVec Ideal S2048x2816 .bf16)
    = (up .bf16 (resU Y (gate X N Wg) Wd) : FVec Ideal S2048x2816 .bf16) := by
  simp only [H.x, H.n, H.wg, H.wd, H.y, up_extf, up_cast, up_mulf, r_dn]
  rw [r_c1024, r_ceps, r_rows, up_h1024, up_addf, up_hsc, r_col, r_row, r_c0, r_c1]
  simp only [up_mulf, up_hh]
  rw [r_fwd _ Wg]
  simp only [up_addf, add_zero, up_hneg, up_hexp, up_hsg, up_mulf, act_flip]
  rw [up_truncf]
  rfl
theorem ref_h : (truncf .bf16 (mulf (mulf (m ((c.tc : Thread nD τ).loc main_arg0)) (broadcastInDim S2048x1024 ![0, 1] bcast_S2048x1_S2048x1024_0_1 (Host.rsqrt (addf (Host.divf (broadcastInDim S2048x1 ![0] bcast_S2048_S2048x1_0 (Host.reduceAdd (mulf (m ((c.tc : Thread nD τ).loc main_arg0)) (m ((c.tc : Thread nD τ).loc main_arg0))) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (m ((c.tc : Thread nD τ).loc main_arg1)))) bitsLt_bf16_f32 : FVec Ideal S2048x1024 .bf16)
    = (up .bf16 (resH X N) : FVec Ideal S2048x1024 .bf16) := by
  simp only [H.x, H.n, up_mulf]
  rw [r_c1024, r_ceps, r_rows, up_h1024, up_addf, up_hsc, r_col, r_row]
  simp only [up_mulf, up_hh]
  rw [up_truncf]
  rfl
end

end Cert.MixerReferenceIdeal.W
-- ==== Proof.Mixer.lean ====
module

public import proofs.«01_k».proof.Defs
public import proofs.«01_k».proof.Proof.MixerReals
public import proofs.«01_k».proof.Proof.MixerSaved
public import proofs.«01_k».proof.Proof.MixerRef
public import proofs.«01_k».proof.Proof.Gen.Mixer.Frame

@[expose] public section

/-! The gradients of the channel mixer: its input, its norm's weight, and the arrays its weights' gradients are taken from. -/
set_option maxRecDepth 16384

noncomputable section
namespace Cert.Proof
open Idealize.ShloMosaic Idealize.SL.Sem
open Cert.KernelIdeal.SB Cert.MixerIdeal.M Cert.MixerIdeal.H Cert.MixerReferenceIdeal.W

theorem frame_Mixer : Cert.quiescent_Mixer (hMixer := Cert.Mixer.Gen.facts) := fun m ρ _ => Cert.Mixer.Gen.frame m ρ
theorem frame_MixerIdeal : Cert.quiescent_MixerIdeal (hMixerIdeal := Cert.MixerIdeal.Gen.facts) := fun m ρ _ => Cert.MixerIdeal.Gen.frame m ρ
theorem frame_MixerReference : Cert.quiescent_MixerReferenceIdeal (hMixerReferenceIdeal := Cert.MixerReferenceIdeal.Gen.facts) :=
  fun m ρ _ => (θ_run Cert.MixerReferenceIdeal.defs _ _).mono
    (fun r h => ⟨fun c => (h c).2.2.2.2.2.2, sem_eq_zero_of_no_sems (by decide) r.2⟩) (Cert.MixerReferenceIdeal.Value.run m ρ)

section
variable (m : (ℓ : Loc Cert.MixerIdeal.nD Cert.MixerIdeal.τ Cert.MixerIdeal.sig) → Buf (Elt Ideal) ℓ)
  (h : @Cert.Pre_MixerIdeal_reals Cert.Pre_reals.facts m) (c : Dev Cert.MixerIdeal.nD)
include h
/-- The arguments of one device as arrays of reals. -/
theorem mixer_reals : ∃ (X Y : Fin 2048 → Fin 1024 → ℝ) (N : Fin 1 → Fin 1024 → ℝ) (Wg Wu Wd : Fin 2816 → Fin 1024 → ℝ),
    m ((c.tc : Thread Cert.MixerIdeal.nD Cert.MixerIdeal.τ).loc Cert.MixerIdeal.main_arg0) = (up .f32 X : FVec Ideal ⟨2, ![2048, 1024]⟩ .f32)
    ∧ m ((c.tc : Thread Cert.MixerIdeal.nD Cert.MixerIdeal.τ).loc Cert.MixerIdeal.main_arg1) = (up .f32 N : FVec Ideal ⟨2, ![1, 1024]⟩ .f32)
    ∧ m ((c.tc : Thread Cert.MixerIdeal.nD Cert.MixerIdeal.τ).loc Cert.MixerIdeal.main_arg2) = (up .bf16 Wg : FVec Ideal ⟨2, ![2816, 1024]⟩ .bf16)
    ∧ m ((c.tc : Thread Cert.MixerIdeal.nD Cert.MixerIdeal.τ).loc Cert.MixerIdeal.main_arg3) = (up .bf16 Wu : FVec Ideal ⟨2, ![2816, 1024]⟩ .bf16)
    ∧ m ((c.tc : Thread Cert.MixerIdeal.nD Cert.MixerIdeal.τ).loc Cert.MixerIdeal.main_arg4) = (up .bf16 Wd : FVec Ideal ⟨2, ![2816, 1024]⟩ .bf16)
    ∧ m ((c.tc : Thread Cert.MixerIdeal.nD Cert.MixerIdeal.τ).loc Cert.MixerIdeal.main_arg5) = (up .f32 Y : FVec Ideal ⟨2, ![2048, 1024]⟩ .f32) := by
  obtain ⟨⟨X, hX⟩, ⟨N, hN⟩, ⟨Wg, hg⟩, ⟨Wu, hu⟩, ⟨Wd, hd⟩, ⟨Y, hY⟩⟩ := @Cert.Pre_reals.reals Cert.Pre_reals.facts _ _ _ _ _ _ (h c)
  exact ⟨X, Y, N, Wg, Wu, Wd, hX, hN, hg, hu, hd, hY⟩
end

/-- Over the reals the kernel's six results are the reference's. -/
theorem equal_Mixer : @Cert.algebraic_MixerIdeal_MixerReferenceIdeal_pre_reals Cert.MixerIdeal.Gen.facts Cert.MixerReferenceIdeal.Gen.facts
    Cert.Pre_reals.facts := by
  intro m g m' g' hp hargs
  choose X Y N Wg Wu Wd hX hN hg hu hd hY using mixer_reals m hp
  have H : ∀ c, Given m c (X c) (Y c) (N c) (gate (X c) (N c) (Wg c)) (gate (X c) (N c) (Wu c)) (Wg c) (Wu c) (Wd c) := fun c =>
    { y := (Cert.MixerIdeal.Gen.V_main_arg5 m c).trans (hY c)
      x := (Cert.MixerIdeal.Gen.V_main_arg0 m c).trans (hX c)
      g := Cert.MixerIdeal.F.val_g m c (X c) (N c) (Wg c) (hX c) (hN c) (hg c)
      u := Cert.MixerIdeal.F.val_u m c (X c) (N c) (Wu c) (hX c) (hN c) (hu c)
      n := (Cert.MixerIdeal.Gen.V_main_arg1 m c).trans (hN c)
      wg := (Cert.MixerIdeal.Gen.V_main_arg2 m c).trans (hg c)
      wu := (Cert.MixerIdeal.Gen.V_main_arg3 m c).trans (hu c)
      wd := (Cert.MixerIdeal.Gen.V_main_arg4 m c).trans (hd c) }
  have R : ∀ c, Args m' c (X c) (Y c) (N c) (Wg c) (Wu c) (Wd c) := fun c =>
    { x := (hargs c).1.trans (hX c)
      n := (hargs c).2.1.trans (hN c)
      wg := (hargs c).2.2.1.trans (hg c)
      wu := (hargs c).2.2.2.1.trans (hu c)
      wd := (hargs c).2.2.2.2.1.trans (hd c)
      y := (hargs c).2.2.2.2.2.trans (hY c) }
  refine ⟨fun c => (up .f32 (resX (X c) (Y c) (N c) (gate (X c) (N c) (Wg c)) (gate (X c) (N c) (Wu c)) (Wg c) (Wu c) (Wd c)) : FVec Ideal ⟨2, ![2048, 1024]⟩ .f32),
    fun c => (up .f32 (resN (X c) (Y c) (gate (X c) (N c) (Wg c)) (gate (X c) (N c) (Wu c)) (Wg c) (Wu c) (Wd c)) : FVec Ideal ⟨2, ![1, 1024]⟩ .f32),
    fun c => (up .bf16 (resA (gate (X c) (N c) (Wg c)) (gate (X c) (N c) (Wu c))) : FVec Ideal ⟨2, ![2048, 2816]⟩ .bf16),
    fun c => (up .bf16 (resG (Y c) (gate (X c) (N c) (Wg c)) (gate (X c) (N c) (Wu c)) (Wd c)) : FVec Ideal ⟨2, ![2048, 2816]⟩ .bf16),
    fun c => (up .bf16 (resU (Y c) (gate (X c) (N c) (Wg c)) (Wd c)) : FVec Ideal ⟨2, ![2048, 2816]⟩ .bf16),
    fun c => (up .bf16 (resH (X c) (N c)) : FVec Ideal ⟨2, ![2048, 1024]⟩ .bf16),
    (θ_run Cert.MixerIdeal.defs _ _).mono (fun r h c => ?_) (Cert.MixerIdeal.Value.run_blocks m g),
    (θ_run Cert.MixerReferenceIdeal.defs _ _).mono (fun r h c => ?_) (Cert.MixerReferenceIdeal.Value.run m' g')⟩
  · obtain ⟨h0, h1, h2, h3, h4, h5, hk⟩ := h c
    exact ⟨h0.trans (final8 (H c)), h1.trans (final9 (H c)), h2.trans (final10 (H c)), h3.trans (final11 (H c)), h4.trans (final12 (H c)),
      h5.trans (final13 (H c)), hk⟩
  · obtain ⟨h0, h1, h2, h3, h4, h5, hk⟩ := h c
    exact ⟨h0.trans (ref_x (R c)), h1.trans (ref_n (R c)), h2.trans (ref_a (R c)), h3.trans (ref_g (R c)), h4.trans (ref_u (R c)),
      h5.trans (ref_h (R c)), hk⟩
end Cert.Proof
-- ==== Proof.Gates.lean ====
module

public import proofs.«01_k».proof.Defs
public import proofs.«01_k».proof.Proof.Gen.Gates.Frame
public import proofs.«01_k».proof.Proof.Gen.GatesIdeal.Value
public import proofs.«01_k».proof.Proof.Gen.GatesReferenceIdeal.Run
public import Idealize.ShloMosaic.Lib.Pipeline.ValueKit
public import Idealize.ShloMosaic.Lib.Pointwise.Index

@[expose] public section

/-! The gradients of the channel mixer's two gate weights: the kernel takes 256 rows of a gradient at a grid point, one product
with all of the hidden rows for each. -/
set_option maxRecDepth 16384

noncomputable section
namespace Cert.GatesIdeal.W
open Idealize.ShloMosaic Cert.GatesIdeal Cert.GatesIdeal.Gen

/-- The gradient of one weight: over the tokens, the sum of the gate's gradient times the hidden row. -/
def grad (g : FVec Ideal S2048x2816 .bf16) (h : FVec Ideal S2048x1024 .bf16) : FVec Ideal S2816x1024 .bf16 :=
  fun i => ∑ k : Fin 2048, g (ix2 k (i 0)) * h (ix2 k (i 1))

theorem lt11 (t : Fin cfg0.N) : t.val < 11 := t.isLt

/-- Where each window's block lies. -/
theorem places : ∀ t : Fin cfg0.N, (win0_0.index t = ![0, t.val]) ∧ win0_1.index t = ![0, t.val] ∧ win0_2.index t = ![0, 0]
    ∧ win0_3.index t = ![t.val, 0] ∧ win0_4.index t = ![t.val, 0] := by decide +kernel

section
variable (m : (ℓ : Loc nD τ sig) → Buf (Elt Ideal) ℓ) (c : Dev nD)

theorem blk_dg (t : Fin cfg0.N) (k : Fin 2048) (r : Fin 256) :
    (iblk m c 0 t : FVec Ideal S2048x256 .bf16) (ix2 k r) = (m (c, Proc.tc.devRef main_arg0) : FVec Ideal S2048x2816 .bf16)
      (ix2 k ⟨256 * t.val + r.val, by have := lt11 t; omega⟩) := by
  blk_point [iblk, V, places t]
theorem blk_du (t : Fin cfg0.N) (k : Fin 2048) (r : Fin 256) :
    (iblk m c 1 t : FVec Ideal S2048x256 .bf16) (ix2 k r) = (m (c, Proc.tc.devRef main_arg1) : FVec Ideal S2048x2816 .bf16)
      (ix2 k ⟨256 * t.val + r.val, by have := lt11 t; omega⟩) := by
  blk_point [iblk, V, places t]
theorem blk_h (t : Fin cfg0.N) (k : Fin 2048) (l : Fin 1024) :
    (iblk m c 2 t : FVec Ideal S2048x1024 .bf16) (ix2 k l) = (m (c, Proc.tc.devRef main_arg2) : FVec Ideal S2048x1024 .bf16) (ix2 k l) := by
  blk_point [iblk, V, places t]

theorem read_g (G : FVec Ideal S2816x1024 .bf16) (t : Fin cfg0.N) (r : Fin 256) (l : Fin 1024) :
    ((win0_3.blk t).view.read (Elt Ideal) G : FVec Ideal S256x1024 .bf16) (ix2 r l)
      = G (ix2 ⟨256 * t.val + r.val, by have := lt11 t; omega⟩ l) := by
  blk_point [places t]
theorem read_u (G : FVec Ideal S2816x1024 .bf16) (t : Fin cfg0.N) (r : Fin 256) (l : Fin 1024) :
    ((win0_4.blk t).view.read (Elt Ideal) G : FVec Ideal S256x1024 .bf16) (ix2 r l)
      = G (ix2 ⟨256 * t.val + r.val, by have := lt11 t; omega⟩ l) := by
  blk_point [places t]

/-- The product of a point, entry by entry. -/
theorem pay_g (h : FVec Ideal S2048x1024 .bf16) (g : FVec Ideal S2048x256 .bf16) (r : Fin 256) (l : Fin 1024) :
    k0_pay1 (F := Ideal) h g (ix2 r l) = ∑ k : Fin 2048, g (ix2 k r) * h (ix2 k l) := by
  pointwise [k0_pay1]
theorem pay_u (h : FVec Ideal S2048x1024 .bf16) (g : FVec Ideal S2048x256 .bf16) (r : Fin 256) (l : Fin 1024) :
    k0_pay2 (F := Ideal) h g (ix2 r l) = ∑ k : Fin 2048, g (ix2 k r) * h (ix2 k l) := by
  pointwise [k0_pay2]

theorem hz : (![0, 0] : Fin 2 → ℕ) = fun _ => 0 := by funext i; fin_cases i <;> rfl

theorem out_g (x0 x1 : FVec Ideal S2048x256 .bf16) (x2 : FVec Ideal S2048x1024 .bf16) : out0_3 (F := Ideal) x0 x1 x2 = k0_pay1 (F := Ideal) x2 x0 := by
  simp only [out0_3, r0_0, r0_1, r0_2, View.canon_unit_zero (S := S256x1024) hz, View.ld_unit_zero (S := S2048x1024) hz,
    View.ld_unit_zero (S := S2048x256) hz]
theorem out_u (x0 x1 : FVec Ideal S2048x256 .bf16) (x2 : FVec Ideal S2048x1024 .bf16) : out0_4 (F := Ideal) x0 x1 x2 = k0_pay2 (F := Ideal) x2 x1 := by
  simp only [out0_4, r0_0, r0_1, r0_2, View.canon_unit_zero (S := S256x1024) hz, View.ld_unit_zero (S := S2048x1024) hz,
    View.ld_unit_zero (S := S2048x256) hz]

/-- What a point writes back is its block of the gradient. -/
theorem flushed_g (t : Fin cfg0.N) : (dats m 0 c).flushed 3 t
    = (win0_3.blk t).view.read (Elt Ideal) (grad (m (c, Proc.tc.devRef main_arg0)) (m (c, Proc.tc.devRef main_arg2))) := by
  have h : k0_pay1 (F := Ideal) (iblk m c 2 t) (iblk m c 0 t)
      = (win0_3.blk t).view.read (Elt Ideal) (grad (m (c, Proc.tc.devRef main_arg0)) (m (c, Proc.tc.devRef main_arg2))) := by
    funext j
    obtain ⟨r, l, rfl⟩ : ∃ (r : Fin 256) (l : Fin 1024), j = ix2 r l := ⟨j 0, j 1, eq_ix2 j⟩
    refine (pay_g _ _ r l).trans (Eq.trans ?_ (read_g _ t r l).symm)
    exact Finset.sum_congr rfl fun k _ => congrArg₂ (· * ·) (blk_dg m c t k r) (blk_h m c t k l)
  rw [Value.flushed3]
  exact (out_g (iblk m c 0 t) (iblk m c 1 t) (iblk m c 2 t)).trans h
theorem flushed_u (t : Fin cfg0.N) : (dats m 0 c).flushed 4 t
    = (win0_4.blk t).view.read (Elt Ideal) (grad (m (c, Proc.tc.devRef main_arg1)) (m (c, Proc.tc.devRef main_arg2))) := by
  have h : k0_pay2 (F := Ideal) (iblk m c 2 t) (iblk m c 1 t)
      = (win0_4.blk t).view.read (Elt Ideal) (grad (m (c, Proc.tc.devRef main_arg1)) (m (c, Proc.tc.devRef main_arg2))) := by
    funext j
    obtain ⟨r, l, rfl⟩ : ∃ (r : Fin 256) (l : Fin 1024), j = ix2 r l := ⟨j 0, j 1, eq_ix2 j⟩
    refine (pay_u _ _ r l).trans (Eq.trans ?_ (read_u _ t r l).symm)
    exact Finset.sum_congr rfl fun k _ => congrArg₂ (· * ·) (blk_du m c t k r) (blk_h m c t k l)
  rw [Value.flushed4]
  exact (out_u (iblk m c 0 t) (iblk m c 1 t) (iblk m c 2 t)).trans h
end

/-- The rows and columns of a block. -/
theorem rows_g : ∀ t : Fin grid0.N, win0_3.index t 0 * win0_3.size 0 = 256 * t.val ∧ win0_3.xsize (grid0.coords t) 0 = 256
    ∧ win0_3.index t 1 * win0_3.size 1 = 0 ∧ win0_3.xsize (grid0.coords t) 1 = 1024 := by decide +kernel
theorem rows_u : ∀ t : Fin grid0.N, win0_4.index t 0 * win0_4.size 0 = 256 * t.val ∧ win0_4.xsize (grid0.coords t) 0 = 256
    ∧ win0_4.index t 1 * win0_4.size 1 = 0 ∧ win0_4.xsize (grid0.coords t) 1 = 1024 := by decide +kernel

theorem mem_g (t : Fin cfg0.N) (i : S2816x1024.Idx) (h0 : (i 0).val / 256 = t.val) : i ∈ ((cfg0.win 3).blk t).view.set := by
  show i ∈ ((View.whole main_v0_0).slice (win0_3.rect t)).set
  rw [View.set_slice_whole, Rect.mem_set_unit]
  obtain ⟨a0, b0, a1, b1⟩ := rows_g t
  have h1 : (i 1 : Nat) < 1024 := (i 1).isLt
  intro a
  match a with
  | ⟨0, _⟩ =>
    show win0_3.index t 0 * win0_3.size 0 ≤ (i 0 : Nat) ∧ (i 0 : Nat) < win0_3.index t 0 * win0_3.size 0 + win0_3.xsize (grid0.coords t) 0
    rw [a0, b0]; omega
  | ⟨1, _⟩ =>
    show win0_3.index t 1 * win0_3.size 1 ≤ (i 1 : Nat) ∧ (i 1 : Nat) < win0_3.index t 1 * win0_3.size 1 + win0_3.xsize (grid0.coords t) 1
    rw [a1, b1]; omega
theorem mem_u (t : Fin cfg0.N) (i : S2816x1024.Idx) (h0 : (i 0).val / 256 = t.val) : i ∈ ((cfg0.win 4).blk t).view.set := by
  show i ∈ ((View.whole main_v0_1).slice (win0_4.rect t)).set
  rw [View.set_slice_whole, Rect.mem_set_unit]
  obtain ⟨a0, b0, a1, b1⟩ := rows_u t
  have h1 : (i 1 : Nat) < 1024 := (i 1).isLt
  intro a
  match a with
  | ⟨0, _⟩ =>
    show win0_4.index t 0 * win0_4.size 0 ≤ (i 0 : Nat) ∧ (i 0 : Nat) < win0_4.index t 0 * win0_4.size 0 + win0_4.xsize (grid0.coords t) 0
    rw [a0, b0]; omega
  | ⟨1, _⟩ =>
    show win0_4.index t 1 * win0_4.size 1 ≤ (i 1 : Nat) ∧ (i 1 : Nat) < win0_4.index t 1 * win0_4.size 1 + win0_4.xsize (grid0.coords t) 1
    rw [a1, b1]; omega

section
variable (m : (ℓ : Loc nD τ sig) → Buf (Elt Ideal) ℓ) (c : Dev nD)
/-- The blocks tile each array, so the arrays end at the gradients. -/
theorem final_g : (dats m 0 c).arrAt 3 cfg0.N = grad (m (c, Proc.tc.devRef main_arg0)) (m (c, Proc.tc.devRef main_arg2)) :=
  (dats m 0 c).arrAt_eq_of_cover 3 _ (fun t _ => flushed_g m c t) fun i => by
    have h0 : (i 0 : Nat) < 2816 := (i 0).isLt
    have ht : (i 0).val / 256 < cfg0.N := by show _ < 11; omega
    exact ⟨⟨_, ht⟩, flush0_3 _, mem_g _ i rfl⟩
theorem final_u : (dats m 0 c).arrAt 4 cfg0.N = grad (m (c, Proc.tc.devRef main_arg1)) (m (c, Proc.tc.devRef main_arg2)) :=
  (dats m 0 c).arrAt_eq_of_cover 4 _ (fun t _ => flushed_u m c t) fun i => by
    have h0 : (i 0 : Nat) < 2816 := (i 0).isLt
    have ht : (i 0).val / 256 < cfg0.N := by show _ < 11; omega
    exact ⟨⟨_, ht⟩, flush0_4 _, mem_u _ i rfl⟩
end

end Cert.GatesIdeal.W

namespace Cert.GatesReferenceIdeal.W
open Idealize.ShloMosaic Cert.GatesReferenceIdeal Cert.GatesReferenceIdeal.Gen
/-- The reference's gradient of one weight, entry by entry. -/
theorem ref_grad (g : FVec Ideal S2048x2816 .bf16) (h : FVec Ideal S2048x1024 .bf16) :
    truncf .bf16 (transpose S2816x1024 [1, 0] (transpose S1024x2816 [1, 0] (Host.dotGeneral dot_S2048x2816_S2048x1024_S2816x1024_0_0_1_1_n_n none
      (extf .f32 g bitsLt_bf16_f32) (extf .f32 h bitsLt_bf16_f32)) transposes_S2816x1024_S1024x2816_1_0) transposes_S1024x2816_S2816x1024_1_0) bitsLt_bf16_f32
    = Cert.GatesIdeal.W.grad g h := by
  funext j
  idx_vars j
  pointwise [Cert.GatesIdeal.W.grad]
end Cert.GatesReferenceIdeal.W

namespace Cert.Proof
open Idealize.ShloMosaic Idealize.SL.Sem

theorem frame_Gates : Cert.quiescent_Gates (hGates := Cert.Gates.Gen.facts) := fun m ρ _ => Cert.Gates.Gen.frame m ρ
theorem frame_GatesIdeal : Cert.quiescent_GatesIdeal (hGatesIdeal := Cert.GatesIdeal.Gen.facts) := fun m ρ _ => Cert.GatesIdeal.Gen.frame m ρ
theorem frame_GatesReference : Cert.quiescent_GatesReferenceIdeal (hGatesReferenceIdeal := Cert.GatesReferenceIdeal.Gen.facts) :=
  fun m ρ _ => (θ_run Cert.GatesReferenceIdeal.defs _ _).mono
    (fun r h => ⟨fun c => (h c).2.2, sem_eq_zero_of_no_sems (by decide) r.2⟩) (Cert.GatesReferenceIdeal.Value.run m ρ)

/-- Over the reals the kernel's two gradients are the reference's. -/
theorem equal_Gates : @Cert.algebraic_GatesIdeal_GatesReferenceIdeal Cert.GatesIdeal.Gen.facts Cert.GatesReferenceIdeal.Gen.facts := by
  intro m g m' g' _ hargs
  refine ⟨fun c => Cert.GatesIdeal.W.grad (m (c, Proc.tc.devRef Cert.GatesIdeal.main_arg0)) (m (c, Proc.tc.devRef Cert.GatesIdeal.main_arg2)),
    fun c => Cert.GatesIdeal.W.grad (m (c, Proc.tc.devRef Cert.GatesIdeal.main_arg1)) (m (c, Proc.tc.devRef Cert.GatesIdeal.main_arg2)),
    (θ_run Cert.GatesIdeal.defs _ _).mono (fun r h c => ⟨(h c).1.trans (Cert.GatesIdeal.W.final_g m c), (h c).2.1.trans (Cert.GatesIdeal.W.final_u m c), (h c).2.2⟩)
      (Cert.GatesIdeal.Value.run_blocks m g),
    (θ_run Cert.GatesReferenceIdeal.defs _ _).mono (fun r h c => ?_) (Cert.GatesReferenceIdeal.Value.run m' g')⟩
  obtain ⟨h0, h1, h2⟩ := h c
  obtain ⟨e0, e1, e2⟩ := hargs c
  refine ⟨h0.trans ((Cert.GatesReferenceIdeal.W.ref_grad _ _).trans ?_), h1.trans ((Cert.GatesReferenceIdeal.W.ref_grad _ _).trans ?_), h2⟩
  · rw [e0, e2]
  · rw [e1, e2]
end Cert.Proof
-- ==== Proof.Down.lean ====
module

public import proofs.«01_k».proof.Defs
public import proofs.«01_k».proof.Proof.Gen.Down.Frame
public import proofs.«01_k».proof.Proof.Gen.DownIdeal.Value
public import proofs.«01_k».proof.Proof.Gen.DownReferenceIdeal.Run
public import Idealize.ShloMosaic.Lib.Pipeline.ValueKit
public import Idealize.ShloMosaic.Lib.Pointwise.Index

@[expose] public section

/-! The gradient of the channel mixer's down weight: the kernel takes 256 rows of it at a grid point, one product with all of
the rows that come back. -/
set_option maxRecDepth 16384

noncomputable section
namespace Cert.DownIdeal.W
open Idealize.ShloMosaic Cert.DownIdeal Cert.DownIdeal.Gen

/-- The gradient of the weight: over the tokens, the sum of the gated row times the row that comes back. -/
def grad (a : FVec Ideal S2048x2816 .bf16) (y : FVec Ideal S2048x1024 .f32) : FVec Ideal S2816x1024 .bf16 :=
  fun i => ∑ k : Fin 2048, a (ix2 k (i 0)) * y (ix2 k (i 1))

theorem lt11 (t : Fin cfg0.N) : t.val < 11 := t.isLt

/-- Where each window's block lies. -/
theorem places : ∀ t : Fin cfg0.N, (win0_0.index t = ![0, t.val]) ∧ win0_1.index t = ![0, 0] ∧ win0_2.index t = ![t.val, 0] := by
  decide +kernel

section
variable (m : (ℓ : Loc nD τ sig) → Buf (Elt Ideal) ℓ) (c : Dev nD)

theorem blk_a (t : Fin cfg0.N) (k : Fin 2048) (r : Fin 256) :
    (iblk m c 0 t : FVec Ideal S2048x256 .bf16) (ix2 k r) = (m (c, Proc.tc.devRef main_arg0) : FVec Ideal S2048x2816 .bf16)
      (ix2 k ⟨256 * t.val + r.val, by have := lt11 t; omega⟩) := by
  blk_point [iblk, V, places t]
theorem blk_y (t : Fin cfg0.N) (k : Fin 2048) (l : Fin 1024) :
    (iblk m c 1 t : FVec Ideal S2048x1024 .f32) (ix2 k l) = (m (c, Proc.tc.devRef main_arg1) : FVec Ideal S2048x1024 .f32) (ix2 k l) := by
  blk_point [iblk, V, places t]
theorem read_w (G : FVec Ideal S2816x1024 .bf16) (t : Fin cfg0.N) (r : Fin 256) (l : Fin 1024) :
    ((win0_2.blk t).view.read (Elt Ideal) G : FVec Ideal S256x1024 .bf16) (ix2 r l)
      = G (ix2 ⟨256 * t.val + r.val, by have := lt11 t; omega⟩ l) := by
  blk_point [places t]

/-- The product of a point, entry by entry. -/
theorem pay_w (y : FVec Ideal S2048x1024 .f32) (a : FVec Ideal S2048x256 .bf16) (r : Fin 256) (l : Fin 1024) :
    k0_pay1 (F := Ideal) y a (ix2 r l) = ∑ k : Fin 2048, a (ix2 k r) * y (ix2 k l) := by
  pointwise [k0_pay1]

theorem hz : (![0, 0] : Fin 2 → ℕ) = fun _ => 0 := by funext i; fin_cases i <;> rfl

theorem out_w (x0 : FVec Ideal S2048x256 .bf16) (x1 : FVec Ideal S2048x1024 .f32) : out0_2 (F := Ideal) x0 x1 = k0_pay1 (F := Ideal) x1 x0 := by
  simp only [out0_2, r0_0, r0_1, r0_2, View.canon_unit_zero (S := S256x1024) hz, View.ld_unit_zero (S := S2048x1024) hz,
    View.ld_unit_zero (S := S2048x256) hz]

/-- What a point writes back is its block of the gradient. -/
theorem flushed_w (t : Fin cfg0.N) : (dats m 0 c).flushed 2 t
    = (win0_2.blk t).view.read (Elt Ideal) (grad (m (c, Proc.tc.devRef main_arg0)) (m (c, Proc.tc.devRef main_arg1))) := by
  have h : k0_pay1 (F := Ideal) (iblk m c 1 t) (iblk m c 0 t)
      = (win0_2.blk t).view.read (Elt Ideal) (grad (m (c, Proc.tc.devRef main_arg0)) (m (c, Proc.tc.devRef main_arg1))) := by
    funext j
    obtain ⟨r, l, rfl⟩ : ∃ (r : Fin 256) (l : Fin 1024), j = ix2 r l := ⟨j 0, j 1, eq_ix2 j⟩
    refine (pay_w _ _ r l).trans (Eq.trans ?_ (read_w _ t r l).symm)
    exact Finset.sum_congr rfl fun k _ => congrArg₂ (· * ·) (blk_a m c t k r) (blk_y m c t k l)
  rw [Value.flushed2]
  exact (out_w (iblk m c 0 t) (iblk m c 1 t)).trans h
end

/-- The rows and columns of a block. -/
theorem rows_w : ∀ t : Fin grid0.N, win0_2.index t 0 * win0_2.size 0 = 256 * t.val ∧ win0_2.xsize (grid0.coords t) 0 = 256
    ∧ win0_2.index t 1 * win0_2.size 1 = 0 ∧ win0_2.xsize (grid0.coords t) 1 = 1024 := by decide +kernel

theorem mem_w (t : Fin cfg0.N) (i : S2816x1024.Idx) (h0 : (i 0).val / 256 = t.val) : i ∈ ((cfg0.win 2).blk t).view.set := by
  show i ∈ ((View.whole main_v0).slice (win0_2.rect t)).set
  rw [View.set_slice_whole, Rect.mem_set_unit]
  obtain ⟨a0, b0, a1, b1⟩ := rows_w t
  have h1 : (i 1 : Nat) < 1024 := (i 1).isLt
  intro a
  match a with
  | ⟨0, _⟩ =>
    show win0_2.index t 0 * win0_2.size 0 ≤ (i 0 : Nat) ∧ (i 0 : Nat) < win0_2.index t 0 * win0_2.size 0 + win0_2.xsize (grid0.coords t) 0
    rw [a0, b0]; omega
  | ⟨1, _⟩ =>
    show win0_2.index t 1 * win0_2.size 1 ≤ (i 1 : Nat) ∧ (i 1 : Nat) < win0_2.index t 1 * win0_2.size 1 + win0_2.xsize (grid0.coords t) 1
    rw [a1, b1]; omega

/-- The blocks tile the array, so it ends at the gradient. -/
theorem final_w (m : (ℓ : Loc nD τ sig) → Buf (Elt Ideal) ℓ) (c : Dev nD) :
    (dats m 0 c).arrAt 2 cfg0.N = grad (m (c, Proc.tc.devRef main_arg0)) (m (c, Proc.tc.devRef main_arg1)) :=
  (dats m 0 c).arrAt_eq_of_cover 2 _ (fun t _ => flushed_w m c t) fun i => by
    have h0 : (i 0 : Nat) < 2816 := (i 0).isLt
    have ht : (i 0).val / 256 < cfg0.N := by show _ < 11; omega
    exact ⟨⟨_, ht⟩, flush0_2 _, mem_w _ i rfl⟩

end Cert.DownIdeal.W

namespace Cert.DownReferenceIdeal.W
open Idealize.ShloMosaic Cert.DownReferenceIdeal Cert.DownReferenceIdeal.Gen
/-- The reference's gradient, entry by entry: the factors the other way round. -/
theorem ref_grad (a : FVec Ideal S2048x2816 .bf16) (y : FVec Ideal S2048x1024 .f32) :
    truncf .bf16 (transpose S2816x1024 [1, 0] (Host.dotGeneral dot_S2048x1024_S2048x2816_S1024x2816_0_0_1_1_n_n none y
      (extf .f32 a bitsLt_bf16_f32)) transposes_S1024x2816_S2816x1024_1_0) bitsLt_bf16_f32
    = Cert.DownIdeal.W.grad a y := by
  funext j
  idx_vars j
  pointwise [Cert.DownIdeal.W.grad]
  exact Finset.sum_congr rfl fun k _ => mul_comm _ _
end Cert.DownReferenceIdeal.W

namespace Cert.Proof
open Idealize.ShloMosaic Idealize.SL.Sem

theorem frame_Down : Cert.quiescent_Down (hDown := Cert.Down.Gen.facts) := fun m ρ _ => Cert.Down.Gen.frame m ρ
theorem frame_DownIdeal : Cert.quiescent_DownIdeal (hDownIdeal := Cert.DownIdeal.Gen.facts) := fun m ρ _ => Cert.DownIdeal.Gen.frame m ρ
theorem frame_DownReference : Cert.quiescent_DownReferenceIdeal (hDownReferenceIdeal := Cert.DownReferenceIdeal.Gen.facts) :=
  fun m ρ _ => (θ_run Cert.DownReferenceIdeal.defs _ _).mono
    (fun r h => ⟨fun c => (h c).2, sem_eq_zero_of_no_sems (by decide) r.2⟩) (Cert.DownReferenceIdeal.Value.run m ρ)

/-- Over the reals the kernel's gradient is the reference's. -/
theorem equal_Down : @Cert.algebraic_DownIdeal_DownReferenceIdeal Cert.DownIdeal.Gen.facts Cert.DownReferenceIdeal.Gen.facts := by
  intro m g m' g' _ hargs
  refine ⟨fun c => Cert.DownIdeal.W.grad (m (c, Proc.tc.devRef Cert.DownIdeal.main_arg0)) (m (c, Proc.tc.devRef Cert.DownIdeal.main_arg1)),
    (θ_run Cert.DownIdeal.defs _ _).mono (fun r h c => ⟨(h c).1.trans (Cert.DownIdeal.W.final_w m c), (h c).2⟩)
      (Cert.DownIdeal.Value.run_blocks m g),
    (θ_run Cert.DownReferenceIdeal.defs _ _).mono (fun r h c => ?_) (Cert.DownReferenceIdeal.Value.run m' g')⟩
  obtain ⟨h0, h2⟩ := h c
  obtain ⟨e0, e1⟩ := hargs c
  refine ⟨h0.trans ((Cert.DownReferenceIdeal.W.ref_grad _ _).trans ?_), h2⟩
  rw [e0, e1]
end Cert.Proof
-- ==== Proof.ForwardRows.lean ====
module

public import proofs.«01_k».proof.Proof.Gen.ForwardIdeal.Value
public import Idealize.ShloMosaic.Lib.Pipeline.ValueKit
public import Idealize.ShloMosaic.Lib.Pointwise
public import Idealize.ShloMosaic.Lib.Pointwise.Index

@[expose] public section

/-! The channel mixer's forward pass: what it gives of each row, over the extended reals, and that a grid point of the kernel
leaves that of the rows it reads. Nothing here asks that a number be finite. -/
set_option maxRecDepth 16384

noncomputable section
namespace Cert.ForwardIdeal.M
open Idealize.ShloMosaic Cert.ForwardIdeal Cert.ForwardIdeal.Gen

/-- The norm's length and its small constant, and one, as the program spells them. -/
def len : EReal := Ideal.ofBits .f32 0x44800000#32
def tiny : EReal := Ideal.ofBits .f32 0x358637BD#32
def unit : EReal := Ideal.ofBits .f32 0x3F800000#32

/-- The scale of a row, the row after the norm, a row against the rows of a weight, and the logistic function. -/
def scale (x : Fin 1024 → EReal) : EReal := Ideal.rsqrt (Ideal.div (∑ k, x k * x k) len + tiny)
def normed (x n : Fin 1024 → EReal) (l : Fin 1024) : EReal := x l * scale x * n l
def proj (h : Fin 1024 → EReal) (w : Fin 2816 → Fin 1024 → EReal) (f : Fin 2816) : EReal := ∑ l, h l * w f l
def logistic (z : EReal) : EReal := Ideal.div unit (unit + Ideal.exp (-z))
/-- The gated row, and what the mixer gives of a row. -/
def gated (g u : Fin 2816 → EReal) (f : Fin 2816) : EReal := g f * logistic (g f) * u f
def mixed (x n : Fin 1024 → EReal) (wg wu wd : Fin 2816 → Fin 1024 → EReal) (l : Fin 1024) : EReal :=
  x l + ∑ f, gated (proj (normed x n) wg) (proj (normed x n) wu) f * wd f l

/-- A matrix of extended reals as an array; every array is one. -/
def ar (φ : FTy) {m n : ℕ} (A : Fin m → Fin n → EReal) : FVec Ideal ⟨2, ![m, n]⟩ φ := fun j => A (j 0) (j 1)

section
variable {φ ψ : FTy} {m n : ℕ} (A B : Fin m → Fin n → EReal)
theorem ar_at (r : Fin m) (c : Fin n) : ar φ A (ix2 r c) = A r c := rfl
theorem ar_of (v : FVec Ideal ⟨2, ![m, n]⟩ φ) (h : ∀ r c, v (ix2 r c) = A r c) : v = ar φ A := by
  funext j
  obtain ⟨r, c, rfl⟩ : ∃ (r : Fin m) (c : Fin n), j = ix2 r c := ⟨j 0, j 1, eq_ix2 j⟩
  exact h r c
/-- The entries of an array. -/
def rows (v : FVec Ideal ⟨2, ![m, n]⟩ φ) (r : Fin m) (c : Fin n) : EReal := v (ix2 r c)
theorem ar_rows (v : FVec Ideal ⟨2, ![m, n]⟩ φ) : v = ar φ (rows v) := ar_of _ v fun _ _ => rfl
theorem ar_addf : addf (ar φ A) (ar φ B) = ar φ fun r c => A r c + B r c := rfl
theorem ar_mulf : mulf (ar φ A) (ar φ B) = ar φ fun r c => A r c * B r c := rfl
theorem ar_divf : divf (ar φ A) (ar φ B) = ar φ fun r c => Ideal.div (A r c) (B r c) := rfl
theorem ar_rsqrt : rsqrt (ar φ A) = ar φ fun r c => Ideal.rsqrt (A r c) := rfl
theorem ar_truncf (h : ψ.bits < φ.bits) : truncf ψ (ar φ A) h = ar ψ A := rfl
theorem ar_extf (h : φ.bits < ψ.bits) : extf ψ (ar φ A) h = ar ψ A := rfl
theorem ar_zero : (constant ⟨2, ![m, n]⟩ .f32 0x00000000#32 : FVec Ideal _ .f32) = ar .f32 fun _ _ => 0 := by
  funext j; exact Ideal.ofBits_zero_f32
theorem ar_len : (broadcast ⟨2, ![m, n]⟩ (Scalar.ofBits .f32 0x44800000#32 : Ideal .f32)) = ar .f32 fun _ _ => len := rfl
theorem ar_tiny : (broadcast ⟨2, ![m, n]⟩ (Scalar.ofBits .f32 0x358637BD#32 : Ideal .f32)) = ar .f32 fun _ _ => tiny := rfl
theorem ar_unit : (broadcast ⟨2, ![m, n]⟩ (Scalar.ofBits .f32 0x3F800000#32 : Ideal .f32)) = ar .f32 fun _ _ => unit := rfl
/-- The exponential of nothing less the array. -/
theorem ar_expneg : exp (subf (broadcast ⟨2, ![m, n]⟩ (Scalar.ofBits .f32 0x00000000#32 : Ideal .f32)) (ar .f32 A))
    = ar .f32 fun r c => Ideal.exp (-A r c) := by
  funext j
  show Ideal.exp (Ideal.ofBits .f32 0x00000000#32 - A (j 0) (j 1)) = Ideal.exp (-A (j 0) (j 1))
  rw [Ideal.ofBits_zero_f32, zero_sub]
end

/-- The sum of each row, as a column. -/
def rowsum (v : FVec Ideal S256x1024 .f32) : FVec Ideal S256x1 .f32 :=
  shapeCast S256x1 (multiReduction .add [1] S256 v 0x00000000#32 reduces_S256x1024_S256 (.inl rfl) rfl) shapeCasts_S256_S256x1
theorem ar_rowsum (A : Fin 256 → Fin 1024 → EReal) : rowsum (ar .f32 A) = ar .f32 fun r _ => ∑ k, A r k := by
  funext j; idx_vars j; pointwise [rowsum]; simp only [ar_at]
theorem ar_col (A : Fin 256 → Fin 1 → EReal) : broadcastTo S256x1024 (ar .f32 A : FVec Ideal S256x1 .f32) broadcasts_S256x1_S256x1024 = ar .f32 fun r _ => A r 0 := by
  funext j; idx_vars j; pointwise; simp only [ar_at]
theorem ar_row (A : Fin 1 → Fin 1024 → EReal) : broadcastTo S256x1024 (ar .f32 A : FVec Ideal S1x1024 .f32) broadcasts_S1x1024_S256x1024 = ar .f32 fun _ l => A 0 l := by
  funext j; idx_vars j; pointwise; simp only [ar_at]
theorem ar_abt (A : Fin 256 → Fin 1024 → EReal) (B : Fin 2816 → Fin 1024 → EReal) :
    matmul dot_S256x1024_S2816x1024_S256x2816_1_1_0_0_n_n none (ar .bf16 A : FVec Ideal S256x1024 .bf16) (ar .bf16 B) (ar .f32 fun _ _ => 0)
      = ar .f32 fun r c => ∑ l, A r l * B c l := by
  funext j; idx_vars j; pointwise; simp only [ar_at, zero_add]
theorem ar_ab (A : Fin 256 → Fin 2816 → EReal) (B : Fin 2816 → Fin 1024 → EReal) :
    matmul dot_S256x2816_S2816x1024_S256x1024_1_0_0_1_n_n none (ar .bf16 A : FVec Ideal S256x2816 .bf16) (ar .bf16 B) (ar .f32 fun _ _ => 0)
      = ar .f32 fun r c => ∑ l, A r l * B l c := by
  funext j; idx_vars j; pointwise; simp only [ar_at, zero_add]

section
variable (X : Fin 256 → Fin 1024 → EReal) (N : Fin 1 → Fin 1024 → EReal) (Wg Wu Wd : Fin 2816 → Fin 1024 → EReal)

theorem pay2_ar : k0_pay2 (F := Ideal) (ar .f32 X) (ar .f32 N) = ar .bf16 fun r l => normed (X r) (N 0) l := by
  show truncf .bf16 (mulf (mulf (ar .f32 X) (broadcastTo S256x1024 (rsqrt (addf (divf (rowsum (mulf (ar .f32 X) (ar .f32 X)))
    (broadcast S256x1 (Scalar.ofBits .f32 0x44800000#32 : Ideal .f32))) (broadcast S256x1 (Scalar.ofBits .f32 0x358637BD#32 : Ideal .f32))))
    broadcasts_S256x1_S256x1024)) (broadcastTo S256x1024 (ar .f32 N : FVec Ideal S1x1024 .f32) broadcasts_S1x1024_S256x1024)) bitsLt_bf16_f32 = _
  simp only [ar_mulf, ar_rowsum, ar_len, ar_tiny, ar_divf, ar_addf, ar_rsqrt, ar_col, ar_row, ar_truncf]
  rfl
theorem pay3_ar : k0_pay3 (F := Ideal) (ar .f32 X) (ar .f32 N) (ar .bf16 Wg) = ar .f32 fun r f => proj (normed (X r) (N 0)) Wg f := by
  unfold k0_pay3
  simp only [pay2_ar, ar_zero, ar_abt]; rfl
theorem pay4_ar : k0_pay4 (F := Ideal) (ar .f32 X) (ar .f32 N) (ar .bf16 Wu) = ar .f32 fun r f => proj (normed (X r) (N 0)) Wu f := by
  unfold k0_pay4
  simp only [pay2_ar, ar_zero, ar_abt]; rfl
theorem pay5_ar : k0_pay5 (F := Ideal) (ar .f32 X) (ar .f32 N) (ar .bf16 Wg) = ar .bf16 fun r f => proj (normed (X r) (N 0)) Wg f := by
  unfold k0_pay5
  simp only [pay3_ar, ar_truncf]
theorem pay6_ar : k0_pay6 (F := Ideal) (ar .f32 X) (ar .f32 N) (ar .bf16 Wu) = ar .bf16 fun r f => proj (normed (X r) (N 0)) Wu f := by
  unfold k0_pay6
  simp only [pay4_ar, ar_truncf]
theorem pay7_ar : k0_pay7 (F := Ideal) (ar .f32 X) (ar .f32 N) (ar .bf16 Wg) (ar .bf16 Wu)
    = ar .bf16 fun r f => gated (proj (normed (X r) (N 0)) Wg) (proj (normed (X r) (N 0)) Wu) f := by
  unfold k0_pay7
  simp only [pay3_ar, pay4_ar, ar_expneg, ar_unit, ar_addf, ar_divf, ar_mulf, ar_truncf]; rfl
theorem pay1_ar : k0_pay1 (F := Ideal) (ar .f32 X) (ar .bf16 Wd) (k0_pay7 (F := Ideal) (ar .f32 X) (ar .f32 N) (ar .bf16 Wg) (ar .bf16 Wu))
    (constant S256x1024 .f32 0x00000000#32) = ar .f32 fun r l => mixed (X r) (N 0) Wg Wu Wd l := by
  unfold k0_pay1
  simp only [pay7_ar, ar_zero, ar_ab, ar_addf]; rfl

theorem hz : (![0, 0] : Fin 2 → ℕ) = fun _ => 0 := by funext i; fin_cases i <;> rfl

variable {x0 : FVec Ideal S256x1024 .f32} {x1 : FVec Ideal S1x1024 .f32} {x2 x3 x4 : FVec Ideal S2816x1024 .bf16}
  (h0 : x0 = ar .f32 X) (h1 : x1 = ar .f32 N) (h2 : x2 = ar .bf16 Wg) (h3 : x3 = ar .bf16 Wu) (h4 : x4 = ar .bf16 Wd)
include h0 h1 h2 h3 h4
/-- What a point leaves in its three blocks. -/
theorem out5_of : out0_5 (F := Ideal) x0 x1 x2 x3 x4 = ar .f32 fun r l => mixed (X r) (N 0) Wg Wu Wd l := by
  subst_vars
  simp only [out0_5, r0_0, r0_1, r0_2, View.canon_unit_zero (S := S256x1024) hz, View.ld_unit_zero (S := S256x1024) hz,
    View.ld_unit_zero (S := S1x1024) hz, View.ld_unit_zero (S := S2816x1024) hz]
  exact pay1_ar X N Wg Wu Wd
theorem out6_of : out0_6 (F := Ideal) x0 x1 x2 x3 x4 = ar .bf16 fun r f => proj (normed (X r) (N 0)) Wg f := by
  subst_vars
  simp only [out0_6, r0_0, r0_1, r0_2, r0_3, View.canon_unit_zero (S := S256x2816) hz, View.ld_unit_zero (S := S256x1024) hz,
    View.ld_unit_zero (S := S1x1024) hz, View.ld_unit_zero (S := S2816x1024) hz]
  exact pay5_ar X N Wg
theorem out7_of : out0_7 (F := Ideal) x0 x1 x2 x3 x4 = ar .bf16 fun r f => proj (normed (X r) (N 0)) Wu f := by
  subst_vars
  simp only [out0_7, r0_0, r0_1, r0_2, r0_3, View.canon_unit_zero (S := S256x2816) hz, View.ld_unit_zero (S := S256x1024) hz,
    View.ld_unit_zero (S := S1x1024) hz, View.ld_unit_zero (S := S2816x1024) hz]
  exact pay6_ar X N Wu
end

end Cert.ForwardIdeal.M
-- ==== Proof.ForwardArrays.lean ====
module

public import proofs.«01_k».proof.Proof.ForwardRows

@[expose] public section

/-! The arrays that the channel mixer's forward pass ends with: of each row of its input, what the mixer gives of it. -/
set_option maxRecDepth 16384

noncomputable section
namespace Cert.ForwardIdeal.M
open Idealize.ShloMosaic Cert.ForwardIdeal Cert.ForwardIdeal.Gen

theorem lt8 (t : Fin cfg0.N) : t.val < 8 := t.isLt
/-- The row of an array that row `r` of block `t` is. -/
def tok (t : Fin cfg0.N) (r : Fin 256) : Fin 2048 := ⟨256 * t.val + r.val, by have := lt8 t; omega⟩

/-- Where each window's block lies. -/
theorem places : ∀ t : Fin cfg0.N, (win0_0.index t = ![t.val, 0]) ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] := by decide +kernel

section
variable (t : Fin cfg0.N)
theorem rd0 (A : FVec Ideal S2048x1024 .f32) (r : Fin 256) (l : Fin 1024) :
    ((win0_0.blk t).view.read (Elt Ideal) A : FVec Ideal S256x1024 .f32) (ix2 r l) = A (ix2 (tok t r) l) := by blk_point [places t]; show _ = 256 * t.val + r.val; omega
theorem rd1 (A : FVec Ideal S1x1024 .f32) (r : Fin 1) (l : Fin 1024) :
    ((win0_1.blk t).view.read (Elt Ideal) A : FVec Ideal S1x1024 .f32) (ix2 r l) = A (ix2 r l) := by blk_point [places t]
theorem rd2 (A : FVec Ideal S2816x1024 .bf16) (r : Fin 2816) (l : Fin 1024) :
    ((win0_2.blk t).view.read (Elt Ideal) A : FVec Ideal S2816x1024 .bf16) (ix2 r l) = A (ix2 r l) := by blk_point [places t]
theorem rd3 (A : FVec Ideal S2816x1024 .bf16) (r : Fin 2816) (l : Fin 1024) :
    ((win0_3.blk t).view.read (Elt Ideal) A : FVec Ideal S2816x1024 .bf16) (ix2 r l) = A (ix2 r l) := by blk_point [places t]
theorem rd4 (A : FVec Ideal S2816x1024 .bf16) (r : Fin 2816) (l : Fin 1024) :
    ((win0_4.blk t).view.read (Elt Ideal) A : FVec Ideal S2816x1024 .bf16) (ix2 r l) = A (ix2 r l) := by blk_point [places t]
theorem rd5 (A : FVec Ideal S2048x1024 .f32) (r : Fin 256) (l : Fin 1024) :
    ((win0_5.blk t).view.read (Elt Ideal) A : FVec Ideal S256x1024 .f32) (ix2 r l) = A (ix2 (tok t r) l) := by blk_point [places t]; show _ = 256 * t.val + r.val; omega
theorem rd6 (A : FVec Ideal S2048x2816 .bf16) (r : Fin 256) (l : Fin 2816) :
    ((win0_6.blk t).view.read (Elt Ideal) A : FVec Ideal S256x2816 .bf16) (ix2 r l) = A (ix2 (tok t r) l) := by blk_point [places t]; show _ = 256 * t.val + r.val; omega
theorem rd7 (A : FVec Ideal S2048x2816 .bf16) (r : Fin 256) (l : Fin 2816) :
    ((win0_7.blk t).view.read (Elt Ideal) A : FVec Ideal S256x2816 .bf16) (ix2 r l) = A (ix2 (tok t r) l) := by blk_point [places t]; show _ = 256 * t.val + r.val; omega
end

/-- The mixer of the rows of `x`, and the rows of the gate and of the up projection. -/
def resOut (x : FVec Ideal S2048x1024 .f32) (n : FVec Ideal S1x1024 .f32) (wg wu wd : FVec Ideal S2816x1024 .bf16) : FVec Ideal S2048x1024 .f32 :=
  ar .f32 fun r l => mixed (rows x r) (rows n 0) (rows wg) (rows wu) (rows wd) l
def resProj (x : FVec Ideal S2048x1024 .f32) (n : FVec Ideal S1x1024 .f32) (w : FVec Ideal S2816x1024 .bf16) : FVec Ideal S2048x2816 .bf16 :=
  ar .bf16 fun r f => proj (normed (rows x r) (rows n 0)) (rows w) f

section
variable (m : (ℓ : Loc nD τ sig) → Buf (Elt Ideal) ℓ) (c : Dev nD)
abbrev aX : FVec Ideal S2048x1024 .f32 := m ((c.tc : Thread nD τ).loc main_arg0)
abbrev aN : FVec Ideal S1x1024 .f32 := m ((c.tc : Thread nD τ).loc main_arg1)
abbrev aG : FVec Ideal S2816x1024 .bf16 := m ((c.tc : Thread nD τ).loc main_arg2)
abbrev aU : FVec Ideal S2816x1024 .bf16 := m ((c.tc : Thread nD τ).loc main_arg3)
abbrev aD : FVec Ideal S2816x1024 .bf16 := m ((c.tc : Thread nD τ).loc main_arg4)

variable (t : Fin cfg0.N)
theorem in0 : (iblk m c 0 t : FVec Ideal S256x1024 .f32) = ar .f32 fun r l => rows (aX m c) (tok t r) l := ar_of _ _ fun r l => rd0 t (aX m c) r l
theorem in1 : (iblk m c 1 t : FVec Ideal S1x1024 .f32) = ar .f32 (rows (aN m c)) := ar_of _ _ fun r l => rd1 t (aN m c) r l
theorem in2 : (iblk m c 2 t : FVec Ideal S2816x1024 .bf16) = ar .bf16 (rows (aG m c)) := ar_of _ _ fun r l => rd2 t (aG m c) r l
theorem in3 : (iblk m c 3 t : FVec Ideal S2816x1024 .bf16) = ar .bf16 (rows (aU m c)) := ar_of _ _ fun r l => rd3 t (aU m c) r l
theorem in4 : (iblk m c 4 t : FVec Ideal S2816x1024 .bf16) = ar .bf16 (rows (aD m c)) := ar_of _ _ fun r l => rd4 t (aD m c) r l

/-- What a point writes back is its block of the array. -/
theorem flushed5 : (dats m 0 c).flushed 5 t = (win0_5.blk t).view.read (Elt Ideal) (resOut (aX m c) (aN m c) (aG m c) (aU m c) (aD m c)) := by
  rw [Value.flushed5]
  exact (out5_of _ _ _ _ _ (in0 m c t) (in1 m c t) (in2 m c t) (in3 m c t) (in4 m c t)).trans (ar_of _ _ fun r l => rd5 t (resOut _ _ _ _ _) r l).symm
theorem flushed6 : (dats m 0 c).flushed 6 t = (win0_6.blk t).view.read (Elt Ideal) (resProj (aX m c) (aN m c) (aG m c)) := by
  rw [Value.flushed6]
  exact (out6_of _ _ _ _ _ (in0 m c t) (in1 m c t) (in2 m c t) (in3 m c t) (in4 m c t)).trans (ar_of _ _ fun r l => rd6 t (resProj _ _ _) r l).symm
theorem flushed7 : (dats m 0 c).flushed 7 t = (win0_7.blk t).view.read (Elt Ideal) (resProj (aX m c) (aN m c) (aU m c)) := by
  rw [Value.flushed7]
  exact (out7_of _ _ _ _ _ (in0 m c t) (in1 m c t) (in2 m c t) (in3 m c t) (in4 m c t)).trans (ar_of _ _ fun r l => rd7 t (resProj _ _ _) r l).symm
end

/-- The rows and columns of a block, and the block an index lies in. -/
theorem rows5 : ∀ t : Fin grid0.N, win0_5.index t 0 * win0_5.size 0 = 256 * t.val ∧ win0_5.xsize (grid0.coords t) 0 = 256
    ∧ win0_5.index t 1 * win0_5.size 1 = 0 ∧ win0_5.xsize (grid0.coords t) 1 = 1024 := by decide +kernel
theorem mem5 (t : Fin cfg0.N) (i : S2048x1024.Idx) (h0 : (i 0).val / 256 = t.val) : i ∈ ((cfg0.win 5).blk t).view.set := by
  show i ∈ ((View.whole main_v0_0).slice (win0_5.rect t)).set
  rw [View.set_slice_whole, Rect.mem_set_unit]
  obtain ⟨a0, b0, a1, b1⟩ := rows5 t
  have h1 : (i 1 : Nat) < 1024 := (i 1).isLt
  intro a
  match a with
  | ⟨0, _⟩ =>
    show win0_5.index t 0 * win0_5.size 0 ≤ (i 0 : Nat) ∧ (i 0 : Nat) < win0_5.index t 0 * win0_5.size 0 + win0_5.xsize (grid0.coords t) 0
    rw [a0, b0]; omega
  | ⟨1, _⟩ =>
    show win0_5.index t 1 * win0_5.size 1 ≤ (i 1 : Nat) ∧ (i 1 : Nat) < win0_5.index t 1 * win0_5.size 1 + win0_5.xsize (grid0.coords t) 1
    rw [a1, b1]; omega
theorem rows6 : ∀ t : Fin grid0.N, win0_6.index t 0 * win0_6.size 0 = 256 * t.val ∧ win0_6.xsize (grid0.coords t) 0 = 256
    ∧ win0_6.index t 1 * win0_6.size 1 = 0 ∧ win0_6.xsize (grid0.coords t) 1 = 2816 := by decide +kernel
theorem mem6 (t : Fin cfg0.N) (i : S2048x2816.Idx) (h0 : (i 0).val / 256 = t.val) : i ∈ ((cfg0.win 6).blk t).view.set := by
  show i ∈ ((View.whole main_v0_1).slice (win0_6.rect t)).set
  rw [View.set_slice_whole, Rect.mem_set_unit]
  obtain ⟨a0, b0, a1, b1⟩ := rows6 t
  have h1 : (i 1 : Nat) < 2816 := (i 1).isLt
  intro a
  match a with
  | ⟨0, _⟩ =>
    show win0_6.index t 0 * win0_6.size 0 ≤ (i 0 : Nat) ∧ (i 0 : Nat) < win0_6.index t 0 * win0_6.size 0 + win0_6.xsize (grid0.coords t) 0
    rw [a0, b0]; omega
  | ⟨1, _⟩ =>
    show win0_6.index t 1 * win0_6.size 1 ≤ (i 1 : Nat) ∧ (i 1 : Nat) < win0_6.index t 1 * win0_6.size 1 + win0_6.xsize (grid0.coords t) 1
    rw [a1, b1]; omega
/-- The two projections' windows lie alike. -/
theorem mem7 (t : Fin cfg0.N) (i : S2048x2816.Idx) (h0 : (i 0).val / 256 = t.val) : i ∈ ((cfg0.win 7).blk t).view.set := mem6 t i h0

section
variable (m : (ℓ : Loc nD τ sig) → Buf (Elt Ideal) ℓ) (c : Dev nD)
/-- The blocks tile the arrays. -/
theorem final5 : (dats m 0 c).arrAt 5 cfg0.N = resOut (aX m c) (aN m c) (aG m c) (aU m c) (aD m c) :=
  (dats m 0 c).arrAt_eq_of_cover 5 _ (fun t _ => flushed5 m c t) fun i => by
    have h0 : (i 0 : Nat) < 2048 := (i 0).isLt
    have ht : (i 0).val / 256 < cfg0.N := by show _ < 8; omega
    exact ⟨⟨_, ht⟩, flush0_5 _, mem5 _ i rfl⟩
theorem final6 : (dats m 0 c).arrAt 6 cfg0.N = resProj (aX m c) (aN m c) (aG m c) :=
  (dats m 0 c).arrAt_eq_of_cover 6 _ (fun t _ => flushed6 m c t) fun i => by
    have h0 : (i 0 : Nat) < 2048 := (i 0).isLt
    have ht : (i 0).val / 256 < cfg0.N := by show _ < 8; omega
    exact ⟨⟨_, ht⟩, flush0_6 _, mem6 _ i rfl⟩
theorem final7 : (dats m 0 c).arrAt 7 cfg0.N = resProj (aX m c) (aN m c) (aU m c) :=
  (dats m 0 c).arrAt_eq_of_cover 7 _ (fun t _ => flushed7 m c t) fun i => by
    have h0 : (i 0 : Nat) < 2048 := (i 0).isLt
    have ht : (i 0).val / 256 < cfg0.N := by show _ < 8; omega
    exact ⟨⟨_, ht⟩, flush0_7 _, mem7 _ i rfl⟩
end

end Cert.ForwardIdeal.M
-- ==== Proof.ForwardRef.lean ====
module

public import proofs.«01_k».proof.Proof.ForwardArrays
public import proofs.«01_k».proof.Proof.Gen.ForwardReferenceIdeal.Run

@[expose] public section

/-! The reference of the channel mixer's forward pass gives the same arrays. -/
set_option maxRecDepth 16384

noncomputable section
namespace Cert.ForwardReferenceIdeal.W
open Idealize.ShloMosaic Cert.ForwardReferenceIdeal Cert.ForwardReferenceIdeal.Gen
open Cert.ForwardIdeal.M

section
variable {m n : ℕ} (A B : Fin m → Fin n → EReal)
theorem ar_hdiv : Host.divf (ar .f32 A) (ar .f32 B) = ar .f32 fun r c => Ideal.div (A r c) (B r c) := rfl
theorem ar_hrsqrt : Host.rsqrt (ar .f32 A) = ar .f32 fun r c => Ideal.rsqrt (A r c) := rfl
theorem ar_hexp : Host.exp (ar .f32 A) = ar .f32 fun r c => Ideal.exp (A r c) := rfl
theorem ar_hneg : Host.negf (ar .f32 A) = ar .f32 fun r c => -A r c := rfl
end

/-- The reference's other operations, on arrays of extended reals. -/
theorem r_len : broadcastInDim (α := Elt Ideal .f32) S2048x1 ![] bcast_S_S2048x1 (constant S_ .f32 0x44800000#32 : FVec Ideal S_ .f32) = ar .f32 fun _ _ => len := rfl
theorem r_tiny : broadcastInDim (α := Elt Ideal .f32) S2048x1 ![] bcast_S_S2048x1 (constant S_ .f32 0x358637BD#32 : FVec Ideal S_ .f32) = ar .f32 fun _ _ => tiny := rfl
theorem r_unit : broadcastInDim (α := Elt Ideal .f32) S2048x2816 ![] bcast_S_S2048x2816 (constant S_ .f32 0x3F800000#32 : FVec Ideal S_ .f32) = ar .f32 fun _ _ => unit := rfl
theorem r_sums (A : Fin 2048 → Fin 1024 → EReal) : broadcastInDim (α := Elt Ideal .f32) S2048x1 ![0] bcast_S2048_S2048x1_0
    (Host.reduceAdd (ar .f32 A : FVec Ideal S2048x1024 .f32) (constant S_ .f32 0x00000000#32) reducesTo_S2048x1024_S2048_d1 h_S_)
    = ar .f32 fun r _ => ∑ k, A r k := by
  funext j; idx_vars j; pointwise; simp only [ar_at]
theorem r_col (A : Fin 2048 → Fin 1 → EReal) : broadcastInDim (α := Elt Ideal .f32) S2048x1024 ![0, 1] bcast_S2048x1_S2048x1024_0_1 (ar .f32 A : FVec Ideal S2048x1 .f32)
    = ar .f32 fun r _ => A r 0 := by
  funext j; idx_vars j; pointwise; simp only [ar_at]
theorem r_row (A : Fin 1 → Fin 1024 → EReal) : broadcastInDim (α := Elt Ideal .f32) S2048x1024 ![0, 1] bcast_S1x1024_S2048x1024_0_1 (ar .f32 A : FVec Ideal S1x1024 .f32)
    = ar .f32 fun _ l => A 0 l := by
  funext j; idx_vars j; pointwise; simp only [ar_at]
theorem r_proj (A : Fin 2048 → Fin 1024 → EReal) (W : Fin 2816 → Fin 1024 → EReal) :
    Host.dotGeneral dot_S2048x1024_S1024x2816_S2048x2816_1_0_0_1_n_n none (ar .f32 A : FVec Ideal S2048x1024 .f32)
    (transpose S1024x2816 [1, 0] (ar .f32 W : FVec Ideal S2816x1024 .f32) transposes_S2816x1024_S1024x2816_1_0) = ar .f32 fun r f => proj (A r) W f := by
  funext j; idx_vars j; pointwise; simp only [ar_at]; rfl
theorem r_down (A : Fin 2048 → Fin 2816 → EReal) (W : Fin 2816 → Fin 1024 → EReal) :
    Host.dotGeneral dot_S2048x2816_S2816x1024_S2048x1024_1_0_0_1_n_n none (ar .f32 A : FVec Ideal S2048x2816 .f32)
    (ar .f32 W : FVec Ideal S2816x1024 .f32) = ar .f32 fun r l => ∑ f, A r f * W f l := by
  funext j; idx_vars j; pointwise; simp only [ar_at]

section
variable (x : FVec Ideal S2048x1024 .f32) (n : FVec Ideal S1x1024 .f32)
theorem ref_proj (w : FVec Ideal S2816x1024 .bf16) : (truncf .bf16 (Host.dotGeneral dot_S2048x1024_S1024x2816_S2048x2816_1_0_0_1_n_n none (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 n)) (transpose S1024x2816 [1, 0] (extf .f32 w bitsLt_bf16_f32) transposes_S2816x1024_S1024x2816_1_0)) bitsLt_bf16_f32 : FVec Ideal S2048x2816 .bf16) = resProj x n w := by
  obtain ⟨X, rfl⟩ : ∃ X, x = ar .f32 X := ⟨_, ar_rows x⟩
  obtain ⟨N, rfl⟩ : ∃ N, n = ar .f32 N := ⟨_, ar_rows n⟩
  obtain ⟨W, rfl⟩ : ∃ W, w = ar .bf16 W := ⟨_, ar_rows w⟩
  simp only [ar_extf, ar_mulf]
  rw [r_len, r_tiny, r_sums, ar_hdiv, ar_addf, ar_hrsqrt, r_col, r_row]
  simp only [ar_mulf]
  rw [r_proj, ar_truncf]
  rfl
theorem ref_out (wg wu wd : FVec Ideal S2816x1024 .bf16) : (addf x (Host.dotGeneral dot_S2048x2816_S2816x1024_S2048x1024_1_0_0_1_n_n none (mulf (mulf (Host.dotGeneral dot_S2048x1024_S1024x2816_S2048x2816_1_0_0_1_n_n none (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 n)) (transpose S1024x2816 [1, 0] (extf .f32 wg bitsLt_bf16_f32) transposes_S2816x1024_S1024x2816_1_0)) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (Host.dotGeneral dot_S2048x1024_S1024x2816_S2048x2816_1_0_0_1_n_n none (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 n)) (transpose S1024x2816 [1, 0] (extf .f32 wg bitsLt_bf16_f32) transposes_S2816x1024_S1024x2816_1_0))))))) (Host.dotGeneral dot_S2048x1024_S1024x2816_S2048x2816_1_0_0_1_n_n none (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 n)) (transpose S1024x2816 [1, 0] (extf .f32 wu bitsLt_bf16_f32) transposes_S2816x1024_S1024x2816_1_0))) (extf .f32 wd bitsLt_bf16_f32)) : FVec Ideal S2048x1024 .f32) = resOut x n wg wu wd := by
  obtain ⟨X, rfl⟩ : ∃ X, x = ar .f32 X := ⟨_, ar_rows x⟩
  obtain ⟨N, rfl⟩ : ∃ N, n = ar .f32 N := ⟨_, ar_rows n⟩
  obtain ⟨Wg, rfl⟩ : ∃ W, wg = ar .bf16 W := ⟨_, ar_rows wg⟩
  obtain ⟨Wu, rfl⟩ : ∃ W, wu = ar .bf16 W := ⟨_, ar_rows wu⟩
  obtain ⟨Wd, rfl⟩ : ∃ W, wd = ar .bf16 W := ⟨_, ar_rows wd⟩
  simp only [ar_extf, ar_mulf]
  rw [r_len, r_tiny, r_sums, ar_hdiv, ar_addf, ar_hrsqrt, r_col, r_row, r_unit]
  simp only [ar_mulf]
  rw [r_proj _ Wg, r_proj _ Wu]
  simp only [ar_hneg, ar_hexp, ar_addf, ar_hdiv, ar_mulf]
  rw [r_down, ar_addf]
  rfl
end

end Cert.ForwardReferenceIdeal.W
-- ==== Proof.Forward.lean ====
module

public import proofs.«01_k».proof.Defs
public import proofs.«01_k».proof.Proof.ForwardArrays
public import proofs.«01_k».proof.Proof.ForwardRef
public import proofs.«01_k».proof.Proof.Gen.Forward.Frame

@[expose] public section

/-! The forward pass of the channel mixer: its output, and the rows of the gate and of the up projection. -/
set_option maxRecDepth 16384

noncomputable section
namespace Cert.Proof
open Idealize.ShloMosaic Idealize.SL.Sem
open Cert.ForwardIdeal.M Cert.ForwardReferenceIdeal.W

theorem frame_Forward : Cert.quiescent_Forward (hForward := Cert.Forward.Gen.facts) := fun m ρ _ => Cert.Forward.Gen.frame m ρ
theorem frame_ForwardIdeal : Cert.quiescent_ForwardIdeal (hForwardIdeal := Cert.ForwardIdeal.Gen.facts) := fun m ρ _ => Cert.ForwardIdeal.Gen.frame m ρ
theorem frame_ForwardReference : Cert.quiescent_ForwardReferenceIdeal (hForwardReferenceIdeal := Cert.ForwardReferenceIdeal.Gen.facts) :=
  fun m ρ _ => (θ_run Cert.ForwardReferenceIdeal.defs _ _).mono
    (fun r h => ⟨fun c => (h c).2.2.2, sem_eq_zero_of_no_sems (by decide) r.2⟩) (Cert.ForwardReferenceIdeal.Value.run m ρ)

/-- Over the extended reals the kernel's three arrays are the reference's. -/
theorem equal_Forward : @Cert.algebraic_ForwardIdeal_ForwardReferenceIdeal Cert.ForwardIdeal.Gen.facts Cert.ForwardReferenceIdeal.Gen.facts := by
  intro m g m' g' _ hargs
  refine ⟨fun c => resOut (aX m c) (aN m c) (aG m c) (aU m c) (aD m c), fun c => resProj (aX m c) (aN m c) (aG m c),
    fun c => resProj (aX m c) (aN m c) (aU m c),
    (θ_run Cert.ForwardIdeal.defs _ _).mono (fun r h c => ?_) (Cert.ForwardIdeal.Value.run_blocks m g),
    (θ_run Cert.ForwardReferenceIdeal.defs _ _).mono (fun r h c => ?_) (Cert.ForwardReferenceIdeal.Value.run m' g')⟩
  · obtain ⟨h0, h1, h2, hk⟩ := h c
    exact ⟨h0.trans (final5 m c), h1.trans (final6 m c), h2.trans (final7 m c), hk⟩
  · obtain ⟨h0, h1, h2, hk⟩ := h c
    obtain ⟨e0, e1, e2, e3, e4⟩ := hargs c
    refine ⟨h0.trans ((ref_out _ _ _ _ _).trans ?_), h1.trans ((ref_proj _ _ _).trans ?_), h2.trans ((ref_proj _ _ _).trans ?_), hk⟩
    · rw [e0, e1, e2, e3, e4]
    · rw [e0, e1, e2]
    · rw [e0, e1, e3]
end Cert.Proof
-- ==== Proof.lean ====
/- The claim, put together. For each of the five programs, the backward pass of the attention, the channel mixer's backward pass,
   its weights' gradients (two) and its forward pass: the frames of the kernel and of the reference, that the kernel read over the
   reals is the kernel's own text, and that its arrays are the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerIdeal.Value
public import proofs.«01_k».proof.Proof.Gen.MixerReferenceIdeal.Run
public import proofs.«01_k».proof.Proof.Gen.Gates
public import proofs.«01_k».proof.Proof.Gen.Gates.Frame
public import proofs.«01_k».proof.Proof.Gen.GatesIdeal.Frame
public import proofs.«01_k».proof.Proof.Gen.GatesIdeal.Value
public import proofs.«01_k».proof.Proof.Gen.GatesReferenceIdeal.Run
public import proofs.«01_k».proof.Proof.Gen.Down
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Run
public import proofs.«01_k».proof.Proof.Gen.Forward
public import proofs.«01_k».proof.Proof.Gen.Forward.Frame
public import proofs.«01_k».proof.Proof.Gen.ForwardIdeal
public import proofs.«01_k».proof.Proof.Gen.ForwardIdeal.Frame
public import proofs.«01_k».proof.Proof.Gen.ForwardIdeal.Value
public import proofs.«01_k».proof.Proof.Gen.ForwardReferenceIdeal.Run
public import proofs.«01_k».proof.Proof.Frames
public import proofs.«01_k».proof.Proof.Equal
public import proofs.«01_k».proof.Proof.Mixer
public import proofs.«01_k».proof.Proof.Gates
public import proofs.«01_k».proof.Proof.Down
public import proofs.«01_k».proof.Proof.Forward
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Mixer.Gen.facts, Cert.MixerIdeal.Gen.facts, Cert.MixerReferenceIdeal.Gen.facts,
    Cert.Gates.Gen.facts, Cert.GatesIdeal.Gen.facts, Cert.GatesReferenceIdeal.Gen.facts,
    Cert.Down.Gen.facts, Cert.DownIdeal.Gen.facts, Cert.DownReferenceIdeal.Gen.facts,
    Cert.Forward.Gen.facts, Cert.ForwardIdeal.Gen.facts, Cert.ForwardReferenceIdeal.Gen.facts,
    Cert.Pre_finite.facts, Cert.Pre_reals.facts,
    frame_kernel, frame_kernelIdeal, fun m g _ => frame_kernelIdeal m g trivial, frame_reference, fun m g _ => frame_reference m g trivial,
    frame_Mixer, frame_MixerIdeal, fun m g _ => frame_MixerIdeal m g trivial, frame_MixerReference, fun m g _ => frame_MixerReference m g trivial,
    frame_Gates, frame_GatesIdeal, frame_GatesReference,
    frame_Down, frame_DownIdeal, frame_DownReference,
    frame_Forward, frame_ForwardIdeal, frame_ForwardReference,
    trivial, equal, trivial, equal_Mixer, trivial, equal_Gates, trivial, equal_Down, trivial, equal_Forward⟩

end Cert.Proof

end
